-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v46_0)) (v1 : (c : Dev Cert.Kernel5Ideal.nD) → Buf (Elt Ideal) ((c.tc : Thread Cert.Kernel5Ideal.nD Cert.Kernel5Ideal.τ).loc Cert.Kernel5Ideal.main_v46_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v46_0) = v0 c
          ∧ r.2.mem ((c.tc : Thread Cert.Kernel5Ideal.nD Cert.Kernel5Ideal.τ).loc Cert.Kernel5Ideal.main_v46_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v148) = v0 c
          ∧ r.2.mem ((c.tc : Thread Cert.Reference5Ideal.nD Cert.Reference5Ideal.τ).loc Cert.Reference5Ideal.main_v149) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v51)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4096x3072 : Shape := ⟨3, ![8, 4096, 3072]⟩
abbrev S8x4096x2048 : Shape := ⟨3, ![8, 4096, 2048]⟩
abbrev S_ : Shape := ⟨0, ![]⟩

class Facts : Prop where
  slices_S8x4096x3072_S8x4096x2048_0_0_0 : S8x4096x3072.Slices ![0, 0, 0] S8x4096x2048
  bitsLt_bf16_f32 : FTy.bits .bf16 < FTy.bits .f32
  bcast_S_S8x4096x2048 : S_.BroadcastsInDim S8x4096x2048 (![] : Fin 0 → Fin S8x4096x2048.rank)

variable [Facts]

def fn {F : FTy → Type} [FloatOps F] (main_arg0 : FVec F S8x4096x3072 .bf16) : IVec S8x4096x2048 1 :=
  let main_v0 : FVec F S8x4096x2048 .bf16 := (extractStridedSlice S8x4096x2048 ![0, 0, 0] · slices_S8x4096x3072_S8x4096x2048_0_0_0) main_arg0
  let main_v1 : FVec F S8x4096x2048 .f32 := (extf .f32 · bitsLt_bf16_f32) main_v0
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  main_v4
-- ==== Kernel.lean ====
abbrev S8x4096x3072 : Shape := ⟨3, ![8, 4096, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x4096x1024 : Shape := ⟨3, ![8, 4096, 1024]⟩
abbrev S1x256x128 : Shape := ⟨3, ![1, 256, 128]⟩
abbrev S1x4096x128 : Shape := ⟨3, ![1, 4096, 128]⟩
abbrev S1x128 : Shape := ⟨2, ![1, 128]⟩
abbrev S256x128 : Shape := ⟨2, ![256, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x4096x3072, .bf16⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S8x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x256, .bf16⟩
  | .local _ .vmem, ⟨7, _⟩ => ⟨S1x256x128, .bf16⟩
  | .local _ .vmem, ⟨8, _⟩ => ⟨S1x256x128, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 16], ![false, false, false]⟩

def k0_mult1 (i : grid0.Coords) : BitVec 32 :=
  let arg2 : BitVec 32 := BitVec.ofNat 32 (i 2).val
  let c256_i32 : BitVec 32 := 256#32
  let v20 : BitVec 32 := Scalar.muli arg2 c256_i32
  v20
def k0_off1 (i : grid0.Coords) : Fin 3 → Nat :=
  let c0_7 : Index := 0#32
  let arg2 : BitVec 32 := BitVec.ofNat 32 (i 2).val
  let c256_i32 : BitVec 32 := 256#32
  let v20 : BitVec 32 := Scalar.muli arg2 c256_i32
  let v21 : BitVec 32 := v20
  let v22 : Index := Scalar.indexCast v21
  let c0_8 : Index := 0#32
  ![0, v22.toNat, 0]
@[reducible] def k0_t1_loop (i : grid0.Coords) : Scf.Loop 32 :=
  let c0_i32 : BitVec 32 := 0#32
  let arg2 : BitVec 32 := BitVec.ofNat 32 (i 2).val
  let v60 : BitVec 32 := Scalar.subi arg2 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_20 : BitVec 32 := 1#32
  ⟨c0_i32, v64, c1_i32_20⟩
def k0_mult2 (i : grid0.Coords) (k0_t1 : Fin (k0_t1_loop i).trips) : BitVec 32 :=
  let arg2 : BitVec 32 := BitVec.ofNat 32 (i 2).val
  let c1_i32_45 : BitVec 32 := 1#32
  let v124 : BitVec 32 := Scalar.subi arg2 c1_i32_45
  let c0_i32 : BitVec 32 := 0#32
  let c1_i32_20 : BitVec 32 := 1#32
  let arg8 : BitVec 32 := Scf.iv c0_i32 c1_i32_20 k0_t1
  let v125 : BitVec 32 := Scalar.subi v124 arg8
  let c256_i32_46 : BitVec 32 := 256#32
  let v126 : BitVec 32 := Scalar.muli v125 c256_i32_46
  v126
def k0_off2 (i : grid0.Coords) (k0_t1 : Fin (k0_t1_loop i).trips) : Fin 3 → Nat :=
  let c0_47 : Index := 0#32
  let arg2 : BitVec 32 := BitVec.ofNat 32 (i 2).val
  let c1_i32_45 : BitVec 32 := 1#32
  let v124 : BitVec 32 := Scalar.subi arg2 c1_i32_45
  let c0_i32 : BitVec 32 := 0#32
  let c1_i32_20 : BitVec 32 := 1#32
  let arg8 : BitVec 32 := Scf.iv c0_i32 c1_i32_20 k0_t1
  let v125 : BitVec 32 := Scalar.subi v124 arg8
  let c256_i32_46 : BitVec 32 := 256#32
  let v126 : BitVec 32 := Scalar.muli v125 c256_i32_46
  let v127 : BitVec 32 := v126
  let v128 : Index := Scalar.indexCast v127
  let c0_48 : Index := 0#32
  ![0, v128.toNat, 0]
@[reducible] def k0_t2_loop (i : grid0.Coords) : Scf.Loop 32 :=
  let c0_i32 : BitVec 32 := 0#32
  let arg2 : BitVec 32 := BitVec.ofNat 32 (i 2).val
  let v60 : BitVec 32 := Scalar.subi arg2 c0_i32
  let c1_i32 : BitVec 32 := 1#32
  let v62 : BitVec 32 := Scalar.divsi v60 c1_i32
  let v63 : BitVec 32 := Scalar.muli v62 c1_i32
  let v64 : BitVec 32 := Scalar.addi c0_i32 v63
  let v61 : BitVec 32 := Scalar.addi c0_i32 v60
  let c1_i32_21 : BitVec 32 := 1#32
  ⟨v64, v61, c1_i32_21⟩
def k0_mult3 (i : grid0.Coords) (k0_t2 : Fin (k0_t2_loop i).trips) : BitVec 32 :=
  let arg2 : BitVec 32 := BitVec.ofNat 32 (i 2).val
  let c1_i32_45 : BitVec 32 := 1#32
  let v124 : BitVec 32 := Scalar.subi arg2 c1_i32_45
  let c0_i32 : BitVec 32 := 0#32
  let v60 : BitVec 32 := Scalar.subi arg2 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_21 : BitVec 32 := 1#32
  let arg8 : BitVec 32 := Scf.iv v64 c1_i32_21 k0_t2
  let v125 : BitVec 32 := Scalar.subi v124 arg8
  let c256_i32_46 : BitVec 32 := 256#32
  let v126 : BitVec 32 := Scalar.muli v125 c256_i32_46
  v126
def k0_off3 (i : grid0.Coords) (k0_t2 : Fin (k0_t2_loop i).trips) : Fin 3 → Nat :=
  let c0_47 : Index := 0#32
  let arg2 : BitVec 32 := BitVec.ofNat 32 (i 2).val
  let c1_i32_45 : BitVec 32 := 1#32
  let v124 : BitVec 32 := Scalar.subi arg2 c1_i32_45
  let c0_i32 : BitVec 32 := 0#32
  let v60 : BitVec 32 := Scalar.subi arg2 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_21 : BitVec 32 := 1#32
  let arg8 : BitVec 32 := Scf.iv v64 c1_i32_21 k0_t2
  let v125 : BitVec 32 := Scalar.subi v124 arg8
  let c256_i32_46 : BitVec 32 := 256#32
  let v126 : BitVec 32 := Scalar.muli v125 c256_i32_46
  let v127 : BitVec 32 := v126
  let v128 : Index := Scalar.indexCast v127
  let c0_48 : Index := 0#32
  ![0, v128.toNat, 0]
def k0_mult4 (i : grid0.Coords) : BitVec 32 :=
  let arg2 : BitVec 32 := BitVec.ofNat 32 (i 2).val
  let c256_i32_24 : BitVec 32 := 256#32
  let v72 : BitVec 32 := Scalar.muli arg2 c256_i32_24
  v72
@[reducible] def k0_t3_loop (i : grid0.Coords) : Scf.Loop 32 :=
  let c0_i32_38 : BitVec 32 := 0#32
  let arg2 : BitVec 32 := BitVec.ofNat 32 (i 2).val
  let v112 : BitVec 32 := Scalar.subi arg2 c0_i32_38
  let c1_i32_39 : BitVec 32 := 1#32
  let v114 : BitVec 32 := Scalar.divsi v112 c1_i32_39
  let v115 : BitVec 32 := Scalar.muli v114 c1_i32_39
  let v116 : BitVec 32 := Scalar.addi c0_i32_38 v115
  let c1_i32_40 : BitVec 32 := 1#32
  ⟨c0_i32_38, v116, c1_i32_40⟩
def k0_mult5 (i : grid0.Coords) (k0_t3 : Fin (k0_t3_loop i).trips) : BitVec 32 :=
  let arg2 : BitVec 32 := BitVec.ofNat 32 (i 2).val
  let c1_i32_45 : BitVec 32 := 1#32
  let v124 : BitVec 32 := Scalar.subi arg2 c1_i32_45
  let c0_i32_38 : BitVec 32 := 0#32
  let c1_i32_40 : BitVec 32 := 1#32
  let arg8 : BitVec 32 := Scf.iv c0_i32_38 c1_i32_40 k0_t3
  let v125 : BitVec 32 := Scalar.subi v124 arg8
  let c256_i32_46 : BitVec 32 := 256#32
  let v126 : BitVec 32 := Scalar.muli v125 c256_i32_46
  v126
def k0_off4 (i : grid0.Coords) (k0_t3 : Fin (k0_t3_loop i).trips) : Fin 3 → Nat :=
  let c0_47 : Index := 0#32
  let arg2 : BitVec 32 := BitVec.ofNat 32 (i 2).val
  let c1_i32_45 : BitVec 32 := 1#32
  let v124 : BitVec 32 := Scalar.subi arg2 c1_i32_45
  let c0_i32_38 : BitVec 32 := 0#32
  let c1_i32_40 : BitVec 32 := 1#32
  let arg8 : BitVec 32 := Scf.iv c0_i32_38 c1_i32_40 k0_t3
  let v125 : BitVec 32 := Scalar.subi v124 arg8
  let c256_i32_46 : BitVec 32 := 256#32
  let v126 : BitVec 32 := Scalar.muli v125 c256_i32_46
  let v127 : BitVec 32 := v126
  let v128 : Index := Scalar.indexCast v127
  let c0_48 : Index := 0#32
  ![0, v128.toNat, 0]
@[reducible] def k0_t4_loop (i : grid0.Coords) : Scf.Loop 32 :=
  let c0_i32_38 : BitVec 32 := 0#32
  let arg2 : BitVec 32 := BitVec.ofNat 32 (i 2).val
  let v112 : BitVec 32 := Scalar.subi arg2 c0_i32_38
  let c1_i32_39 : BitVec 32 := 1#32
  let v114 : BitVec 32 := Scalar.divsi v112 c1_i32_39
  let v115 : BitVec 32 := Scalar.muli v114 c1_i32_39
  let v116 : BitVec 32 := Scalar.addi c0_i32_38 v115
  let v113 : BitVec 32 := Scalar.addi c0_i32_38 v112
  let c1_i32_41 : BitVec 32 := 1#32
  ⟨v116, v113, c1_i32_41⟩
def k0_mult6 (i : grid0.Coords) (k0_t4 : Fin (k0_t4_loop i).trips) : BitVec 32 :=
  let arg2 : BitVec 32 := BitVec.ofNat 32 (i 2).val
  let c1_i32_45 : BitVec 32 := 1#32
  let v124 : BitVec 32 := Scalar.subi arg2 c1_i32_45
  let c0_i32_38 : BitVec 32 := 0#32
  let v112 : BitVec 32 := Scalar.subi arg2 c0_i32_38
  let c1_i32_39 : BitVec 32 := 1#32
  let v114 : BitVec 32 := Scalar.divsi v112 c1_i32_39
  let v115 : BitVec 32 := Scalar.muli v114 c1_i32_39
  let v116 : BitVec 32 := Scalar.addi c0_i32_38 v115
  let c1_i32_41 : BitVec 32 := 1#32
  let arg8 : BitVec 32 := Scf.iv v116 c1_i32_41 k0_t4
  let v125 : BitVec 32 := Scalar.subi v124 arg8
  let c256_i32_46 : BitVec 32 := 256#32
  let v126 : BitVec 32 := Scalar.muli v125 c256_i32_46
  v126
def k0_off5 (i : grid0.Coords) (k0_t4 : Fin (k0_t4_loop i).trips) : Fin 3 → Nat :=
  let c0_47 : Index := 0#32
  let arg2 : BitVec 32 := BitVec.ofNat 32 (i 2).val
  let c1_i32_45 : BitVec 32 := 1#32
  let v124 : BitVec 32 := Scalar.subi arg2 c1_i32_45
  let c0_i32_38 : BitVec 32 := 0#32
  let v112 : BitVec 32 := Scalar.subi arg2 c0_i32_38
  let c1_i32_39 : BitVec 32 := 1#32
  let v114 : BitVec 32 := Scalar.divsi v112 c1_i32_39
  let v115 : BitVec 32 := Scalar.muli v114 c1_i32_39
  let v116 : BitVec 32 := Scalar.addi c0_i32_38 v115
  let c1_i32_41 : BitVec 32 := 1#32
  let arg8 : BitVec 32 := Scf.iv v116 c1_i32_41 k0_t4
  let v125 : BitVec 32 := Scalar.subi v124 arg8
  let c256_i32_46 : BitVec 32 := 256#32
  let v126 : BitVec 32 := Scalar.muli v125 c256_i32_46
  let v127 : BitVec 32 := v126
  let v128 : Index := Scalar.indexCast v127
  let c0_48 : Index := 0#32
  ![0, v128.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4096x3072 : Shape := ⟨3, ![8, 4096, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S4096 : Shape := ⟨1, ![4096]⟩
abbrev S8x16x4096x4096 : Shape := ⟨4, ![8, 16, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S_ : Shape := ⟨0, ![]⟩
abbrev S8x16x4096x4095 : Shape := ⟨4, ![8, 16, 4096, 4095]⟩
abbrev S8x16x4096x1 : Shape := ⟨4, ![8, 16, 4096, 1]⟩
abbrev S8x16x64x4096 : Shape := ⟨4, ![8, 16, 64, 4096]⟩
abbrev S8x4096x1024 : Shape := ⟨3, ![8, 4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x3072, .f32⟩
  | .hbm, ⟨2, _⟩ => ⟨S8x4096x3x16x64, .f32⟩
  | .hbm, ⟨3, _⟩ => ⟨S8x4096x1x16x64, .f32⟩
  | .hbm, ⟨4, _⟩ => ⟨S8x4096x1x16x64, .f32⟩
  | .hbm, ⟨5, _⟩ => ⟨S8x4096x1x16x64, .f32⟩
  | .hbm, ⟨6, _⟩ => ⟨S8x4096x16x64, .f32⟩
  | .hbm, ⟨7, _⟩ => ⟨S8x4096x16x64, .f32⟩
  | .hbm, ⟨8, _⟩ => ⟨S8x4096x16x64, .f32⟩
  | .hbm, ⟨9, _⟩ => ⟨S4096, .i32⟩
  | .hbm, ⟨10, _⟩ => ⟨S8x16x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x1x4096x4096, .i1⟩
  | .hbm, ⟨17, _⟩ => ⟨S8x16x4096x4096, .f32⟩
  | .hbm, ⟨18, _⟩ => ⟨S_, .f32⟩
  | .hbm, ⟨19, _⟩ => ⟨S8x16x4096x4096, .f32⟩
  | .hbm, ⟨20, _⟩ => ⟨S8x16x4096x4096, .f32⟩
  | .hbm, ⟨21, _⟩ => ⟨S8x16x4096x4096, .f32⟩
  | .hbm, ⟨22, _⟩ => ⟨S8x16x4096x4096, .f32⟩
  | .hbm, ⟨23, _⟩ => ⟨S8x16x4096x4096, .i1⟩
  | .hbm, ⟨24, _⟩ => ⟨S8x16x4096x4096, .f32⟩
  | .hbm, ⟨25, _⟩ => ⟨S8x16x4096x4096, .f32⟩
  | .hbm, ⟨26, _⟩ => ⟨S8x16x4096x4096, .f32⟩
  | .hbm, ⟨27, _⟩ => ⟨S8x16x4096x4096, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .f32⟩
  | .hbm, ⟨31, _⟩ => ⟨S8x16x4096x4096, .f32⟩
  | .hbm, ⟨32, _⟩ => ⟨S8x16x4096x4096, .f32⟩
  | .hbm, ⟨33, _⟩ => ⟨S8x16x4096x4096, .f32⟩
  | .hbm, ⟨34, _⟩ => ⟨S8x16x4096x4096, .f32⟩
  | .hbm, ⟨35, _⟩ => ⟨S_, .f32⟩
  | .hbm, ⟨36, _⟩ => ⟨S8x16x4096x4096, .f32⟩
  | .hbm, ⟨37, _⟩ => ⟨S8x16x4096x4096, .f32⟩
  | .hbm, ⟨38, _⟩ => ⟨S8x16x4096x4096, .f32⟩
  | .hbm, ⟨39, _⟩ => ⟨S8x16x4096x4096, .f32⟩
  | .hbm, ⟨40, _⟩ => ⟨S8x16x4096x4096, .i1⟩
  | .hbm, ⟨41, _⟩ => ⟨S8x16x4096x4096, .f32⟩
  | .hbm, ⟨42, _⟩ => ⟨S8x16x4096x4096, .f32⟩
  | .hbm, ⟨43, _⟩ => ⟨S8x16x4096x4096, .f32⟩
  | .hbm, ⟨44, _⟩ => ⟨S8x16x4096x4096, .f32⟩
  | .hbm, ⟨45, _⟩ => ⟨S8x16x4096x4096, .f32⟩
  | .hbm, ⟨46, _⟩ => ⟨S8x16x4096x4096, .f32⟩
  | .hbm, ⟨47, _⟩ => ⟨S8x16x4096x4096, .f32⟩
  | .hbm, ⟨48, _⟩ => ⟨S8x16x4096x4096, .f32⟩
  | .hbm, ⟨49, _⟩ => ⟨S8x16x4096x4096, .f32⟩
  | .hbm, ⟨50, _⟩ => ⟨S_, .f32⟩
  | .hbm, ⟨51, _⟩ => ⟨S_, .f32⟩
  | .hbm, ⟨52, _⟩ => ⟨S8x16x4096x4096, .i1⟩
  | .hbm, ⟨53, _⟩ => ⟨S8x16x4096x4096, .f32⟩
  | .hbm, ⟨54, _⟩ => ⟨S8x16x4096x4096, .f32⟩
  | .hbm, ⟨55, _⟩ => ⟨S_, .f32⟩
  | .hbm, ⟨56, _⟩ => ⟨S_, .f32⟩
  | .hbm, ⟨57, _⟩ => ⟨S8x16x4096x4096, .f32⟩
  | .hbm, ⟨58, _⟩ => ⟨S8x16x4096x4095, .f32⟩
  | .hbm, ⟨59, _⟩ => ⟨S8x16x4096x1, .f32⟩
  | .hbm, ⟨60, _⟩ => ⟨S_, .f32⟩
  | .hbm, ⟨61, _⟩ => ⟨S8x16x4096x1, .f32⟩
  | .hbm, ⟨62, _⟩ => ⟨S8x16x4096x4096, .f32⟩
  | .hbm, ⟨63, _⟩ => ⟨S8x16x4096x4096, .f32⟩
  | .hbm, ⟨64, _⟩ => ⟨S8x16x4096x4096, .f32⟩
  | .hbm, ⟨65, _⟩ => ⟨S_, .f32⟩
  | .hbm, ⟨66, _⟩ => ⟨S_, .f32⟩
  | .hbm, ⟨67, _⟩ => ⟨S8x16x4096x4096, .i1⟩
  | .hbm, ⟨68, _⟩ => ⟨S8x16x4096x4096, .f32⟩
  | .hbm, ⟨69, _⟩ => ⟨S8x16x4096x4096, .f32⟩
  | .hbm, ⟨70, _⟩ => ⟨S8x16x64x4096, .f32⟩
  | .hbm, ⟨71, _⟩ => ⟨S8x4096x16x64, .f32⟩
  | .hbm, ⟨72, _⟩ => ⟨S8x4096x1024, .f32⟩
  | .hbm, ⟨73, _⟩ => ⟨S8x4096x1024, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v18 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v19 : Ref sig .tc := ⟨.hbm, 54, rfl⟩
abbrev main_call3_cst : Ref sig .tc := ⟨.hbm, 55, rfl⟩
abbrev main_call3_v0 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel2.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S512x1024 : Shape := ⟨2, ![512, 1024]⟩
abbrev S8x5632 : Shape := ⟨2, ![8, 5632]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩
abbrev S504x256 : Shape := ⟨2, ![504, 256]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x5632, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S8x5632, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x4096x1024, .f32⟩
  | .hbm, ⟨9, _⟩ => ⟨S32768x1024, .f32⟩
  | .hbm, ⟨10, _⟩ => ⟨S32768x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x4096x5632, .f32⟩
  | .hbm, ⟨30, _⟩ => ⟨S_, .i32⟩
  | .hbm, ⟨31, _⟩ => ⟨S_, .f32⟩
  | .hbm, ⟨32, _⟩ => ⟨S8x4098x5632, .f32⟩
  | .hbm, ⟨33, _⟩ => ⟨S8x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S8x4096x5632, .f32⟩
  | .hbm, ⟨38, _⟩ => ⟨S8x4096x5632, .f32⟩
  | .hbm, ⟨39, _⟩ => ⟨S_, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S8x4096x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S1x1x5632, .f32⟩
  | .hbm, ⟨57, _⟩ => ⟨S8x4096x5632, .f32⟩
  | .hbm, ⟨58, _⟩ => ⟨S8x4096x5632, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x1024, .f32⟩
  | .hbm, ⟨72, _⟩ => ⟨S8x4096x1024, .f32⟩
  | .hbm, ⟨73, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x3072 : Shape := ⟨2, ![1024, 3072]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128 : Shape := ⟨2, ![2, 128]⟩
abbrev S1x1024 : Shape := ⟨2, ![1, 1024]⟩
abbrev S8x4096x3072 : Shape := ⟨3, ![8, 4096, 3072]⟩
abbrev S1x512x1024 : Shape := ⟨3, ![1, 512, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 33
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S1x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S128x128, .bf16⟩
  | .hbm, ⟨28, _⟩ => ⟨S_, .f32⟩
  | .hbm, ⟨29, _⟩ => ⟨S2x128, .f32⟩
  | .hbm, ⟨30, _⟩ => ⟨S1024x3072, .bf16⟩
  | .hbm, ⟨31, _⟩ => ⟨S1x1024, .f32⟩
  | .hbm, ⟨32, _⟩ => ⟨S8x4096x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S128x128, .bf16⟩
  | .local _ .vmem, ⟨5, _⟩ => ⟨S2x128, .f32⟩
  | .local _ .vmem, ⟨6, _⟩ => ⟨S1x512x3072, .bf16⟩
  | .local _ .vmem, ⟨7, _⟩ => ⟨S1x512x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S1024 : Shape := ⟨1, ![1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3072, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S8x4096x3072, .f32⟩
  | .hbm, ⟨27, _⟩ => ⟨S8x4096x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x3072 : Shape := ⟨2, ![1024, 3072]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128 : Shape := ⟨2, ![2, 128]⟩
abbrev S1x1024 : Shape := ⟨2, ![1, 1024]⟩
abbrev S8x4608x3072 : Shape := ⟨3, ![8, 4608, 3072]⟩
abbrev S1x512x1024 : Shape := ⟨3, ![1, 512, 1024]⟩
abbrev S1x512x3072 : Shape := ⟨3, ![1, 512, 3072]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 33
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S1x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S128x128, .bf16⟩
  | .hbm, ⟨28, _⟩ => ⟨S_, .f32⟩
  | .hbm, ⟨29, _⟩ => ⟨S2x128, .f32⟩
  | .hbm, ⟨30, _⟩ => ⟨S1024x3072, .bf16⟩
  | .hbm, ⟨31, _⟩ => ⟨S1x1024, .f32⟩
  | .hbm, ⟨32, _⟩ => ⟨S8x4608x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S128x128, .bf16⟩
  | .local _ .vmem, ⟨5, _⟩ => ⟨S2x128, .f32⟩
  | .local _ .vmem, ⟨6, _⟩ => ⟨S1x512x3072, .bf16⟩
  | .local _ .vmem, ⟨7, _⟩ => ⟨S1x512x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x1024 : Shape := ⟨3, ![8, 4096, 1024]⟩
abbrev S1024 : Shape := ⟨1, ![1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4608x3072 : Shape := ⟨3, ![8, 4608, 3072]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3072, .f32⟩
  | .hbm, ⟨20, _⟩ => ⟨S_, .i32⟩
  | .hbm, ⟨21, _⟩ => ⟨S_, .f32⟩
  | .hbm, ⟨22, _⟩ => ⟨S8x4608x3072, .f32⟩
  | .hbm, ⟨23, _⟩ => ⟨S8x4608x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x3656 : Shape := ⟨2, ![1024, 3656]⟩
abbrev S64 : Shape := ⟨1, ![64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x64 : Shape := ⟨2, ![1, 64]⟩
abbrev S2x64 : Shape := ⟨2, ![2, 64]⟩
abbrev S2x128 : Shape := ⟨2, ![2, 128]⟩
abbrev S1024x3712 : Shape := ⟨2, ![1024, 3712]⟩
abbrev S1x1024 : Shape := ⟨2, ![1, 1024]⟩
abbrev S8x4096x3712 : Shape := ⟨3, ![8, 4096, 3712]⟩
abbrev S8x4096x128 : Shape := ⟨3, ![8, 4096, 128]⟩
abbrev S1x512x1024 : Shape := ⟨3, ![1, 512, 1024]⟩
abbrev S512x128 : Shape := ⟨2, ![512, 128]⟩
abbrev S1x512x3712 : Shape := ⟨3, ![1, 512, 3712]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 76
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3656, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .bf16⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S4096, .f32⟩
  | .hbm, ⟨45, _⟩ => ⟨S4096x1, .f32⟩
  | .hbm, ⟨46, _⟩ => ⟨S1x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S1x4096x1x32, .f32⟩
  | .hbm, ⟨53, _⟩ => ⟨S1x4096x4x32, .f32⟩
  | .hbm, ⟨54, _⟩ => ⟨S4096x128, .f32⟩
  | .hbm, ⟨55, _⟩ => ⟨S4096x32, .f32⟩
  | .hbm, ⟨56, _⟩ => ⟨S4096x64, .f32⟩
  | .hbm, ⟨57, _⟩ => ⟨S1x4096x1x64, .f32⟩
  | .hbm, ⟨58, _⟩ => ⟨S1x4096x2x64, .f32⟩
  | .hbm, ⟨59, _⟩ => ⟨S4096x128, .f32⟩
  | .hbm, ⟨60, _⟩ => ⟨S1x64, .f32⟩
  | .hbm, ⟨61, _⟩ => ⟨S2x64, .f32⟩
  | .hbm, ⟨62, _⟩ => ⟨S128, .f32⟩
  | .hbm, ⟨63, _⟩ => ⟨S1x64, .f32⟩
  | .hbm, ⟨64, _⟩ => ⟨S2x64, .f32⟩
  | .hbm, ⟨65, _⟩ => ⟨S128, .f32⟩
  | .hbm, ⟨66, _⟩ => ⟨S1x128, .f32⟩
  | .hbm, ⟨67, _⟩ => ⟨S1x128, .f32⟩
  | .hbm, ⟨68, _⟩ => ⟨S2x128, .f32⟩
  | .hbm, ⟨69, _⟩ => ⟨S_, .i32⟩
  | .hbm, ⟨70, _⟩ => ⟨S_, .f32⟩
  | .hbm, ⟨71, _⟩ => ⟨S1024x3712, .f32⟩
  | .hbm, ⟨72, _⟩ => ⟨S1024x3712, .bf16⟩
  | .hbm, ⟨73, _⟩ => ⟨S1x1024, .f32⟩
  | .hbm, ⟨74, _⟩ => ⟨S8x4096x3712, .bf16⟩
  | .hbm, ⟨75, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3712, .bf16⟩
  | .local _ .vmem, ⟨4, _⟩ => ⟨S128x128, .bf16⟩
  | .local _ .vmem, ⟨5, _⟩ => ⟨S2x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x3712, .bf16⟩
  | .local _ .vmem, ⟨11, _⟩ => ⟨S1x512x3712, .bf16⟩
  | .local _ .vmem, ⟨12, _⟩ => ⟨S1x512x128, .f32⟩
  | .local _ .vmem, ⟨13, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_3 : Ref sig .tc := ⟨.hbm, 69, rfl⟩
abbrev main_call1_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x3712 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x4096x1024 : Shape := ⟨3, ![8, 4096, 1024]⟩
abbrev S1024 : Shape := ⟨1, ![1024]⟩
abbrev S1024x3656 : Shape := ⟨2, ![1024, 3656]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3656 : Shape := ⟨3, ![8, 4096, 3656]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8x4096x16x32 : Shape := ⟨4, ![8, 4096, 16, 32]⟩
abbrev S1x4096x1x32 : Shape := ⟨4, ![1, 4096, 1, 32]⟩
abbrev S8x4096x8x64 : Shape := ⟨4, ![8, 4096, 8, 64]⟩
abbrev S8x4096x8x32 : Shape := ⟨4, ![8, 4096, 8, 32]⟩
abbrev S8x4096x1x64 : Shape := ⟨4, ![8, 4096, 1, 64]⟩
abbrev S8x4096x1x32 : Shape := ⟨4, ![8, 4096, 1, 32]⟩
abbrev S8x4096x3712 : Shape := ⟨3, ![8, 4096, 3712]⟩
abbrev S8x4096x128 : Shape := ⟨3, ![8, 4096, 128]⟩

abbrev nBuf : Space → Nat
  | .hbm => 172
  | .vmem => 0
  | .smem => 0
  | _ => 0

abbrev hbmTy0_0 (i : Nat) : BufTy := match i % 128 with
  | 0 => ⟨S8x4096x1024, .f32⟩
  | 1 => ⟨S1024, .f32⟩
  | 2 => ⟨S1024x3656, .f32⟩
  | 3 => ⟨S64, .f32⟩
  | 4 => ⟨S64, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4096, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x32, .f32⟩
  | 26 => ⟨S4096x1x32, .f32⟩
  | 27 => ⟨S4096x32, .f32⟩
  | 28 => ⟨S4096x1x32, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x4096x3656, .f32⟩
  | 46 => ⟨S8x4096x1024, .f32⟩
  | 47 => ⟨S8x4096x1024, .f32⟩
  | 48 => ⟨S8x4096x1024, .f32⟩
  | 49 => ⟨S8x4096x512, .f32⟩
  | 50 => ⟨S8x4096x64, .f32⟩
  | 51 => ⟨S8x4096x8, .f32⟩
  | 52 => ⟨S8x4096x16x64, .f32⟩
  | 53 => ⟨S8x4096x16x64, .f32⟩
  | 54 => ⟨S_, .f32⟩
  | 55 => ⟨S8x4096x16, .f32⟩
  | 56 => ⟨S8x4096x16x1, .f32⟩
  | 57 => ⟨S_, .f32⟩
  | 58 => ⟨S8x4096x16x1, .f32⟩
  | 59 => ⟨S8x4096x16x1, .f32⟩
  | 60 => ⟨S_, .f32⟩
  | 61 => ⟨S8x4096x16x1, .f32⟩
  | 62 => ⟨S8x4096x16x1, .f32⟩
  | 63 => ⟨S8x4096x16x1, .f32⟩
  | 64 => ⟨S8x4096x16x64, .f32⟩
  | 65 => ⟨S8x4096x16x64, .f32⟩
  | 66 => ⟨S1x1x1x64, .f32⟩
  | 67 => ⟨S8x4096x16x64, .f32⟩
  | 68 => ⟨S8x4096x16x64, .f32⟩
  | 69 => ⟨S8x4096x16x32, .f32⟩
  | 70 => ⟨S8x4096x16x32, .f32⟩
  | 71 => ⟨S1x4096x1x32, .f32⟩
  | 72 => ⟨S8x4096x16x32, .f32⟩
  | 73 => ⟨S8x4096x16x32, .f32⟩
  | 74 => ⟨S1x4096x1x32, .f32⟩
  | 75 => ⟨S8x4096x16x32, .f32⟩
  | 76 => ⟨S8x4096x16x32, .f32⟩
  | 77 => ⟨S8x4096x16x32, .f32⟩
  | 78 => ⟨S1x4096x1x32, .f32⟩
  | 79 => ⟨S8x4096x16x32, .f32⟩
  | 80 => ⟨S8x4096x16x32, .f32⟩
  | 81 => ⟨S1x4096x1x32, .f32⟩
  | 82 => ⟨S8x4096x16x32, .f32⟩
  | 83 => ⟨S8x4096x16x32, .f32⟩
  | 84 => ⟨S8x4096x16x32, .f32⟩
  | 85 => ⟨S8x4096x16x64, .f32⟩
  | 86 => ⟨S_, .f32⟩
  | 87 => ⟨S8x4096x16x64, .f32⟩
  | 88 => ⟨S8x4096x16x64, .f32⟩
  | 89 => ⟨S8x4096x16x64, .f32⟩
  | 90 => ⟨S8x4096x16x64, .f32⟩
  | 91 => ⟨S_, .f32⟩
  | 92 => ⟨S8x4096x16, .f32⟩
  | 93 => ⟨S8x4096x16x1, .f32⟩
  | 94 => ⟨S_, .f32⟩
  | 95 => ⟨S8x4096x16x1, .f32⟩
  | 96 => ⟨S8x4096x16x1, .f32⟩
  | 97 => ⟨S_, .f32⟩
  | 98 => ⟨S8x4096x16x1, .f32⟩
  | 99 => ⟨S8x4096x16x1, .f32⟩
  | 100 => ⟨S8x4096x16x1, .f32⟩
  | 101 => ⟨S8x4096x16x64, .f32⟩
  | 102 => ⟨S8x4096x16x64, .f32⟩
  | 103 => ⟨S1x1x1x64, .f32⟩
  | 104 => ⟨S8x4096x16x64, .f32⟩
  | 105 => ⟨S8x4096x16x64, .f32⟩
  | 106 => ⟨S8x4096x16x32, .f32⟩
  | 107 => ⟨S8x4096x16x32, .f32⟩
  | 108 => ⟨S1x4096x1x32, .f32⟩
  | 109 => ⟨S8x4096x16x32, .f32⟩
  | 110 => ⟨S8x4096x16x32, .f32⟩
  | 111 => ⟨S1x4096x1x32, .f32⟩
  | 112 => ⟨S8x4096x16x32, .f32⟩
  | 113 => ⟨S8x4096x16x32, .f32⟩
  | 114 => ⟨S8x4096x16x32, .f32⟩
  | 115 => ⟨S1x4096x1x32, .f32⟩
  | 116 => ⟨S8x4096x16x32, .f32⟩
  | 117 => ⟨S8x4096x16x32, .f32⟩
  | 118 => ⟨S1x4096x1x32, .f32⟩
  | 119 => ⟨S8x4096x16x32, .f32⟩
  | 120 => ⟨S8x4096x16x32, .f32⟩
  | 121 => ⟨S8x4096x16x32, .f32⟩
  | 122 => ⟨S8x4096x16x64, .f32⟩
  | 123 => ⟨S8x4096x8x64, .f32⟩
  | 124 => ⟨S8x4096x8x32, .f32⟩
  | 125 => ⟨S8x4096x8x32, .f32⟩
  | 126 => ⟨S1x4096x1x32, .f32⟩
  | 127 => ⟨S8x4096x8x32, .f32⟩
  | _ => ⟨S8x4096x1024, .f32⟩

abbrev hbmTy0_1 (i : Nat) : BufTy := match i % 128 with
  | 0 => ⟨S8x4096x8x32, .f32⟩
  | 1 => ⟨S1x4096x1x32, .f32⟩
  | 2 => ⟨S8x4096x8x32, .f32⟩
  | 3 => ⟨S8x4096x8x32, .f32⟩
  | 4 => ⟨S8x4096x8x32, .f32⟩
  | 5 => ⟨S1x4096x1x32, .f32⟩
  | 6 => ⟨S8x4096x8x32, .f32⟩
  | 7 => ⟨S8x4096x8x32, .f32⟩
  | 8 => ⟨S1x4096x1x32, .f32⟩
  | 9 => ⟨S8x4096x8x32, .f32⟩
  | 10 => ⟨S8x4096x8x32, .f32⟩
  | 11 => ⟨S8x4096x8x32, .f32⟩
  | 12 => ⟨S8x4096x8x64, .f32⟩
  | 13 => ⟨S_, .f32⟩
  | 14 => ⟨S8x4096x8x64, .f32⟩
  | 15 => ⟨S8x4096x8x64, .f32⟩
  | 16 => ⟨S8x4096x1x64, .f32⟩
  | 17 => ⟨S8x4096x1x32, .f32⟩
  | 18 => ⟨S8x4096x1x32, .f32⟩
  | 19 => ⟨S1x4096x1x32, .f32⟩
  | 20 => ⟨S8x4096x1x32, .f32⟩
  | 21 => ⟨S8x4096x1x32, .f32⟩
  | 22 => ⟨S1x4096x1x32, .f32⟩
  | 23 => ⟨S8x4096x1x32, .f32⟩
  | 24 => ⟨S8x4096x1x32, .f32⟩
  | 25 => ⟨S8x4096x1x32, .f32⟩
  | 26 => ⟨S1x4096x1x32, .f32⟩
  | 27 => ⟨S8x4096x1x32, .f32⟩
  | 28 => ⟨S8x4096x1x32, .f32⟩
  | 29 => ⟨S1x4096x1x32, .f32⟩
  | 30 => ⟨S8x4096x1x32, .f32⟩
  | 31 => ⟨S8x4096x1x32, .f32⟩
  | 32 => ⟨S8x4096x1x32, .f32⟩
  | 33 => ⟨S8x4096x1x64, .f32⟩
  | 34 => ⟨S8x4096x1024, .f32⟩
  | 35 => ⟨S8x4096x1024, .f32⟩
  | 36 => ⟨S8x4096x512, .f32⟩
  | 37 => ⟨S8x4096x64, .f32⟩
  | 38 => ⟨S_, .i32⟩
  | 39 => ⟨S_, .f32⟩
  | 40 => ⟨S8x4096x64, .f32⟩
  | 41 => ⟨S8x4096x3712, .f32⟩
  | 42 => ⟨S8x4096x3712, .bf16⟩
  | 43 => ⟨S8x4096x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_13 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_c : Ref sig .tc := ⟨.hbm, 166, rfl⟩
abbrev main_call0_v0 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩

abbrev nD : Nat := 1
abbrev τ : Topo := Topo.v7x

variable {F : FTy → Type} [FloatOps F]
-- ==== Kernel6.lean ====
abbrev S8x4608x3072 : Shape := ⟨3, ![8, 4608, 3072]⟩
abbrev S64 : Shape := ⟨1, ![64]⟩
abbrev S16x513 : Shape := ⟨2, ![16, 513]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S2x128 : Shape := ⟨2, ![2, 128]⟩
abbrev S640 : Shape := ⟨1, ![640]⟩
abbrev S1x640 : Shape := ⟨2, ![1, 640]⟩
abbrev S128x640 : Shape := ⟨2, ![128, 640]⟩
abbrev S1x128x640 : Shape := ⟨3, ![1, 128, 640]⟩
abbrev S128x640x1 : Shape := ⟨3, ![128, 640, 1]⟩
abbrev S16x128x640 : Shape := ⟨3, ![16, 128, 640]⟩
abbrev S8x4096x1024 : Shape := ⟨3, ![8, 4096, 1024]⟩
abbrev S1x128x128 : Shape := ⟨3, ![1, 128, 128]⟩
abbrev S1x4608x128 : Shape := ⟨3, ![1, 4608, 128]⟩
abbrev S2x128x640 : Shape := ⟨3, ![2, 128, 640]⟩
abbrev S4608x128 : Shape := ⟨2, ![4608, 128]⟩
abbrev S1x512x128 : Shape := ⟨3, ![1, 512, 128]⟩
abbrev S512x128 : Shape := ⟨2, ![512, 128]⟩
abbrev S640x128 : Shape := ⟨2, ![640, 128]⟩
abbrev S1x640x128 : Shape := ⟨3, ![1, 640, 128]⟩

abbrev nBuf : Space → Nat
  | .hbm => 157
  | .vmem => 13
  | .smem => 0
  | _ => 0

abbrev hbmTy0_0 (i : Nat) : BufTy := match i % 128 with
  | 0 => ⟨S8x4608x3072, .bf16⟩
  | 1 => ⟨S64, .f32⟩
  | 2 => ⟨S64, .f32⟩
  | 3 => ⟨S16x513, .f32⟩
  | 4 => ⟨S128, .i32⟩
  | 5 => ⟨S_, .i32⟩
  | 6 => ⟨S_, .i32⟩
  | 7 => ⟨S128, .i32⟩
  | 8 => ⟨S128, .i32⟩
  | 9 => ⟨S128, .i32⟩
  | 10 => ⟨S_, .i32⟩
  | 11 => ⟨S128, .i32⟩
  | 12 => ⟨S128, .i1⟩
  | 13 => ⟨S128, .i32⟩
  | 14 => ⟨S128, .i32⟩
  | 15 => ⟨S_, .i32⟩
  | 16 => ⟨S128, .i32⟩
  | 17 => ⟨S128, .i1⟩
  | 18 => ⟨S128, .i1⟩
  | 19 => ⟨S_, .i32⟩
  | 20 => ⟨S128, .i32⟩
  | 21 => ⟨S128, .i32⟩
  | 22 => ⟨S128, .i32⟩
  | 23 => ⟨S128x1, .i32⟩
  | 24 => ⟨S1x128, .i32⟩
  | 25 => ⟨S128x128, .i32⟩
  | 26 => ⟨S128x128, .i32⟩
  | 27 => ⟨S128x128, .i1⟩
  | 28 => ⟨S128x128, .bf16⟩
  | 29 => ⟨S1x64, .f32⟩
  | 30 => ⟨S2x64, .f32⟩
  | 31 => ⟨S128, .f32⟩
  | 32 => ⟨S1x64, .f32⟩
  | 33 => ⟨S2x64, .f32⟩
  | 34 => ⟨S128, .f32⟩
  | 35 => ⟨S1x128, .f32⟩
  | 36 => ⟨S1x128, .f32⟩
  | 37 => ⟨S2x128, .f32⟩
  | 38 => ⟨S128, .i32⟩
  | 39 => ⟨S128x1, .i32⟩
  | 40 => ⟨S640, .i32⟩
  | 41 => ⟨S1x640, .i32⟩
  | 42 => ⟨S128x640, .i32⟩
  | 43 => ⟨S128x640, .i32⟩
  | 44 => ⟨S128x640, .i32⟩
  | 45 => ⟨S_, .i32⟩
  | 46 => ⟨S128x640, .i32⟩
  | 47 => ⟨S128x640, .i32⟩
  | 48 => ⟨S_, .i32⟩
  | 49 => ⟨S_, .i32⟩
  | 50 => ⟨S_, .i32⟩
  | 51 => ⟨S128x640, .i32⟩
  | 52 => ⟨S128x640, .i32⟩
  | 53 => ⟨S_, .i32⟩
  | 54 => ⟨S128x640, .i32⟩
  | 55 => ⟨S128x640, .i32⟩
  | 56 => ⟨S_, .i32⟩
  | 57 => ⟨S128x640, .i32⟩
  | 58 => ⟨S128x640, .i32⟩
  | 59 => ⟨S_, .i32⟩
  | 60 => ⟨S_, .i32⟩
  | 61 => ⟨S1x640, .i32⟩
  | 62 => ⟨S1x640, .i32⟩
  | 63 => ⟨S1x640, .i32⟩
  | 64 => ⟨S_, .i32⟩
  | 65 => ⟨S1x640, .i32⟩
  | 66 => ⟨S1x640, .i1⟩
  | 67 => ⟨S1x640, .i32⟩
  | 68 => ⟨S1x640, .i32⟩
  | 69 => ⟨S_, .i32⟩
  | 70 => ⟨S1x640, .i32⟩
  | 71 => ⟨S1x640, .i1⟩
  | 72 => ⟨S1x640, .i1⟩
  | 73 => ⟨S_, .i32⟩
  | 74 => ⟨S1x640, .i32⟩
  | 75 => ⟨S1x640, .i32⟩
  | 76 => ⟨S1x640, .i32⟩
  | 77 => ⟨S_, .i32⟩
  | 78 => ⟨S_, .i32⟩
  | 79 => ⟨S128x1, .i32⟩
  | 80 => ⟨S128x1, .i32⟩
  | 81 => ⟨S128x1, .i32⟩
  | 82 => ⟨S_, .i32⟩
  | 83 => ⟨S128x1, .i32⟩
  | 84 => ⟨S128x1, .i1⟩
  | 85 => ⟨S128x1, .i32⟩
  | 86 => ⟨S128x1, .i32⟩
  | 87 => ⟨S_, .i32⟩
  | 88 => ⟨S128x1, .i32⟩
  | 89 => ⟨S128x1, .i1⟩
  | 90 => ⟨S128x1, .i1⟩
  | 91 => ⟨S_, .i32⟩
  | 92 => ⟨S128x1, .i32⟩
  | 93 => ⟨S128x1, .i32⟩
  | 94 => ⟨S128x1, .i32⟩
  | 95 => ⟨S128x640, .i32⟩
  | 96 => ⟨S128x640, .i32⟩
  | 97 => ⟨S128x640, .i1⟩
  | 98 => ⟨S_, .i32⟩
  | 99 => ⟨S_, .i32⟩
  | 100 => ⟨S1x640, .i32⟩
  | 101 => ⟨S1x640, .i32⟩
  | 102 => ⟨S1x640, .i32⟩
  | 103 => ⟨S_, .i32⟩
  | 104 => ⟨S1x640, .i32⟩
  | 105 => ⟨S1x640, .i1⟩
  | 106 => ⟨S1x640, .i32⟩
  | 107 => ⟨S1x640, .i32⟩
  | 108 => ⟨S_, .i32⟩
  | 109 => ⟨S1x640, .i32⟩
  | 110 => ⟨S1x640, .i1⟩
  | 111 => ⟨S1x640, .i1⟩
  | 112 => ⟨S_, .i32⟩
  | 113 => ⟨S1x640, .i32⟩
  | 114 => ⟨S1x640, .i32⟩
  | 115 => ⟨S1x640, .i32⟩
  | 116 => ⟨S_, .i32⟩
  | 117 => ⟨S_, .i32⟩
  | 118 => ⟨S128x1, .i32⟩
  | 119 => ⟨S128x1, .i32⟩
  | 120 => ⟨S128x1, .i32⟩
  | 121 => ⟨S_, .i32⟩
  | 122 => ⟨S128x1, .i32⟩
  | 123 => ⟨S128x1, .i1⟩
  | 124 => ⟨S128x1, .i32⟩
  | 125 => ⟨S128x1, .i32⟩
  | 126 => ⟨S_, .i32⟩
  | 127 => ⟨S128x1, .i32⟩
  | _ => ⟨S8x4608x3072, .bf16⟩

abbrev hbmTy0_1 (i : Nat) : BufTy := match i % 128 with
  | 0 => ⟨S128x1, .i1⟩
  | 1 => ⟨S128x1, .i1⟩
  | 2 => ⟨S_, .i32⟩
  | 3 => ⟨S128x1, .i32⟩
  | 4 => ⟨S128x1, .i32⟩
  | 5 => ⟨S128x1, .i32⟩
  | 6 => ⟨S_, .i32⟩
  | 7 => ⟨S128x1, .i32⟩
  | 8 => ⟨S128x1, .i32⟩
  | 9 => ⟨S128x640, .i32⟩
  | 10 => ⟨S128x640, .i32⟩
  | 11 => ⟨S128x640, .i1⟩
  | 12 => ⟨S128x640, .i1⟩
  | 13 => ⟨S1x128x640, .i1⟩
  | 14 => ⟨S_, .i32⟩
  | 15 => ⟨S128x640, .i32⟩
  | 16 => ⟨S128x640, .i1⟩
  | 17 => ⟨S_, .i32⟩
  | 18 => ⟨S128x640, .i32⟩
  | 19 => ⟨S128x640, .i32⟩
  | 20 => ⟨S128x640, .i32⟩
  | 21 => ⟨S128x640x1, .i32⟩
  | 22 => ⟨S16x128x640, .f32⟩
  | 23 => ⟨S_, .f32⟩
  | 24 => ⟨S_, .f32⟩
  | 25 => ⟨S16x128x640, .i1⟩
  | 26 => ⟨S16x128x640, .f32⟩
  | 27 => ⟨S16x128x640, .f32⟩
  | 28 => ⟨S8x4096x1024, .bf16⟩
  | _ => ⟨S8x4608x3072, .bf16⟩

abbrev hbmTy (i : Nat) : BufTy := match i / 128 with
  | 0 => hbmTy0_0 i
  | 1 => hbmTy0_1 i
  | _ => ⟨S8x4608x3072, .bf16⟩

abbrev bufTy : (tb : Table) → Fin (tcTables nBuf tb) → BufTy
  | .hbm, ⟨i, _⟩ => hbmTy i
  | .local _ .vmem, ⟨0, _⟩ => ⟨S1x128x128, .bf16⟩
  | .local _ .vmem, ⟨1, _⟩ => ⟨S1x128x128, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x4608x128, .bf16⟩
  | .local _ .vmem, ⟨5, _⟩ => ⟨S1x4608x128, .bf16⟩
  | .local _ .vmem, ⟨6, _⟩ => ⟨S2x128x640, .f32⟩
  | .local _ .vmem, ⟨7, _⟩ => ⟨S2x128x640, .f32⟩
  | .local _ .vmem, ⟨8, _⟩ => ⟨S128x128, .bf16⟩
  | .local _ .vmem, ⟨9, _⟩ => ⟨S2x128, .f32⟩
  | .local _ .vmem, ⟨10, _⟩ => ⟨S1x128x128, .bf16⟩
  | .local _ .vmem, ⟨11, _⟩ => ⟨S1x128x128, .bf16⟩
  | .local _ .vmem, ⟨12, _⟩ => ⟨S4608x128, .bf16⟩
  | _, _ => ⟨S8x4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_0 : Ref sig .tc := ⟨.hbm, 45, rfl⟩
abbrev main_v24 : Ref sig .tc := ⟨.hbm, 46, rfl⟩
abbrev main_v25 : Ref sig .tc := ⟨.hbm, 47, rfl⟩
abbrev main_c_1 : Ref sig .tc := ⟨.hbm, 48, rfl⟩
abbrev main_c_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v26 : Ref sig .tc := ⟨.hbm, 55, rfl⟩
abbrev main_c_3 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v29 : Ref sig .tc := ⟨.hbm, 76, rfl⟩
abbrev main_c_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_c_6 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_c : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_0 : Ref sig .tc := ⟨.hbm, 112, rfl⟩
abbrev main_call4_v12 : Ref sig .tc := ⟨.hbm, 113, rfl⟩
abbrev main_call4_v13 : Ref sig .tc := ⟨.hbm, 114, rfl⟩
abbrev main_v34 : Ref sig .tc := ⟨.hbm, 115, rfl⟩
abbrev main_c_7 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_v6 : Ref sig .tc := ⟨.hbm, 123, rfl⟩
abbrev main_call5_v7 : Ref sig .tc := ⟨.hbm, 124, rfl⟩
abbrev main_call5_v8 : Ref sig .tc := ⟨.hbm, 125, rfl⟩
abbrev main_call5_c : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_c_0 : Ref sig .tc := ⟨.hbm, 130, rfl⟩
abbrev main_call5_v12 : Ref sig .tc := ⟨.hbm, 131, rfl⟩
abbrev main_call5_v13 : Ref sig .tc := ⟨.hbm, 132, rfl⟩
abbrev main_v35 : Ref sig .tc := ⟨.hbm, 133, rfl⟩
abbrev main_c_8 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_c_9 : Ref sig .tc := ⟨.hbm, 142, rfl⟩
abbrev main_v43 : Ref sig .tc := ⟨.hbm, 143, rfl⟩
abbrev main_v44 : Ref sig .tc := ⟨.hbm, 144, rfl⟩
abbrev main_c_10 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_cst : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_v50 : Ref sig .tc := ⟨.hbm, 155, rfl⟩
abbrev main_v51 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 32], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_37 : BitVec 32 := 0#32
  let c9_i32 : BitVec 32 := 9#32
  let v105 : BitVec 32 := Scalar.addi c0_i32_37 c9_i32
  let c1_i32 : BitVec 32 := 1#32
  ⟨c0_i32_37, v105, c1_i32⟩
def k0_mult1 (k0_t1 : Fin k0_t1_loop.trips) : BitVec 32 :=
  let c0_i32_37 : BitVec 32 := 0#32
  let c1_i32 : BitVec 32 := 1#32
  let arg11 : BitVec 32 := Scf.iv c0_i32_37 c1_i32 k0_t1
  let c512_i32_39 : BitVec 32 := 512#32
  let v106 : BitVec 32 := Scalar.muli arg11 c512_i32_39
  v106
def k0_off1 (k0_t1 : Fin k0_t1_loop.trips) : Fin 3 → Nat :=
  let c0_40 : Index := 0#32
  let c0_i32_37 : BitVec 32 := 0#32
  let c1_i32 : BitVec 32 := 1#32
  let arg11 : BitVec 32 := Scf.iv c0_i32_37 c1_i32 k0_t1
  let c512_i32_39 : BitVec 32 := 512#32
  let v106 : BitVec 32 := Scalar.muli arg11 c512_i32_39
  let v107 : BitVec 32 := v106
  let v108 : Index := Scalar.indexCast v107
  let c0_41 : Index := 0#32
  ![0, v108.toNat, 0]
def k0_off2 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let c512_i32_39 : BitVec 32 := 512#32
  let v106 : BitVec 32 := Scalar.muli arg11 c512_i32_39
  let v107 : BitVec 32 := v106
  let v126 : Index := Scalar.indexCast v107
  let c0_47 : Index := 0#32
  ![v126.toNat, 0]
def k0_mult2 (i : grid0.Coords) : BitVec 32 :=
  let arg2 : BitVec 32 := BitVec.ofNat 32 (i 2).val
  let c128_i32 : BitVec 32 := 128#32
  let v30 : BitVec 32 := Scalar.muli arg2 c128_i32
  v30
def k0_off3 (i : grid0.Coords) : Fin 2 → Nat :=
  let arg2 : BitVec 32 := BitVec.ofNat 32 (i 2).val
  let c128_i32 : BitVec 32 := 128#32
  let v30 : BitVec 32 := Scalar.muli arg2 c128_i32
  let v31 : BitVec 32 := v30
  let v32 : Index := Scalar.indexCast v31
  let c0_11 : Index := 0#32
  ![v32.toNat, 0]
def k0_off4 (i : grid0.Coords) : Fin 3 → Nat :=
  let c0_12 : Index := 0#32
  let arg2 : BitVec 32 := BitVec.ofNat 32 (i 2).val
  let c128_i32 : BitVec 32 := 128#32
  let v30 : BitVec 32 := Scalar.muli arg2 c128_i32
  let v31 : BitVec 32 := v30
  let v34 : Index := Scalar.indexCast v31
  let c0_13 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S8x4608x3072 : Shape := ⟨3, ![8, 4608, 3072]⟩
abbrev S64 : Shape := ⟨1, ![64]⟩
abbrev S16x513 : Shape := ⟨2, ![16, 513]⟩
abbrev S8x4096x3072 : Shape := ⟨3, ![8, 4096, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S_ : Shape := ⟨0, ![]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x16x4096x4096 : Shape := ⟨4, ![8, 16, 4096, 4096]⟩
abbrev S4096x4096x1 : Shape := ⟨3, ![4096, 4096, 1]⟩
abbrev S16x4096x4096 : Shape := ⟨3, ![16, 4096, 4096]⟩
abbrev S1x16x4096x4096 : Shape := ⟨4, ![1, 16, 4096, 4096]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x1024 : Shape := ⟨3, ![8, 4096, 1024]⟩

abbrev nBuf : Space → Nat
  | .hbm => 134
  | .vmem => 0
  | .smem => 0
  | _ => 0

abbrev hbmTy0_0 (i : Nat) : BufTy := match i % 128 with
  | 0 => ⟨S8x4608x3072, .bf16⟩
  | 1 => ⟨S64, .f32⟩
  | 2 => ⟨S64, .f32⟩
  | 3 => ⟨S16x513, .f32⟩
  | 4 => ⟨S8x4096x3072, .bf16⟩
  | 5 => ⟨S8x4096x3072, .f32⟩
  | 6 => ⟨S8x4096x3x16x64, .f32⟩
  | 7 => ⟨S8x4096x1x16x64, .f32⟩
  | 8 => ⟨S8x4096x1x16x64, .f32⟩
  | 9 => ⟨S8x4096x1x16x64, .f32⟩
  | 10 => ⟨S8x4096x16x64, .f32⟩
  | 11 => ⟨S8x4096x16x64, .f32⟩
  | 12 => ⟨S_, .f32⟩
  | 13 => ⟨S8x4096x16, .f32⟩
  | 14 => ⟨S8x4096x16x1, .f32⟩
  | 15 => ⟨S_, .f32⟩
  | 16 => ⟨S8x4096x16x1, .f32⟩
  | 17 => ⟨S8x4096x16x1, .f32⟩
  | 18 => ⟨S_, .f32⟩
  | 19 => ⟨S8x4096x16x1, .f32⟩
  | 20 => ⟨S8x4096x16x1, .f32⟩
  | 21 => ⟨S8x4096x16x1, .f32⟩
  | 22 => ⟨S8x4096x16x64, .f32⟩
  | 23 => ⟨S8x4096x16x64, .f32⟩
  | 24 => ⟨S1x1x1x64, .f32⟩
  | 25 => ⟨S8x4096x16x64, .f32⟩
  | 26 => ⟨S8x4096x16x64, .f32⟩
  | 27 => ⟨S8x4096x16x64, .f32⟩
  | 28 => ⟨S8x4096x16x64, .f32⟩
  | 29 => ⟨S_, .f32⟩
  | 30 => ⟨S8x4096x16, .f32⟩
  | 31 => ⟨S8x4096x16x1, .f32⟩
  | 32 => ⟨S_, .f32⟩
  | 33 => ⟨S8x4096x16x1, .f32⟩
  | 34 => ⟨S8x4096x16x1, .f32⟩
  | 35 => ⟨S_, .f32⟩
  | 36 => ⟨S8x4096x16x1, .f32⟩
  | 37 => ⟨S8x4096x16x1, .f32⟩
  | 38 => ⟨S8x4096x16x1, .f32⟩
  | 39 => ⟨S8x4096x16x64, .f32⟩
  | 40 => ⟨S8x4096x16x64, .f32⟩
  | 41 => ⟨S1x1x1x64, .f32⟩
  | 42 => ⟨S8x4096x16x64, .f32⟩
  | 43 => ⟨S8x4096x16x64, .f32⟩
  | 44 => ⟨S8x4096x16x64, .f32⟩
  | 45 => ⟨S4096, .i32⟩
  | 46 => ⟨S4096x1, .i32⟩
  | 47 => ⟨S1x4096, .i32⟩
  | 48 => ⟨S4096x4096, .i32⟩
  | 49 => ⟨S4096x4096, .i32⟩
  | 50 => ⟨S4096x4096, .i32⟩
  | 51 => ⟨S_, .i32⟩
  | 52 => ⟨S_, .i32⟩
  | 53 => ⟨S_, .i32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S_, .i32⟩
  | 63 => ⟨S_, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i1⟩
  | 70 => ⟨S4096, .i32⟩
  | 71 => ⟨S4096, .i32⟩
  | 72 => ⟨S_, .i32⟩
  | 73 => ⟨S4096, .i32⟩
  | 74 => ⟨S4096, .i1⟩
  | 75 => ⟨S4096, .i1⟩
  | 76 => ⟨S_, .i32⟩
  | 77 => ⟨S4096, .i32⟩
  | 78 => ⟨S4096, .i32⟩
  | 79 => ⟨S4096, .i32⟩
  | 80 => ⟨S1x4096, .i32⟩
  | 81 => ⟨S4096x1, .i32⟩
  | 82 => ⟨S4096x4096, .i32⟩
  | 83 => ⟨S4096x4096, .i32⟩
  | 84 => ⟨S4096x4096, .i1⟩
  | 85 => ⟨S1x4096, .i32⟩
  | 86 => ⟨S4096x1, .i32⟩
  | 87 => ⟨S_, .i32⟩
  | 88 => ⟨S4096x1, .i32⟩
  | 89 => ⟨S4096x1, .i32⟩
  | 90 => ⟨S4096x4096, .i32⟩
  | 91 => ⟨S4096x4096, .i32⟩
  | 92 => ⟨S4096x4096, .i1⟩
  | 93 => ⟨S4096x4096, .i1⟩
  | 94 => ⟨S8x16x4096x4096, .f32⟩
  | 95 => ⟨S_, .f32⟩
  | 96 => ⟨S8x16x4096x4096, .f32⟩
  | 97 => ⟨S8x16x4096x4096, .f32⟩
  | 98 => ⟨S_, .i32⟩
  | 99 => ⟨S4096x4096, .i32⟩
  | 100 => ⟨S4096x4096, .i1⟩
  | 101 => ⟨S_, .i32⟩
  | 102 => ⟨S4096x4096, .i32⟩
  | 103 => ⟨S4096x4096, .i32⟩
  | 104 => ⟨S4096x4096, .i32⟩
  | 105 => ⟨S4096x4096x1, .i32⟩
  | 106 => ⟨S16x4096x4096, .f32⟩
  | 107 => ⟨S1x16x4096x4096, .f32⟩
  | 108 => ⟨S8x16x4096x4096, .f32⟩
  | 109 => ⟨S8x16x4096x4096, .f32⟩
  | 110 => ⟨S_, .f32⟩
  | 111 => ⟨S_, .f32⟩
  | 112 => ⟨S8x16x4096x4096, .i1⟩
  | 113 => ⟨S8x16x4096x4096, .f32⟩
  | 114 => ⟨S8x16x4096x4096, .f32⟩
  | 115 => ⟨S_, .f32⟩
  | 116 => ⟨S8x16x4096, .f32⟩
  | 117 => ⟨S8x16x4096x1, .f32⟩
  | 118 => ⟨S8x16x4096x4096, .f32⟩
  | 119 => ⟨S8x16x4096x4096, .f32⟩
  | 120 => ⟨S8x16x4096x4096, .f32⟩
  | 121 => ⟨S_, .f32⟩
  | 122 => ⟨S8x16x4096, .f32⟩
  | 123 => ⟨S8x4096x16, .f32⟩
  | 124 => ⟨S8x4096x16x1, .f32⟩
  | 125 => ⟨S8x16x64x4096, .f32⟩
  | 126 => ⟨S8x4096x16x64, .f32⟩
  | 127 => ⟨S_, .f32⟩
  | _ => ⟨S8x4608x3072, .bf16⟩

abbrev hbmTy0_1 (i : Nat) : BufTy := match i % 128 with
  | 0 => ⟨S8x4096x16x1, .f32⟩
  | 1 => ⟨S8x4096x16x1, .f32⟩
  | 2 => ⟨S8x4096x16x64, .f32⟩
  | 3 => ⟨S8x4096x16x64, .f32⟩
  | 4 => ⟨S8x4096x1024, .f32⟩
  | 5 => ⟨S8x4096x1024, .bf16⟩
  | _ => ⟨S8x4608x3072, .bf16⟩

abbrev hbmTy (i : Nat) : BufTy := match i / 128 with
  | 0 => hbmTy0_0 i
  | 1 => hbmTy0_1 i
  | _ => ⟨S8x4608x3072, .bf16⟩

abbrev bufTy : (tb : Table) → Fin (tcTables nBuf tb) → BufTy
  | .hbm, ⟨i, _⟩ => hbmTy i
  | _, _ => ⟨S8x4608x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_c_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_8 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_c_10 : Ref sig .tc := ⟨.hbm, 98, rfl⟩
abbrev main_v61 : Ref sig .tc := ⟨.hbm, 99, rfl⟩
abbrev main_v62 : Ref sig .tc := ⟨.hbm, 100, rfl⟩
abbrev main_c_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v71 : Ref sig .tc := ⟨.hbm, 114, rfl⟩
abbrev main_cst_13 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_14 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_15 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩

abbrev nD : Nat := 1
abbrev τ : Topo := Topo.v7x

variable {F : FTy → Type} [FloatOps F]
-- ==== Proof.StickMath.lean ====
/-
  The real-number side of the stick-breaking attention: the softplus, the weight a query gives a key, and the two running
  totals a pass over the key blocks, last block first, keeps. Nothing here mentions a program.
-/
module

public import Idealize.ShloMosaic.PureOps.Ideal
public import Mathlib.Analysis.SpecialFunctions.Log.Basic
public import Mathlib.Algebra.BigOperators.Intervals

@[expose] public section

noncomputable section

open Idealize.ShloMosaic
open scoped BigOperators

namespace Cert.Stick

/-- A finite sum of real numbers, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two real numbers, read as an extended real. -/
theorem coe_max (x y : ℝ) : ((max x y : ℝ) : EReal) = max (x : EReal) (y : EReal) :=
  Monotone.map_max (fun _ _ h => EReal.coe_le_coe_iff.mpr h)

/-- The softplus `log (1 + exp z)`, in the form that does not overflow. -/
def sp (z : ℝ) : ℝ := max z 0 + Real.log (1 + Real.exp (-|z|))

/-- `log (sigmoid z) = z - log (1 + exp z)`. -/
theorem neg_sp_neg (z : ℝ) : -sp (-z) = z - sp z := by
  unfold sp
  rw [abs_neg]
  have h : max z 0 - max (-z) 0 = z := by
    rcases le_total z 0 with h | h
    · rw [max_eq_right h, max_eq_left (by linarith)]; ring
    · rw [max_eq_left h, max_eq_right (by linarith)]; ring
  linarith

/-- The logarithm of one plus the exponential of a real number, over the extended reals. -/
theorem log1p_exp (x : ℝ) : Ideal.log1p (Ideal.exp (x : EReal)) = ((Real.log (1 + Real.exp x) : ℝ) : EReal) := by
  have h : (1 : EReal) + (Real.exp x : EReal) = ((1 + Real.exp x : ℝ) : EReal) := by
    rw [EReal.coe_add, EReal.coe_one]
  have hp : ¬ (1 + Real.exp x ≤ 0) := by have := Real.exp_pos x; linarith
  rw [Ideal.exp_coe, Ideal.log1p, h, Ideal.log_coe, if_neg hp]

/-- The softplus over the extended reals, at a real number. -/
theorem softplus_coe (z : ℝ) :
    max (z : EReal) 0 + Ideal.log1p (Ideal.exp (-max (z : EReal) (-(z : EReal)))) = ((sp z : ℝ) : EReal) := by
  have h : -max (z : EReal) (-(z : EReal)) = ((-|z| : ℝ) : EReal) := by
    rw [← EReal.coe_neg, ← coe_max, ← EReal.coe_neg]; rfl
  rw [h, log1p_exp, ← EReal.coe_zero, ← coe_max, ← EReal.coe_add]; rfl

/-! ## The weights -/

/-- The stick a key at position `s` takes from a query at position `t`, or zero where the key is not before the query. -/
def w (z : ℕ → ℝ) (t s : ℕ) : ℝ := if s < t then sp (z s) else 0

/-- The weight the query at `t` gives the key at `s`: `sigmoid z_s` times what the keys between them leave of the stick. -/
def a (z : ℕ → ℝ) (t s : ℕ) : ℝ :=
  if s < t then Real.exp (z s - ∑ j ∈ Finset.Ico s 4096, w z t j) else 0

/-- The total of the stick taken from key block `p` (256 keys to a block) on. -/
def run (z : ℕ → ℝ) (t p : ℕ) : ℝ := ∑ j ∈ Finset.Ico (256 * p) 4096, w z t j

/-- The weighted values summed from key block `p` on. -/
def acc (z : ℕ → ℝ) (u : ℕ → EReal) (t p : ℕ) : EReal := ∑ s ∈ Finset.Ico (256 * p) 4096, (a z t s : EReal) * u s

/-- The keys of block `p` and those of the blocks after it are the keys from block `p` on. -/
theorem Ico_block {M : Type*} [AddCommMonoid M] (f : ℕ → M) {p : ℕ} (hp : p < 16) :
    ∑ s ∈ Finset.Ico (256 * p) 4096, f s
      = ∑ s ∈ Finset.Ico (256 * (p + 1)) 4096, f s + ∑ c : Fin 256, f (256 * p + c.val) := by
  rw [← Finset.sum_Ico_consecutive f (m := 256 * p) (n := 256 * (p + 1)) (k := 4096) (by omega) (by omega), add_comm]
  congr 1
  rw [Finset.sum_Ico_eq_sum_range, show 256 * (p + 1) - 256 * p = 256 by omega, Finset.sum_range]

/-- Key block by key block, the total of the stick. -/
theorem run_block (z : ℕ → ℝ) (t : ℕ) {p : ℕ} (hp : p < 16) :
    run z t p = run z t (p + 1) + ∑ c : Fin 256, w z t (256 * p + c.val) := Ico_block _ hp

/-- Key block by key block, the weighted values. -/
theorem acc_block (z : ℕ → ℝ) (u : ℕ → EReal) (t : ℕ) {p : ℕ} (hp : p < 16) :
    acc z u t p = acc z u t (p + 1) + ∑ c : Fin 256, (a z t (256 * p + c.val) : EReal) * u (256 * p + c.val) :=
  Ico_block _ hp

/-- Past the query's own block nothing is taken. -/
theorem run_after (z : ℕ → ℝ) {t p : ℕ} (h : t ≤ 256 * p) : run z t p = 0 :=
  Finset.sum_eq_zero fun j hj => if_neg (by have := (Finset.mem_Ico.mp hj).1; omega)

/-- Past the query's own block nothing is summed. -/
theorem acc_after (z : ℕ → ℝ) (u : ℕ → EReal) {t p : ℕ} (h : t ≤ 256 * p) : acc z u t p = 0 :=
  Finset.sum_eq_zero fun j hj => by
    rw [a, if_neg (by have := (Finset.mem_Ico.mp hj).1; omega), EReal.coe_zero, zero_mul]

/-- What the keys of block `p` from key `c` on take: the sum against a lower-triangular column of ones. -/
theorem tail_block (f : ℕ → ℝ) (p : ℕ) (c : Fin 256) :
    ∑ j : Fin 256, f (256 * p + j.val) * (if c.val ≤ j.val then 1 else 0)
      = ∑ j ∈ Finset.Ico (256 * p + c.val) (256 * (p + 1)), f j := by
  have h1 : ∑ j : Fin 256, f (256 * p + j.val) * (if c.val ≤ j.val then (1 : ℝ) else 0)
      = ∑ j ∈ Finset.Ico (256 * p) (256 * (p + 1)), f j * (if 256 * p + c.val ≤ j then (1 : ℝ) else 0) := by
    rw [Finset.sum_Ico_eq_sum_range, show 256 * (p + 1) - 256 * p = 256 by omega, Finset.sum_range]
    refine Finset.sum_congr rfl fun j _ => ?_
    by_cases h : c.val ≤ j.val
    · rw [if_pos h, if_pos (by omega)]
    · rw [if_neg h, if_neg (by omega)]
  have hc := c.isLt
  rw [h1, ← Finset.sum_Ico_consecutive _ (m := 256 * p) (n := 256 * p + c.val) (k := 256 * (p + 1)) (by omega) (by omega)]
  rw [Finset.sum_eq_zero fun j hj => by rw [if_neg (by have := (Finset.mem_Ico.mp hj).2; omega), mul_zero], zero_add]
  exact Finset.sum_congr rfl fun j hj => by rw [if_pos (Finset.mem_Ico.mp hj).1, mul_one]

/-- The weight in block `p`: from the tail of the block and the total of the later blocks. -/
theorem a_block (z : ℕ → ℝ) (t : ℕ) {p : ℕ} (hp : p < 16) (c : Fin 256) :
    a z t (256 * p + c.val)
      = if 256 * p + c.val < t then
          Real.exp (z (256 * p + c.val)
            - (∑ j : Fin 256, w z t (256 * p + j.val) * (if c.val ≤ j.val then 1 else 0) + run z t (p + 1)))
        else 0 := by
  have hc := c.isLt
  rw [a, tail_block, run, Finset.sum_Ico_consecutive _ (by omega) (by omega)]

end Cert.Stick

end
-- ==== Proof.StickBlock.lean ====
/-
  What one key block of the stick-breaking kernel adds, read at one query row and one lane: the two carried totals after
  the query's own block (the causal mask applied), and after each earlier block.
-/
module

public import proofs.«01_k».proof.Proof.Gen.KernelIdeal.Skeleton
public import proofs.«01_k».proof.Proof.StickMath
public import Idealize.ShloMosaic.Lib.Pointwise
public import Idealize.ShloMosaic.Lib.WordCmp

@[expose] public section

set_option maxRecDepth 16384

noncomputable section

open Idealize.ShloMosaic
open Cert.KernelIdeal Cert.KernelIdeal.Gen

namespace Cert.Stick

/-- The softplus as the kernel spells it. -/
theorem kernel_softplus (z : ℝ) :
    max (z : EReal) 0 + Ideal.log1p (Ideal.exp (0 - max (z : EReal) (-(z : EReal)))) = ((sp z : ℝ) : EReal) := by
  rw [zero_sub]; exact softplus_coe z

/-- The exponent's tail over a block: the block's sticks, and their rounding remainders (all zero over the reals), against
    the lower-triangular ones, plus the carried total. -/
theorem tail_coe (f : Fin 256 → ℝ) (c : Fin 256) (R : ℝ) :
    (∑ j : Fin 256, ((f j : ℝ) : EReal) * (if c.val ≤ j.val then 1 else 0)
        + ∑ j : Fin 256, (((f j : ℝ) : EReal) - ((f j : ℝ) : EReal)) * (if c.val ≤ j.val then 1 else 0)) + ((R : ℝ) : EReal)
      = ((∑ j : Fin 256, f j * (if c.val ≤ j.val then 1 else 0) + R : ℝ) : EReal) := by
  have h0 : ∑ j : Fin 256, (((f j : ℝ) : EReal) - ((f j : ℝ) : EReal)) * (if c.val ≤ j.val then (1 : EReal) else 0) = 0 :=
    Finset.sum_eq_zero fun j _ => by rw [← EReal.coe_sub, sub_self, EReal.coe_zero, zero_mul]
  rw [h0, add_zero, EReal.coe_add, coe_sum]
  refine congrArg (· + _) (Finset.sum_congr rfl fun j _ => ?_)
  rw [EReal.coe_mul]
  congr 1
  by_cases h : c.val ≤ j.val
  · rw [if_pos h, if_pos h, EReal.coe_one]
  · rw [if_neg h, if_neg h, EReal.coe_zero]

variable (z : ℕ → ℝ) (u : ℕ → EReal) (t p : ℕ)

/-- The stick of one key of an earlier block. -/
theorem pay17_at (q : FVec Ideal S256x128 .bf16) (kb : Vec Ideal S1x256x128 .bf16) (r c : Fin 256)
    (hz : ∑ d : Fin 128, q (ix2 r d) * kb (ix3 0 c d) = ((z (256 * p + c.val) : ℝ) : EReal)) (hlt : 256 * p + c.val < t) :
    k0_pay17 q kb (ix2 r c) = ((w z t (256 * p + c.val) : ℝ) : EReal) := by
  pointwise [k0_pay17, k0_pay16]
  rw [hz, w, if_pos hlt]
  exact kernel_softplus _

/-- The carried total of the stick after an earlier block. -/
theorem pay19_at (hp : p < 16) (hpt : 256 * (p + 1) ≤ t)
    (q : FVec Ideal S256x128 .bf16) (rn : FVec Ideal S256x1 .f32) (kb : Vec Ideal S1x256x128 .bf16) (r : Fin 256)
    (hz : ∀ c : Fin 256, ∑ d : Fin 128, q (ix2 r d) * kb (ix3 0 c d) = ((z (256 * p + c.val) : ℝ) : EReal))
    (hrn : rn (ix2 r 0) = ((run z t (p + 1) : ℝ) : EReal)) :
    k0_pay19 q rn kb (ix2 r 0) = ((run z t p : ℝ) : EReal) := by
  pointwise [k0_pay19]
  rw [hrn, run_block z t hp, EReal.coe_add, coe_sum]
  exact congrArg (_ + ·) (Finset.sum_congr rfl fun c _ => pay17_at z t p q kb r c (hz c) (by have := c.isLt; omega))

/-- The carried weighted values after an earlier block. -/
theorem pay18_at (hp : p < 16) (hpt : 256 * (p + 1) ≤ t)
    (tri : FVec Ideal S256x256 .bf16) (htri : ∀ j c : Fin 256, tri (ix2 j c) = if c.val ≤ j.val then (1 : EReal) else 0)
    (mk : FVec Ideal S1x128 .bf16)
    (q : FVec Ideal S256x128 .bf16) (rn : FVec Ideal S256x1 .f32) (ac : FVec Ideal S256x128 .f32)
    (kb vb : Vec Ideal S1x256x128 .bf16) (r : Fin 256) (l : Fin 128)
    (hz : ∀ c : Fin 256, ∑ d : Fin 128, q (ix2 r d) * kb (ix3 0 c d) = ((z (256 * p + c.val) : ℝ) : EReal))
    (hu : ∀ c : Fin 256, vb (ix3 0 c l) * mk (ix2 0 l) = u (256 * p + c.val))
    (hrn : rn (ix2 r 0) = ((run z t (p + 1) : ℝ) : EReal)) (hac : ac (ix2 r l) = acc z u t (p + 1)) :
    k0_pay18 tri mk q rn ac kb vb (ix2 r l) = acc z u t p := by
  pointwise [k0_pay18]
  rw [hac, acc_block z u t hp]
  refine congrArg (_ + ·) (Finset.sum_congr rfl fun c _ => ?_)
  have hsp : ∀ j : Fin 256, k0_pay17 q kb (ix2 r j) = ((w z t (256 * p + j.val) : ℝ) : EReal) :=
    fun j => pay17_at z t p q kb r j (hz j) (by have := j.isLt; omega)
  have hz16 : k0_pay16 q kb (ix2 r c) = ((z (256 * p + c.val) : ℝ) : EReal) := by
    pointwise [k0_pay16]; exact hz c
  simp only [hsp, htri]
  rw [hu c, hz16, hrn, tail_coe (fun j => w z t (256 * p + j.val)) c, ← EReal.coe_sub, Ideal.exp_coe, a_block z t hp c,
    if_pos (by have := c.isLt; omega)]

/-! ## The query's own block: the causal mask -/

/-- The mask of the query's own block: the keys strictly before the query. -/
theorem mask_at (r c : Fin 256) (x y : EReal) :
    Scalar.select (k0_pay5 (ix2 r c)) x y = if c.val < r.val then x else y := by
  have hc := c.isLt
  have hr := r.isLt
  pointwise [k0_pay5]
  have h : IntOp.cmpi .slt (BitVec.ofNat 32 c.val) (BitVec.ofNat 32 r.val) = if c.val < r.val then 1#1 else 0#1 := by
    rw [WordCmp.cmpi_slt_ofNat (by omega) (by omega)]
    by_cases hlt : c.val < r.val
    · rw [if_pos hlt, decide_eq_true hlt]; rfl
    · rw [if_neg hlt, decide_eq_false hlt]; rfl
  rw [h]
  by_cases hlt : c.val < r.val
  · rw [if_pos hlt, if_pos hlt]; rfl
  · rw [if_neg hlt, if_neg hlt]; rfl

/-- The stick of one key of the query's own block. -/
theorem diag_w (r c : Fin 256) :
    (if c.val < r.val then ((sp (z (256 * p + c.val)) : ℝ) : EReal) else 0)
      = ((w z (256 * p + r.val) (256 * p + c.val) : ℝ) : EReal) := by
  unfold w
  by_cases h : c.val < r.val
  · rw [if_pos h, if_pos (by omega)]
  · rw [if_neg h, if_neg (by omega), EReal.coe_zero]

/-- The sticks of the query's own block, first head of the pair. -/
theorem pay11_at (qv kb : Vec Ideal S1x256x128 .bf16) (r c : Fin 256)
    (hz : ∑ d : Fin 128, k0_pay7 qv (ix2 r d) * kb (ix3 0 c d) = ((z (256 * p + c.val) : ℝ) : EReal)) :
    k0_pay11 qv kb (ix2 r c) = ((w z (256 * p + r.val) (256 * p + c.val) : ℝ) : EReal) := by
  pointwise [k0_pay11, k0_pay10]
  rw [hz, mask_at, ← diag_w]
  exact if_congr Iff.rfl (kernel_softplus _) rfl

/-- The sticks of the query's own block, second head of the pair. -/
theorem pay31_at (v9 : FVec Ideal S1x128 .bf16) (v11 : FVec Ideal S256x128 .bf16) (kb : Vec Ideal S1x256x128 .bf16) (r c : Fin 256)
    (hz : ∑ d : Fin 128, k0_pay25 v9 v11 (ix2 r d) * kb (ix3 0 c d) = ((z (256 * p + c.val) : ℝ) : EReal)) :
    k0_pay31 k0_pay5 (k0_pay29 v9 v11 kb) (k0_pay30 v9 v11 kb) (Scalar.ofBits .f32 0x00000000#32) (ix2 r c)
      = ((w z (256 * p + r.val) (256 * p + c.val) : ℝ) : EReal) := by
  pointwise [k0_pay31, k0_pay29, k0_pay30, k0_pay28]
  rw [hz, mask_at, ← diag_w]
  exact if_congr Iff.rfl (kernel_softplus _) rfl

/-- The first head's total after the query's own block. -/
theorem pay15_at (hp : p < 16) (qv kb : Vec Ideal S1x256x128 .bf16) (r : Fin 256)
    (hz : ∀ c : Fin 256, ∑ d : Fin 128, k0_pay7 qv (ix2 r d) * kb (ix3 0 c d) = ((z (256 * p + c.val) : ℝ) : EReal)) :
    k0_pay15 (k0_pay8 (F := Ideal)) (k0_pay11 qv kb) (ix2 r 0) = ((run z (256 * p + r.val) p : ℝ) : EReal) := by
  have hr := r.isLt
  pointwise [k0_pay15, k0_pay8]
  rw [run_block z _ hp, run_after z (by omega), zero_add, coe_sum]
  exact Finset.sum_congr rfl fun c _ => pay11_at z p qv kb r c (hz c)

/-- The second head's total after the query's own block. -/
theorem pay33_at (hp : p < 16) (v9 : FVec Ideal S1x128 .bf16) (v11 : FVec Ideal S256x128 .bf16) (kb : Vec Ideal S1x256x128 .bf16)
    (r : Fin 256)
    (hz : ∀ c : Fin 256, ∑ d : Fin 128, k0_pay25 v9 v11 (ix2 r d) * kb (ix3 0 c d) = ((z (256 * p + c.val) : ℝ) : EReal)) :
    k0_pay33 k0_pay5 (k0_pay26 (F := Ideal)) (k0_pay29 v9 v11 kb) (k0_pay30 v9 v11 kb) (Scalar.ofBits .f32 0x00000000#32) (ix2 r 0)
      = ((run z (256 * p + r.val) p : ℝ) : EReal) := by
  have hr := r.isLt
  have hsp : ∀ j : Fin 256, k0_pay31 k0_pay5 (k0_pay29 v9 v11 kb) (k0_pay30 v9 v11 kb) (Scalar.ofBits .f32 0x00000000#32) (ix2 r j)
      = ((w z (256 * p + r.val) (256 * p + j.val) : ℝ) : EReal) :=
    fun j => pay31_at z p v9 v11 kb r j (hz j)
  generalize hE : k0_pay31 k0_pay5 (k0_pay29 v9 v11 kb) (k0_pay30 v9 v11 kb) (Scalar.ofBits .f32 0x00000000#32) = E at hsp
  unfold k0_pay33
  rw [hE]
  pointwise [k0_pay26]
  rw [run_block z _ hp, run_after z (by omega), zero_add, coe_sum]
  exact Finset.sum_congr rfl fun c _ => hsp c

/-- One weight of the query's own block, from the masked sticks. -/
theorem diag_a (hp : p < 16) (r c : Fin 256) :
    (if c.val < r.val then
        Ideal.exp (((z (256 * p + c.val) : ℝ) : EReal)
          - ((∑ j : Fin 256, ((w z (256 * p + r.val) (256 * p + j.val) : ℝ) : EReal) * (if c.val ≤ j.val then 1 else 0)
              + ∑ j : Fin 256, (((w z (256 * p + r.val) (256 * p + j.val) : ℝ) : EReal)
                  - ((w z (256 * p + r.val) (256 * p + j.val) : ℝ) : EReal)) * (if c.val ≤ j.val then 1 else 0)) + 0))
      else 0) = ((a z (256 * p + r.val) (256 * p + c.val) : ℝ) : EReal) := by
  have hr := r.isLt
  have h := tail_coe (fun j => w z (256 * p + r.val) (256 * p + j.val)) c 0
  rw [EReal.coe_zero] at h
  rw [h, ← EReal.coe_sub, Ideal.exp_coe, a_block z _ hp c, run_after z (by omega)]
  by_cases h : c.val < r.val
  · rw [if_pos h, if_pos (by omega)]
  · rw [if_neg h, if_neg (by omega), EReal.coe_zero]

/-- The first head's weighted values after the query's own block. -/
theorem pay14_at (hp : p < 16)
    (tri : FVec Ideal S256x256 .bf16) (htri : ∀ j c : Fin 256, tri (ix2 j c) = if c.val ≤ j.val then (1 : EReal) else 0)
    (mk : FVec Ideal S1x128 .bf16) (qv kb vb : Vec Ideal S1x256x128 .bf16) (r : Fin 256) (l : Fin 128)
    (hz : ∀ c : Fin 256, ∑ d : Fin 128, k0_pay7 qv (ix2 r d) * kb (ix3 0 c d) = ((z (256 * p + c.val) : ℝ) : EReal))
    (hu : ∀ c : Fin 256, vb (ix3 0 c l) * mk (ix2 0 l) = u (256 * p + c.val)) :
    k0_pay14 tri mk k0_pay5 (k0_pay8 (F := Ideal)) (k0_pay9 (F := Ideal)) (k0_pay10 qv kb) (k0_pay12 qv kb) (k0_pay13 qv kb) vb
        (ix2 r l) = acc z u (256 * p + r.val) p := by
  have hr := r.isLt
  have hsp : ∀ j : Fin 256, k0_pay11 qv kb (ix2 r j) = ((w z (256 * p + r.val) (256 * p + j.val) : ℝ) : EReal) :=
    fun j => pay11_at z p qv kb r j (hz j)
  have hz10 : ∀ c : Fin 256, k0_pay10 qv kb (ix2 r c) = ((z (256 * p + c.val) : ℝ) : EReal) := fun c => by
    pointwise [k0_pay10]; exact hz c
  rw [acc_block z u _ hp, acc_after z u (by omega), zero_add]
  pointwise [k0_pay14, k0_pay8, k0_pay9, k0_pay12, k0_pay13]
  refine Finset.sum_congr rfl fun c _ => ?_
  simp only [hsp, htri, hz10, hu, mask_at]
  rw [← diag_a z p hp r c]
  simp only [add_zero, ite_mul, zero_mul]

/-- The second head's weighted values after the query's own block. -/
theorem pay32_at (hp : p < 16)
    (tri : FVec Ideal S256x256 .bf16) (htri : ∀ j c : Fin 256, tri (ix2 j c) = if c.val ≤ j.val then (1 : EReal) else 0)
    (v9 : FVec Ideal S1x128 .bf16) (v11 : FVec Ideal S256x128 .bf16) (kb vb : Vec Ideal S1x256x128 .bf16) (r : Fin 256) (l : Fin 128)
    (hz : ∀ c : Fin 256, ∑ d : Fin 128, k0_pay25 v9 v11 (ix2 r d) * kb (ix3 0 c d) = ((z (256 * p + c.val) : ℝ) : EReal))
    (hu : ∀ c : Fin 256, vb (ix3 0 c l) * v9 (ix2 0 l) = u (256 * p + c.val)) :
    k0_pay32 tri v9 k0_pay5 (k0_pay26 (F := Ideal)) (k0_pay27 (F := Ideal)) (k0_pay28 v9 v11 kb) (k0_pay29 v9 v11 kb)
        (k0_pay30 v9 v11 kb) (Scalar.ofBits .f32 0x00000000#32) vb (ix2 r l) = acc z u (256 * p + r.val) p := by
  have hr := r.isLt
  have hsp : ∀ j : Fin 256, k0_pay31 k0_pay5 (k0_pay29 v9 v11 kb) (k0_pay30 v9 v11 kb) (Scalar.ofBits .f32 0x00000000#32) (ix2 r j)
      = ((w z (256 * p + r.val) (256 * p + j.val) : ℝ) : EReal) :=
    fun j => pay31_at z p v9 v11 kb r j (hz j)
  have hz28 : ∀ c : Fin 256, k0_pay28 v9 v11 kb (ix2 r c) = ((z (256 * p + c.val) : ℝ) : EReal) := fun c => by
    pointwise [k0_pay28]; exact hz c
  rw [acc_block z u _ hp, acc_after z u (by omega), zero_add]
  generalize hE : k0_pay31 k0_pay5 (k0_pay29 v9 v11 kb) (k0_pay30 v9 v11 kb) (Scalar.ofBits .f32 0x00000000#32) = E at hsp
  generalize hZ : k0_pay28 v9 v11 kb = Z at hz28
  unfold k0_pay32
  rw [hE]
  pointwise [k0_pay26, k0_pay27]
  refine Finset.sum_congr rfl fun c _ => ?_
  simp only [hsp, htri, hz28, hu, mask_at]
  rw [← diag_a z p hp r c]
  simp only [add_zero, ite_mul, zero_mul]

end Cert.Stick

end
-- ==== Proof.StickOffsets.lean ====
/-
  The key loops of the stick-breaking kernel in closed form: how many earlier blocks a query block visits, and where the
  `k`-th of them starts.
-/
module

public import proofs.«01_k».proof.Proof.Gen.KernelIdeal

@[expose] public section

set_option maxRecDepth 16384

noncomputable section

open Idealize.ShloMosaic
open Cert.KernelIdeal Cert.KernelIdeal.Gen

namespace Cert.Stick

/-- The first head's loop visits every earlier key block. -/
theorem t1_trips : ∀ i : grid0.Coords, (k0_t1_loop i).trips = (i 2).val := by decide +kernel

/-- The second head's loop visits every earlier key block. -/
theorem t3_trips : ∀ i : grid0.Coords, (k0_t3_loop i).trips = (i 2).val := by decide +kernel

/-- The first head's remainder loop is empty. -/
theorem t2_trips (i : grid0.Coords) : (k0_t2_loop i).trips = 0 := Nat.le_zero.mp (k0_t2_abs i).2.1

/-- The second head's remainder loop is empty. -/
theorem t4_trips (i : grid0.Coords) : (k0_t4_loop i).trips = 0 := Nat.le_zero.mp (k0_t4_abs i).2.1

/-- The blocks of the first head's loop, from the nearest one back. -/
theorem off2_eq : ∀ (i : grid0.Coords) (k : Fin (k0_t1_loop i).trips), k0_off2 i k = ![0, 256 * ((i 2).val - 1 - k.val), 0] := by
  decide +kernel

/-- The blocks of the second head's loop, from the nearest one back. -/
theorem off4_eq : ∀ (i : grid0.Coords) (k : Fin (k0_t3_loop i).trips), k0_off4 i k = ![0, 256 * ((i 2).val - 1 - k.val), 0] := by
  decide +kernel

end Cert.Stick

end
-- ==== Proof.StickLoop.lean ====
/-
  The stick-breaking kernel's key loops, and what its body leaves in the output block: at a query row and a lane, the two
  heads' weighted values over every key before the query.
-/
module

public import proofs.«01_k».proof.Proof.StickBlock
public import proofs.«01_k».proof.Proof.StickOffsets
public import proofs.«01_k».proof.Proof.Gen.KernelIdeal.Value
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic
open Cert.KernelIdeal Cert.KernelIdeal.Gen

namespace Cert.Stick

variable (c : Dev nD) (i : grid0.Coords)
    (arg3 : Memref sig .tc .vmem S1x256x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S256x256 .bf16) (harg6 : arg6.IsWhole)
    (arg7 : Memref sig .tc .vmem S1x256x128 .bf16) (harg7 : arg7.IsWhole)

/-- A block of 256 rows read out of the whole sequence. -/
theorem ld_block (X : Vec Ideal S1x4096x128 .bf16) (off : Fin S1x4096x128.rank → ℕ) (p : ℕ) (hp : p < 16) (ho : off = ![0, 256 * p, 0])
    (inb : ∀ a, off a + S1x256x128.size a ≤ S1x4096x128.size a) (x : Fin 256) (d : Fin 128) :
    View.ld X (Rect.unit (s := S1x4096x128) off S1x256x128.size inb) (ix3 0 x d)
      = X (ix3 0 ⟨256 * p + x.val, by have := x.isLt; omega⟩ d) := by
  subst ho
  refine View.ld_unit_apply_of X _ _ inb _ _ fun a => ?_
  fin_cases a
  · rfl
  · rfl
  · exact (Nat.zero_add _).symm

/-- One visit of the first head's loop: the two totals, from the block's keys and values. -/
theorem trip_t1 (arg2 : BitVec 32) (v1 : FVec Ideal S256x256 .bf16) (v7 : FVec Ideal S1x128 .bf16) (v9 : FVec Ideal S1x128 .bf16)
    (v11 : FVec Ideal S256x128 .bf16) (v14 : IVec S256x256 1) (v15 : FVec Ideal S256x128 .f32) (v17 : FVec Ideal S256x128 .bf16)
    (v18 : FVec Ideal S256x1 .f32) (v19 : FVec Ideal S256x128 .f32) (v21 : BitVec 32) (v25 v35 : FVec Ideal S256x256 .f32)
    (v36 v39 : FVec Ideal S256x256 .bf16)
    (x1 x2 : Vec Ideal S1x4096x128 .bf16) (k : Fin (k0_t1_loop i).trips) (s : FVec Ideal S256x1 .f32 × FVec Ideal S256x128 .f32) :
    tripR_k0_t1 (F := Ideal) Variants.none c none i arg3 harg3 arg4 harg4 arg5 harg5 arg6 harg6 arg7 harg7 arg2 v1 v7 v9 v11 v14 v15 v17 v18 v19 v21 v25 v35 v36 v39
        (harg4.unread x1) (harg5.unread x2) k s
      = (k0_pay19 v17 s.1 (View.ld x1 (Rect.unit (s := S1x4096x128) (k0_off2 i k) S1x256x128.size (k0_off2_inb i k))),
         k0_pay18 v1 v7 v17 s.1 s.2 (View.ld x1 (Rect.unit (s := S1x4096x128) (k0_off2 i k) S1x256x128.size (k0_off2_inb i k)))
          (View.ld x2 (Rect.unit (s := S1x4096x128) (k0_off2 i k) S1x256x128.size (k0_off2_inb i k)))) := by
  unfold tripR_k0_t1 trip_k0_t1
  dsimp only
  sl_unfold_words
  simp only [View.readAt_eq_ld, harg4.read_unread, harg5.read_unread]

/-- The first head's loop: after `n` visits the totals are those of the keys from the last visited block on. -/
theorem inv_t1 (arg2 : BitVec 32) (v1 : FVec Ideal S256x256 .bf16) (v7 : FVec Ideal S1x128 .bf16) (v9 : FVec Ideal S1x128 .bf16)
    (v11 : FVec Ideal S256x128 .bf16) (v14 : IVec S256x256 1) (v15 : FVec Ideal S256x128 .f32) (v17 : FVec Ideal S256x128 .bf16)
    (v18 : FVec Ideal S256x1 .f32) (v19 : FVec Ideal S256x128 .f32) (v21 : BitVec 32) (v25 v35 : FVec Ideal S256x256 .f32)
    (v36 v39 : FVec Ideal S256x256 .bf16)
    (x1 x2 : Vec Ideal S1x4096x128 .bf16) (z : ℕ → ℝ) (u : ℕ → EReal) (r : Fin 256) (l : Fin 128)
    (htri : ∀ j b : Fin 256, v1 (ix2 j b) = if b.val ≤ j.val then (1 : EReal) else 0)
    (hz : ∀ s : Fin 4096, ∑ d : Fin 128, v17 (ix2 r d) * x1 (ix3 0 s d) = ((z s.val : ℝ) : EReal))
    (hu : ∀ s : Fin 4096, x2 (ix3 0 s l) * v7 (ix2 0 l) = u s.val)
    (rn : FVec Ideal S256x1 .f32) (ac : FVec Ideal S256x128 .f32)
    (h1 : rn (ix2 r 0) = ((run z (256 * (i 2).val + r.val) (i 2).val : ℝ) : EReal))
    (h2 : ac (ix2 r l) = acc z u (256 * (i 2).val + r.val) (i 2).val) :
    ∀ n : ℕ, n ≤ (i 2).val →
      (st_k0_t1 (F := Ideal) Variants.none c none i arg3 harg3 arg4 harg4 arg5 harg5 arg6 harg6 arg7 harg7 arg2 v1 v7 v9 v11 v14 v15 v17 v18 v19 v21 v25 v35 v36 v39
          (harg4.unread x1) (harg5.unread x2) (rn, ac) n).1 (ix2 r 0) = ((run z (256 * (i 2).val + r.val) ((i 2).val - n) : ℝ) : EReal)
      ∧ (st_k0_t1 (F := Ideal) Variants.none c none i arg3 harg3 arg4 harg4 arg5 harg5 arg6 harg6 arg7 harg7 arg2 v1 v7 v9 v11 v14 v15 v17 v18 v19 v21 v25 v35 v36 v39
          (harg4.unread x1) (harg5.unread x2) (rn, ac) n).2 (ix2 r l) = acc z u (256 * (i 2).val + r.val) ((i 2).val - n) := by
  intro n
  induction n with
  | zero => exact fun _ => ⟨h1, h2⟩
  | succ n ih =>
    intro hn
    obtain ⟨i1, i2⟩ := ih (by omega)
    have hi : (i 2).val < 16 := (i 2).isLt
    have hk : n < (k0_t1_loop i).trips := by rw [t1_trips]; omega
    have e := st_k0_t1_succ (F := Ideal) Variants.none c none i arg3 harg3 arg4 harg4 arg5 harg5 arg6 harg6 arg7 harg7 arg2 v1 v7 v9 v11 v14 v15 v17 v18 v19 v21 v25 v35 v36 v39
      (harg4.unread x1) (harg5.unread x2) (rn, ac) ⟨n, hk⟩
    dsimp only at e
    rw [e, trip_t1]
    have hoff := off2_eq i ⟨n, hk⟩
    have hs : (i 2).val - n = (i 2).val - 1 - n + 1 := by omega
    rw [hs] at i1 i2
    rw [show (i 2).val - (n + 1) = (i 2).val - 1 - n by omega]
    have hz' : ∀ b : Fin 256, ∑ d : Fin 128, v17 (ix2 r d)
        * View.ld x1 (Rect.unit (s := S1x4096x128) (k0_off2 i ⟨n, hk⟩) S1x256x128.size (k0_off2_inb i ⟨n, hk⟩)) (ix3 0 b d)
          = ((z (256 * ((i 2).val - 1 - n) + b.val) : ℝ) : EReal) := fun b => by
      simp only [ld_block x1 _ _ (by omega) hoff]
      exact hz _
    have hu' : ∀ b : Fin 256,
        View.ld x2 (Rect.unit (s := S1x4096x128) (k0_off2 i ⟨n, hk⟩) S1x256x128.size (k0_off2_inb i ⟨n, hk⟩)) (ix3 0 b l)
          * v7 (ix2 0 l) = u (256 * ((i 2).val - 1 - n) + b.val) := fun b => by
      rw [ld_block x2 _ _ (by omega) hoff]
      exact hu _
    exact ⟨pay19_at z _ _ (by omega) (by omega) _ _ _ r hz' i1, pay18_at z u _ _ (by omega) (by omega) _ htri _ _ _ _ _ _ r l hz' hu' i1 i2⟩

/-- The first head's loop at its end: the weighted values of every key. -/
theorem fin_t1 (arg2 : BitVec 32) (v1 : FVec Ideal S256x256 .bf16) (v7 : FVec Ideal S1x128 .bf16) (v9 : FVec Ideal S1x128 .bf16)
    (v11 : FVec Ideal S256x128 .bf16) (v14 : IVec S256x256 1) (v15 : FVec Ideal S256x128 .f32) (v17 : FVec Ideal S256x128 .bf16)
    (v18 : FVec Ideal S256x1 .f32) (v19 : FVec Ideal S256x128 .f32) (v21 : BitVec 32) (v25 v35 : FVec Ideal S256x256 .f32)
    (v36 v39 : FVec Ideal S256x256 .bf16)
    (x1 x2 : Vec Ideal S1x4096x128 .bf16) (z : ℕ → ℝ) (u : ℕ → EReal) (r : Fin 256) (l : Fin 128)
    (htri : ∀ j b : Fin 256, v1 (ix2 j b) = if b.val ≤ j.val then (1 : EReal) else 0)
    (hz : ∀ s : Fin 4096, ∑ d : Fin 128, v17 (ix2 r d) * x1 (ix3 0 s d) = ((z s.val : ℝ) : EReal))
    (hu : ∀ s : Fin 4096, x2 (ix3 0 s l) * v7 (ix2 0 l) = u s.val)
    (rn : FVec Ideal S256x1 .f32) (ac : FVec Ideal S256x128 .f32)
    (h1 : rn (ix2 r 0) = ((run z (256 * (i 2).val + r.val) (i 2).val : ℝ) : EReal))
    (h2 : ac (ix2 r l) = acc z u (256 * (i 2).val + r.val) (i 2).val) :
    (st_k0_t1 (F := Ideal) Variants.none c none i arg3 harg3 arg4 harg4 arg5 harg5 arg6 harg6 arg7 harg7 arg2 v1 v7 v9 v11 v14 v15 v17 v18 v19 v21 v25 v35 v36 v39
        (harg4.unread x1) (harg5.unread x2) (rn, ac) (i 2).val).2 (ix2 r l) = acc z u (256 * (i 2).val + r.val) 0 := by
  have h := (inv_t1 c i arg3 harg3 arg4 harg4 arg5 harg5 arg6 harg6 arg7 harg7 arg2 v1 v7 v9 v11 v14 v15 v17 v18 v19 v21 v25 v35 v36 v39 x1 x2 z u r l htri hz hu rn ac h1 h2 (i 2).val le_rfl).2
  rw [Nat.sub_self] at h
  exact h

/-- One visit of the second head's loop: the two totals, from the block's keys and values. -/
theorem trip_t3 (v1 : FVec Ideal S256x256 .bf16) (v9 : FVec Ideal S1x128 .bf16) (v69 : FVec Ideal S256x128 .bf16)
    (x1 x2 : Vec Ideal S1x4096x128 .bf16) (k : Fin (k0_t3_loop i).trips) (s : FVec Ideal S256x1 .f32 × FVec Ideal S256x128 .f32) :
    tripR_k0_t3 (F := Ideal) Variants.none c none i arg3 harg3 arg4 harg4 arg5 harg5 arg6 harg6 arg7 harg7 v1 v9 v69
        (harg4.unread x1) (harg5.unread x2) k s
      = (k0_pay37 v69 s.1 (View.ld x1 (Rect.unit (s := S1x4096x128) (k0_off4 i k) S1x256x128.size (k0_off4_inb i k))),
         k0_pay36 v1 v9 v69 s.1 s.2 (View.ld x1 (Rect.unit (s := S1x4096x128) (k0_off4 i k) S1x256x128.size (k0_off4_inb i k)))
          (View.ld x2 (Rect.unit (s := S1x4096x128) (k0_off4 i k) S1x256x128.size (k0_off4_inb i k)))) := by
  unfold tripR_k0_t3 trip_k0_t3
  dsimp only
  sl_unfold_words
  simp only [View.readAt_eq_ld, harg4.read_unread, harg5.read_unread]

/-- The second head's loop: after `n` visits the totals are those of the keys from the last visited block on. -/
theorem inv_t3 (v1 : FVec Ideal S256x256 .bf16) (v9 : FVec Ideal S1x128 .bf16) (v69 : FVec Ideal S256x128 .bf16)
    (x1 x2 : Vec Ideal S1x4096x128 .bf16) (z : ℕ → ℝ) (u : ℕ → EReal) (r : Fin 256) (l : Fin 128)
    (htri : ∀ j b : Fin 256, v1 (ix2 j b) = if b.val ≤ j.val then (1 : EReal) else 0)
    (hz : ∀ s : Fin 4096, ∑ d : Fin 128, v69 (ix2 r d) * x1 (ix3 0 s d) = ((z s.val : ℝ) : EReal))
    (hu : ∀ s : Fin 4096, x2 (ix3 0 s l) * v9 (ix2 0 l) = u s.val)
    (rn : FVec Ideal S256x1 .f32) (ac : FVec Ideal S256x128 .f32)
    (h1 : rn (ix2 r 0) = ((run z (256 * (i 2).val + r.val) (i 2).val : ℝ) : EReal))
    (h2 : ac (ix2 r l) = acc z u (256 * (i 2).val + r.val) (i 2).val) :
    ∀ n : ℕ, n ≤ (i 2).val →
      (st_k0_t3 (F := Ideal) Variants.none c none i arg3 harg3 arg4 harg4 arg5 harg5 arg6 harg6 arg7 harg7 v1 v9 v69
          (harg4.unread x1) (harg5.unread x2) (rn, ac) n).1 (ix2 r 0) = ((run z (256 * (i 2).val + r.val) ((i 2).val - n) : ℝ) : EReal)
      ∧ (st_k0_t3 (F := Ideal) Variants.none c none i arg3 harg3 arg4 harg4 arg5 harg5 arg6 harg6 arg7 harg7 v1 v9 v69
          (harg4.unread x1) (harg5.unread x2) (rn, ac) n).2 (ix2 r l) = acc z u (256 * (i 2).val + r.val) ((i 2).val - n) := by
  intro n
  induction n with
  | zero => exact fun _ => ⟨h1, h2⟩
  | succ n ih =>
    intro hn
    obtain ⟨i1, i2⟩ := ih (by omega)
    have hi : (i 2).val < 16 := (i 2).isLt
    have hk : n < (k0_t3_loop i).trips := by rw [t3_trips]; omega
    have e := st_k0_t3_succ (F := Ideal) Variants.none c none i arg3 harg3 arg4 harg4 arg5 harg5 arg6 harg6 arg7 harg7 v1 v9 v69
      (harg4.unread x1) (harg5.unread x2) (rn, ac) ⟨n, hk⟩
    dsimp only at e
    rw [e, trip_t3]
    have hoff := off4_eq i ⟨n, hk⟩
    have hs : (i 2).val - n = (i 2).val - 1 - n + 1 := by omega
    rw [hs] at i1 i2
    rw [show (i 2).val - (n + 1) = (i 2).val - 1 - n by omega]
    have hz' : ∀ b : Fin 256, ∑ d : Fin 128, v69 (ix2 r d)
        * View.ld x1 (Rect.unit (s := S1x4096x128) (k0_off4 i ⟨n, hk⟩) S1x256x128.size (k0_off4_inb i ⟨n, hk⟩)) (ix3 0 b d)
          = ((z (256 * ((i 2).val - 1 - n) + b.val) : ℝ) : EReal) := fun b => by
      simp only [ld_block x1 _ _ (by omega) hoff]
      exact hz _
    have hu' : ∀ b : Fin 256,
        View.ld x2 (Rect.unit (s := S1x4096x128) (k0_off4 i ⟨n, hk⟩) S1x256x128.size (k0_off4_inb i ⟨n, hk⟩)) (ix3 0 b l)
          * v9 (ix2 0 l) = u (256 * ((i 2).val - 1 - n) + b.val) := fun b => by
      rw [ld_block x2 _ _ (by omega) hoff]
      exact hu _
    exact ⟨pay19_at z _ _ (by omega) (by omega) _ _ _ r hz' i1, pay18_at z u _ _ (by omega) (by omega) _ htri _ _ _ _ _ _ r l hz' hu' i1 i2⟩

/-- The second head's loop at its end: the weighted values of every key. -/
theorem fin_t3 (v1 : FVec Ideal S256x256 .bf16) (v9 : FVec Ideal S1x128 .bf16) (v69 : FVec Ideal S256x128 .bf16)
    (x1 x2 : Vec Ideal S1x4096x128 .bf16) (z : ℕ → ℝ) (u : ℕ → EReal) (r : Fin 256) (l : Fin 128)
    (htri : ∀ j b : Fin 256, v1 (ix2 j b) = if b.val ≤ j.val then (1 : EReal) else 0)
    (hz : ∀ s : Fin 4096, ∑ d : Fin 128, v69 (ix2 r d) * x1 (ix3 0 s d) = ((z s.val : ℝ) : EReal))
    (hu : ∀ s : Fin 4096, x2 (ix3 0 s l) * v9 (ix2 0 l) = u s.val)
    (rn : FVec Ideal S256x1 .f32) (ac : FVec Ideal S256x128 .f32)
    (h1 : rn (ix2 r 0) = ((run z (256 * (i 2).val + r.val) (i 2).val : ℝ) : EReal))
    (h2 : ac (ix2 r l) = acc z u (256 * (i 2).val + r.val) (i 2).val) :
    (st_k0_t3 (F := Ideal) Variants.none c none i arg3 harg3 arg4 harg4 arg5 harg5 arg6 harg6 arg7 harg7 v1 v9 v69
        (harg4.unread x1) (harg5.unread x2) (rn, ac) (i 2).val).2 (ix2 r l) = acc z u (256 * (i 2).val + r.val) 0 := by
  have h := (inv_t3 c i arg3 harg3 arg4 harg4 arg5 harg5 arg6 harg6 arg7 harg7 v1 v9 v69 x1 x2 z u r l htri hz hu rn ac h1 h2 (i 2).val le_rfl).2
  rw [Nat.sub_self] at h
  exact h

/-- The kernel's body at a query row and a lane: the first head's weighted values plus the second's. -/
theorem out_at (x0 : Vec Ideal S1x256x128 .bf16) (x1 x2 : Vec Ideal S1x4096x128 .bf16) (x3 : Vec Ideal S256x256 .bf16)
    (z0 z1 : ℕ → ℝ) (u0 u1 : ℕ → EReal) (r : Fin 256) (l : Fin 128)
    (htri : ∀ j b : Fin 256, x3 (ix2 j b) = if b.val ≤ j.val then (1 : EReal) else 0)
    (hz0 : ∀ s : Fin 4096, ∑ d : Fin 128, k0_pay7 x0 (ix2 r d) * x1 (ix3 0 s d) = ((z0 s.val : ℝ) : EReal))
    (hz1 : ∀ s : Fin 4096, ∑ d : Fin 128, k0_pay25 k0_pay3 (k0_pay4 x0) (ix2 r d) * x1 (ix3 0 s d) = ((z1 s.val : ℝ) : EReal))
    (hu0 : ∀ s : Fin 4096, x2 (ix3 0 s l) * k0_pay2 (F := Ideal) (ix2 0 l) = u0 s.val)
    (hu1 : ∀ s : Fin 4096, x2 (ix3 0 s l) * k0_pay3 (F := Ideal) (ix2 0 l) = u1 s.val) :
    out0_A_4 c i arg3 harg3 arg4 harg4 arg5 harg5 arg6 harg6 arg7 harg7 x0 x1 x2 x3 (ix3 0 r l)
      = acc z0 u0 (256 * (i 2).val + r.val) 0 + acc z1 u1 (256 * (i 2).val + r.val) 0 := by
  have hi : (i 2).val < 16 := (i 2).isLt
  have htri' : ∀ j b : Fin 256, k0_pay1 x3 (ix2 j b) = if b.val ≤ j.val then (1 : EReal) else 0 := fun j b => by
    pointwise [k0_pay1]; exact htri j b
  have hz0' : ∀ b : Fin 256, ∑ d : Fin 128, k0_pay7 x0 (ix2 r d)
      * View.ld x1 (Rect.unit (s := S1x4096x128) (k0_off1 i) S1x256x128.size (k0_off1_inb i)) (ix3 0 b d)
        = ((z0 (256 * (i 2).val + b.val) : ℝ) : EReal) := fun b => by
    simp only [ld_block x1 _ _ hi (k0_off1_eq i)]; exact hz0 _
  have hz1' : ∀ b : Fin 256, ∑ d : Fin 128, k0_pay25 k0_pay3 (k0_pay4 x0) (ix2 r d)
      * View.ld x1 (Rect.unit (s := S1x4096x128) (k0_off1 i) S1x256x128.size (k0_off1_inb i)) (ix3 0 b d)
        = ((z1 (256 * (i 2).val + b.val) : ℝ) : EReal) := fun b => by
    simp only [ld_block x1 _ _ hi (k0_off1_eq i)]; exact hz1 _
  have hu0' : ∀ b : Fin 256, View.ld x2 (Rect.unit (s := S1x4096x128) (k0_off1 i) S1x256x128.size (k0_off1_inb i)) (ix3 0 b l)
      * k0_pay2 (F := Ideal) (ix2 0 l) = u0 (256 * (i 2).val + b.val) := fun b => by
    rw [ld_block x2 _ _ hi (k0_off1_eq i)]; exact hu0 _
  have hu1' : ∀ b : Fin 256, View.ld x2 (Rect.unit (s := S1x4096x128) (k0_off1 i) S1x256x128.size (k0_off1_inb i)) (ix3 0 b l)
      * k0_pay3 (F := Ideal) (ix2 0 l) = u1 (256 * (i 2).val + b.val) := fun b => by
    rw [ld_block x2 _ _ hi (k0_off1_eq i)]; exact hu1 _
  unfold out0_A_4
  frame_out
  rw [show (Scf.trips
              (Scalar.addi (0#32) (Scalar.muli (Scalar.divsi (Scalar.subi (BitVec.ofNat 32 ↑(i 2)) 0#32) 1#32) 1#32))
              (Scalar.addi (0#32) (Scalar.subi (BitVec.ofNat 32 ↑(i 2)) 0#32)) 1#32) = 0 from t2_trips i,
    show (Scf.trips (0#32)
                    (Scalar.addi (0#32)
                      (Scalar.muli (Scalar.divsi (Scalar.subi (BitVec.ofNat 32 ↑(i 2)) 0#32) 1#32) 1#32))
                    1#32) = (i 2).val from t1_trips i]
  pointwise [k0_pay42, k0_pay24]
  rw [st_k0_t2_zero, st_k0_t4_zero]
  have h6 : k0_pay6 (F := Ideal) (ix2 r l) = 0 := by pointwise [k0_pay6]
  have hc : (Scalar.ofBits .f32 0x00000000#32 : Ideal .f32) = (0 : EReal) := by pointwise
  have p33 := pay33_at z1 (i 2).val hi k0_pay3 (k0_pay4 x0) _ r hz1'
  have p32 := pay32_at z1 u1 (i 2).val hi _ htri' k0_pay3 (k0_pay4 x0) _ _ r l hz1' hu1'
  rw [hc] at p33 p32
  rw [h6, zero_add]
  refine congrArg₂ (fun x y : EReal => x + y) ?_ ?_
  · exact fin_t1 c i arg3 harg3 arg4 harg4 arg5 harg5 arg6 harg6 arg7 harg7 _ _ _ _ _ _ _ _ _ _ _ _ _ _ _ x1 x2 z0 u0 r l htri' hz0 hu0 _ _
      (pay15_at z0 (i 2).val hi x0 _ r hz0') (pay14_at z0 u0 (i 2).val hi _ htri' k0_pay2 x0 _ _ r l hz0' hu0')
  · exact fin_t3 c i arg3 harg3 arg4 harg4 arg5 harg5 arg6 harg6 arg7 harg7 _ _ _ x1 x2 z1 u1 r l htri' hz1 hu1 _ _ p33 p32

end Cert.Stick

end
-- ==== Proof.StickRef.lean ====
/-
  The stick-breaking attention as the reference writes it, read at one batch, head, query and key: scores, sticks, their
  suffix sums, weights, and the weighted values.
-/
module

public import proofs.«01_k».proof.Proof.Gen.ReferenceIdeal.Read
public import proofs.«01_k».proof.Proof.StickMath
public import Idealize.ShloMosaic.Lib.Pointwise
public import Idealize.ShloMosaic.Lib.WordCmp

@[expose] public section

set_option maxRecDepth 16384

noncomputable section

open Idealize.ShloMosaic
open Cert.ReferenceIdeal Cert.ReferenceIdeal.Gen Cert.ReferenceIdeal.Read

namespace Cert.Stick

/-- A fold that adds is the start plus the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The one-row window of 4096 places, counted: place `n` is at the last axis. -/
theorem place_val (n : Fin (⟨4, ![1, 1, 1, 4096]⟩ : Shape).numel) :
    ∀ a, ((⟨4, ![1, 1, 1, 4096]⟩ : Shape).rowMajor.symm n a).val = if a = 3 then n.val else 0 := by
  have e : ((⟨4, ![1, 1, 1, 4096]⟩ : Shape).rowMajor ((⟨4, ![1, 1, 1, 4096]⟩ : Shape).rowMajor.symm n)).val = n.val := by
    rw [Equiv.apply_symm_apply]
  generalize (⟨4, ![1, 1, 1, 4096]⟩ : Shape).rowMajor.symm n = k at e ⊢
  rw [Shape.rowMajor_val_four] at e
  have h0 : (k 0).val < 1 := (k 0).isLt
  have h1 : (k 1).val < 1 := (k 1).isLt
  have h2 : (k 2).val < 1 := (k 2).isLt
  intro a
  change (((k 0).val * 1 + (k 1).val) * 1 + (k 2).val) * 4096 + (k 3).val = n.val at e
  fin_cases a
  · show (k 0).val = 0; omega
  · show (k 1).val = 0; omega
  · show (k 2).val = 0; omega
  · show (k 3).val = n.val; omega

/-- The reversed running sum along the last axis, at an index: the entries from there on. -/
theorem suffix_sum (x : FVec Ideal S8x16x4096x4096 .f32) (init : FVec Ideal S_ .f32)
    (H : S8x16x4096x4096.ReduceWindows (![1, 1, 1, 4096] : Fin 4 → Nat) ![1, 1, 1, 1] ![0, 0, 0, 0] ![0, 0, 0, 4095] S8x16x4096x4096)
    (hu : 0 < S_.numel) (hinit : init (Shape.Idx.first hu) = (0 : EReal))
    (b : Fin 8) (h : Fin 16) (t s : Fin 4096) :
    Host.reduceWindowAdd ![1, 1, 1, 4096] ![1, 1, 1, 1] ![0, 0, 0, 0] ![0, 0, 0, 4095] x init H hu (ix4 b h t s)
      = ∑ n : Fin 4096, if hn : s.val + n.val < 4096 then x (ix4 b h t ⟨s.val + n.val, hn⟩) else (0 : EReal) := by
  unfold Host.reduceWindowAdd
  rw [Ideal.hostReduceWindowAdd_def]
  unfold Ideal.hostReduceWindowAdd Host.reduceWindow
  dsimp only
  rw [hinit]
  refine (foldl_add _ _ _).trans ?_
  rw [zero_add, ← Fin.sum_univ_def]
  have hN : (⟨4, ![1, 1, 1, 4096]⟩ : Shape).numel = 4096 := by decide
  refine (Equiv.sum_comp (finCongr hN.symm) _).symm.trans (Finset.sum_congr rfl fun n _ => ?_)
  have hp := place_val (finCongr hN.symm n)
  have hnv : (finCongr hN.symm n).val = n.val := rfl
  generalize finCongr hN.symm n = n' at hp hnv ⊢
  have hp0 := hp 0
  have hp1 := hp 1
  have hp2 := hp 2
  have hp3 := hp 3
  rw [if_neg (by decide)] at hp0 hp1 hp2
  rw [if_pos rfl, hnv] at hp3
  have hb := b.isLt
  have hh := h.isLt
  have ht := t.isLt
  have q0 : b.val * 1 + ((⟨4, ![1, 1, 1, 4096]⟩ : Shape).rowMajor.symm n' 0).val - 0 = b.val := by rw [hp0]; omega
  have q1 : h.val * 1 + ((⟨4, ![1, 1, 1, 4096]⟩ : Shape).rowMajor.symm n' 1).val - 0 = h.val := by rw [hp1]; omega
  have q2 : t.val * 1 + ((⟨4, ![1, 1, 1, 4096]⟩ : Shape).rowMajor.symm n' 2).val - 0 = t.val := by rw [hp2]; omega
  have q3 : s.val * 1 + ((⟨4, ![1, 1, 1, 4096]⟩ : Shape).rowMajor.symm n' 3).val - 0 = s.val + n.val := by rw [hp3]; omega
  by_cases hn : s.val + n.val < 4096
  · rw [dif_pos hn]
    refine (dif_pos fun a => ?_).trans (congrArg x (funext fun a => Fin.ext ?_))
    · match a with
      | ⟨0, _⟩ => exact ⟨Nat.zero_le _, lt_of_eq_of_lt q0 hb⟩
      | ⟨1, _⟩ => exact ⟨Nat.zero_le _, lt_of_eq_of_lt q1 hh⟩
      | ⟨2, _⟩ => exact ⟨Nat.zero_le _, lt_of_eq_of_lt q2 ht⟩
      | ⟨3, _⟩ => exact ⟨Nat.zero_le _, lt_of_eq_of_lt q3 hn⟩
    · match a with
      | ⟨0, _⟩ => exact q0
      | ⟨1, _⟩ => exact q1
      | ⟨2, _⟩ => exact q2
      | ⟨3, _⟩ => exact q3
  · rw [dif_neg hn]
    exact dif_neg fun hin => hn (lt_of_eq_of_lt q3.symm (hin 3).2)

/-- The entries from a place on, counted from that place or from the start. -/
theorem sum_from (f : ℕ → ℝ) (s : ℕ) (hs : s ≤ 4096) :
    ∑ n : Fin 4096, (if s + n.val < 4096 then ((f (s + n.val) : ℝ) : EReal) else 0) = ((∑ j ∈ Finset.Ico s 4096, f j : ℝ) : EReal) := by
  rw [coe_sum, Finset.sum_Ico_eq_sum_range, ← Finset.sum_range (fun n => if s + n < 4096 then ((f (s + n) : ℝ) : EReal) else 0)]
  symm
  refine (Finset.sum_congr rfl fun n hn => ?_).trans
    (Finset.sum_subset (Finset.range_subset_range.mpr (by omega : 4096 - s ≤ 4096)) fun n _ hn => ?_)
  · rw [if_pos (by have := Finset.mem_range.mp hn; omega)]
  · rw [if_neg (by intro h; exact hn (Finset.mem_range.mpr (by omega)))]

variable (X : FVec Ideal S8x4096x3072 .bf16) (b : Fin 8) (h : Fin 16)

/-- The score of a query and a key, as a real number. -/
def score (t : Fin 4096) : ℕ → ℝ := fun s =>
  if hs : s < 4096 then
    ∑ e : Fin 64, (X (ix3 b t ⟨64 * h.val + e.val, by omega⟩)).toReal * (X (ix3 b ⟨s, hs⟩ ⟨1024 + (64 * h.val + e.val), by omega⟩)).toReal
  else 0

/-- The value of a key, at one lane of a head. -/
def value (e : Fin 64) : ℕ → EReal := fun s =>
  if hs : s < 4096 then X (ix3 b ⟨s, hs⟩ ⟨2048 + (64 * h.val + e.val), by omega⟩) else 0

/-- The score as the sum the programs compute, the queries and keys being finite. -/
theorem score_eq (hfin : ∀ (b : Fin 8) (t : Fin 4096) (d : Fin 3072), d.val < 2048 → ∃ r : ℝ, X (ix3 b t d) = (r : EReal)) (t s : Fin 4096) :
    ∑ e : Fin 64, X (ix3 b t ⟨64 * h.val + e.val, by omega⟩) * X (ix3 b s ⟨1024 + (64 * h.val + e.val), by omega⟩)
      = ((score X b h t s.val : ℝ) : EReal) := by
  rw [score, dif_pos s.isLt, coe_sum]
  refine Finset.sum_congr rfl fun e _ => ?_
  obtain ⟨r, hr⟩ := hfin b t ⟨64 * h.val + e.val, by omega⟩ (show 64 * h.val + e.val < 2048 by omega)
  obtain ⟨r', hr'⟩ := hfin b s ⟨1024 + (64 * h.val + e.val), by omega⟩ (show 1024 + (64 * h.val + e.val) < 2048 by omega)
  rw [EReal.coe_mul, hr, hr', EReal.toReal_coe, EReal.toReal_coe]

/-- The queries, head by head. -/
theorem v5_at (t : Fin 4096) (e : Fin 64) : val_main_v5 (F := Ideal) X (ix4 b t h e) = X (ix3 b t ⟨64 * h.val + e.val, by omega⟩) := by
  pointwise [val_main_v5, val_main_v2, val_main_v1, val_main_v0]
  exact congrArg (fun k => X (ix3 b t k)) (Fin.ext (by simp only; omega))

/-- The keys, head by head. -/
theorem v6_at (t : Fin 4096) (e : Fin 64) :
    val_main_v6 (F := Ideal) X (ix4 b t h e) = X (ix3 b t ⟨1024 + (64 * h.val + e.val), by omega⟩) := by
  pointwise [val_main_v6, val_main_v3, val_main_v1, val_main_v0]
  exact congrArg (fun k => X (ix3 b t k)) (Fin.ext (by simp only; omega))

/-- The values, head by head. -/
theorem v7_at (t : Fin 4096) (e : Fin 64) :
    val_main_v7 (F := Ideal) X (ix4 b t h e) = value X b h e t.val := by
  rw [value, dif_pos t.isLt]
  pointwise [val_main_v7, val_main_v4, val_main_v1, val_main_v0]
  exact congrArg (fun k => X (ix3 b t k)) (Fin.ext (by simp only; omega))

/-- The log-sigmoid as the reference spells it. -/
theorem log_sigmoid (x : EReal) (y : ℝ) (hx : x = ((-y : ℝ) : EReal)) :
    -(if x ≠ x then x else max x 0 + Ideal.log1p (Ideal.exp (-FloatOps.absf (F := Ideal) (φ := .f32) x))) = ((y - sp y : ℝ) : EReal) := by
  rw [if_neg (fun h => h rfl), hx]
  show -(max (((-y : ℝ) : EReal)) 0 + Ideal.log1p (Ideal.exp (-max (((-y : ℝ) : EReal)) (-((-y : ℝ) : EReal))))) = _
  rw [softplus_coe, ← EReal.coe_neg, neg_sp_neg]

section
variable (hfin : ∀ (b : Fin 8) (t : Fin 4096) (d : Fin 3072), d.val < 2048 → ∃ r : ℝ, X (ix3 b t d) = (r : EReal))
include hfin

/-- The scores. -/
theorem v9_at (t s : Fin 4096) : val_main_v9 (F := Ideal) X (ix4 b h t s) = ((score X b h t s.val : ℝ) : EReal) := by
  pointwise [val_main_v9]
  simp only [v5_at, v6_at]
  exact score_eq X b h hfin t s

/-- The logarithm of taking a key. -/
theorem v16_at (t s : Fin 4096) :
    val_main_v16 (F := Ideal) X (ix4 b h t s) = ((score X b h t s.val - sp (score X b h t s.val) : ℝ) : EReal) := by
  pointwise [val_main_v16, val_main_call0_v1, val_main_call0_v0, val_main_call0_call0_v0, val_main_call0_call0_v1,
    val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11,
    val_main_call0_call0_cst]
  exact log_sigmoid _ _ (by rw [v9_at X b h hfin, EReal.coe_neg])

/-- The logarithm of passing over a key. -/
theorem v18_at (t s : Fin 4096) :
    val_main_v18 (F := Ideal) X (ix4 b h t s) = ((-sp (score X b h t s.val) : ℝ) : EReal) := by
  pointwise [val_main_v18, val_main_v17, val_main_call1_v1, val_main_call1_v0, val_main_call1_call0_v0, val_main_call1_call0_v1,
    val_main_call1_call0_v2, val_main_call1_call0_v3, val_main_call1_call0_v4, val_main_call1_call0_v5, val_main_call1_call0_v6,
    val_main_call1_call0_v7, val_main_call1_call0_v8, val_main_call1_call0_v9, val_main_call1_call0_v10, val_main_call1_call0_v11,
    val_main_call1_call0_cst]
  refine (log_sigmoid _ (-score X b h t s.val) (by rw [v9_at X b h hfin, neg_neg]; simp only [neg_neg])).trans ?_
  rw [← neg_sp_neg, neg_neg]

/-- The causal comparison, at a query and a key. -/
theorem causal (t s : Fin 4096) (x y : EReal) :
    Scalar.select (IntOp.cmpi CmpIPredicate.slt (BitVec.ofNat 32 s.val) (BitVec.ofNat 32 t.val)) x y = if s.val < t.val then x else y := by
  rw [WordCmp.cmpi_slt_ofNat (by omega) (by omega)]
  by_cases hlt : s.val < t.val
  · rw [if_pos hlt, decide_eq_true hlt]; rfl
  · rw [if_neg hlt, decide_eq_false hlt]; rfl

/-- The sticks, negated. -/
theorem v19_at (t s : Fin 4096) : val_main_v19 (F := Ideal) X (ix4 b h t s) = ((-w (score X b h t) t.val s.val : ℝ) : EReal) := by
  pointwise [val_main_v19, val_main_call2_v0, val_main_call2_v1, val_main_call2_v2, val_main_v15, val_main_v14, val_main_v13,
    val_main_v12, val_main_v11, val_main_v10, val_main_v8, val_main_cst]
  rw [causal X hfin, v18_at X b h hfin, w]
  by_cases hlt : s.val < t.val
  · rw [if_pos hlt, if_pos hlt]
  · rw [if_neg hlt, if_neg hlt, neg_zero]
    show (constant S_ FTy.f32 0#32 : FVec Ideal S_ .f32) ix0 = _
    pointwise
    rfl

/-- Their sums from a key on. -/
theorem v20_at (t s : Fin 4096) :
    val_main_v20 (F := Ideal) X (ix4 b h t s) = ((-∑ j ∈ Finset.Ico s.val 4096, w (score X b h t) t.val j : ℝ) : EReal) := by
  have h0 : val_main_call3_v0 (F := Ideal) (Shape.Idx.first h_S_) = (0 : EReal) := by
    rw [val_main_call3_v0_apply, val_main_call3_cst_apply]
    pointwise
  unfold val_main_v20
  rw [suffix_sum _ _ _ _ h0, ← Finset.sum_neg_distrib, ← sum_from _ _ s.isLt.le]
  refine Finset.sum_congr rfl fun n _ => ?_
  by_cases hn : s.val + n.val < 4096
  · rw [dif_pos hn, if_pos hn, v19_at X b h hfin]
  · rw [dif_neg hn, if_neg hn]

/-- Their sums strictly after a key. -/
theorem v24_at (t s : Fin 4096) :
    val_main_v24 (F := Ideal) X (ix4 b h t s) = ((-∑ j ∈ Finset.Ico (s.val + 1) 4096, w (score X b h t) t.val j : ℝ) : EReal) := by
  pointwise [val_main_v24, val_main_v21, val_main_v23, val_main_cst_0]
  by_cases hs : s.val < 4095
  · rw [dif_pos hs, v20_at X b h hfin]
    simp only [Nat.add_comm 1 s.val]
  · rw [dif_neg hs, Finset.Ico_eq_empty (by omega), Finset.sum_empty, neg_zero, EReal.coe_zero]

/-- The weights. -/
theorem v27_at (t s : Fin 4096) : val_main_v27 (F := Ideal) X (ix4 b h t s) = ((a (score X b h t) t.val s.val : ℝ) : EReal) := by
  pointwise [val_main_v27, val_main_call4_v0, val_main_call4_v1, val_main_call4_v2, val_main_v26, val_main_v25, val_main_v15, val_main_v14, val_main_v13,
    val_main_v12, val_main_v11, val_main_v10, val_main_v8, val_main_cst_1]
  rw [causal X hfin, v16_at X b h hfin, v24_at X b h hfin, a]
  by_cases hlt : s.val < t.val
  · rw [if_pos hlt, if_pos hlt, ← EReal.coe_add, Ideal.exp_coe]
    have hs := s.isLt
    have e : ∑ j ∈ Finset.Ico s.val 4096, w (score X b h t) t.val j
        = sp (score X b h t s.val) + ∑ j ∈ Finset.Ico (s.val + 1) 4096, w (score X b h t) t.val j := by
      rw [Finset.sum_eq_sum_Ico_succ_bot hs]
      exact congrArg (· + _) (if_pos hlt)
    rw [e]
    congr 2
    ring
  · rw [if_neg hlt, if_neg hlt]
    show (constant S_ FTy.f32 0#32 : FVec Ideal S_ .f32) ix0 = _
    pointwise
    rfl

/-- The reference's result at a lane: the weighted values of its head. -/
theorem v31_at (t : Fin 4096) (e : Fin 64) :
    val_main_v31 (F := Ideal) X (ix3 b t ⟨64 * h.val + e.val, by omega⟩) = acc (score X b h t) (value X b h e) t.val 0 := by
  pointwise [val_main_v31, val_main_v30, val_main_v29, val_main_v28]
  have eh : (⟨(64 * h.val + e.val) / 64, by omega⟩ : Fin 16) = h := Fin.ext (by simp only; omega)
  have ee : (⟨(64 * h.val + e.val) % 64, by omega⟩ : Fin 64) = e := Fin.ext (by simp only; omega)
  simp only [eh, ee, v7_at, v27_at X _ _ hfin]
  rw [acc, Nat.mul_zero, ← Finset.range_eq_Ico, Finset.sum_range]
  exact Finset.sum_congr rfl fun s _ => mul_comm _ _

end

end Cert.Stick

end
-- ==== Proof.StickValue.lean ====
/-
  The stick-breaking kernel's result array is the reference's: block by block, each lane the weighted values of its head.
-/
module

public import proofs.«01_k».proof.Proof.StickLoop
public import proofs.«01_k».proof.Proof.StickRef
public import proofs.«01_k».proof.Defs
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Stick

/-- The lanes of the first head of a pair. -/
theorem pay2_at (l : Fin 128) : k0_pay2 (F := Ideal) (ix2 0 l) = if l.val < 64 then (1 : EReal) else 0 := by
  pointwise [k0_pay2]
  rw [WordCmp.cmpi_slt_ofNat (by omega) (by decide)]
  by_cases h : l.val < 64
  · rw [if_pos h, decide_eq_true h]
    show (((1 : ℤ) : ℝ) : EReal) = 1
    norm_num
  · rw [if_neg h, decide_eq_false h]
    show (((0 : ℤ) : ℝ) : EReal) = 0
    norm_num

/-- The lanes of the second head of a pair. -/
theorem pay3_at (l : Fin 128) : k0_pay3 (F := Ideal) (ix2 0 l) = if l.val < 64 then (0 : EReal) else 1 := by
  have h2 := pay2_at l
  unfold k0_pay3
  pointwise
  rw [h2]
  by_cases h : l.val < 64
  · rw [if_pos h, if_pos h]
    exact EReal.sub_self (by decide) (by decide)
  · rw [if_neg h, if_neg h, sub_zero]

/-- A sum over 128 lanes, as the two halves. -/
theorem sum_halves (f : Fin 128 → EReal) :
    ∑ d : Fin 128, f d = ∑ e : Fin 64, f ⟨e.val, by omega⟩ + ∑ e : Fin 64, f ⟨64 + e.val, by omega⟩ :=
  Fin.sum_univ_add (a := 64) (b := 64) f

/-- Weighted values that are zero. -/
theorem acc_zero (z : ℕ → ℝ) (t p : ℕ) : acc z (fun _ => 0) t p = 0 :=
  Finset.sum_eq_zero fun _ _ => mul_zero _

variable (m : (ℓ : Loc nD τ sig) → Buf (Elt Ideal) ℓ)

theorem idx0 : ∀ t : Fin cfg0.N, win0_0.index t = ![(grid0.coords t 0).val, (grid0.coords t 2).val, (grid0.coords t 1).val] :=
  (by decide +kernel : ∀ t : Fin grid0.N, _)
theorem idx1 : ∀ t : Fin cfg0.N, win0_1.index t = ![(grid0.coords t 0).val, 0, 8 + (grid0.coords t 1).val] :=
  (by decide +kernel : ∀ t : Fin grid0.N, _)
theorem idx2 : ∀ t : Fin cfg0.N, win0_2.index t = ![(grid0.coords t 0).val, 0, 16 + (grid0.coords t 1).val] :=
  (by decide +kernel : ∀ t : Fin grid0.N, _)
theorem idx3 : ∀ t : Fin cfg0.N, win0_3.index t = ![0, 0] := fun _ => rfl
theorem idx4 : ∀ t : Fin cfg0.N, win0_4.index t = ![(grid0.coords t 0).val, (grid0.coords t 2).val, (grid0.coords t 1).val] :=
  (by decide +kernel : ∀ t : Fin grid0.N, _)

/-- The queries of a point. -/
theorem q_at (c : Dev nD) (t : Fin cfg0.N) (r : Fin 256) (d : Fin 128) :
    iblk m c 0 t (ix3 0 r d) = (m ((c : Thread nD τ).loc main_arg0) : FVec Ideal S8x4096x3072 .bf16)
      (ix3 (grid0.coords t 0) ⟨256 * (grid0.coords t 2).val + r.val, by have h : (grid0.coords t 2).val < 16 := (grid0.coords t 2).isLt; omega⟩
        ⟨128 * (grid0.coords t 1).val + d.val, by have h : (grid0.coords t 1).val < 8 := (grid0.coords t 1).isLt; omega⟩) := by
  blk_ext [iblk, V, idx0 t]

/-- The keys of a point. -/
theorem k_at (c : Dev nD) (t : Fin cfg0.N) (s : Fin 4096) (d : Fin 128) :
    iblk m c 1 t (ix3 0 s d) = (m ((c : Thread nD τ).loc main_arg0) : FVec Ideal S8x4096x3072 .bf16)
      (ix3 (grid0.coords t 0) s
        ⟨1024 + (128 * (grid0.coords t 1).val + d.val), by have h : (grid0.coords t 1).val < 8 := (grid0.coords t 1).isLt; omega⟩) := by
  blk_ext [iblk, V, idx1 t]

/-- The values of a point. -/
theorem v_at (c : Dev nD) (t : Fin cfg0.N) (s : Fin 4096) (d : Fin 128) :
    iblk m c 2 t (ix3 0 s d) = (m ((c : Thread nD τ).loc main_arg0) : FVec Ideal S8x4096x3072 .bf16)
      (ix3 (grid0.coords t 0) s
        ⟨2048 + (128 * (grid0.coords t 1).val + d.val), by have h : (grid0.coords t 1).val < 8 := (grid0.coords t 1).isLt; omega⟩) := by
  blk_ext [iblk, V, idx2 t]

/-- The lower-triangular ones of a point. -/
theorem tri_at (c : Dev nD) (t : Fin cfg0.N) (j b : Fin 256) :
    iblk m c 3 t (ix2 j b) = if b.val ≤ j.val then (1 : EReal) else 0 := by
  blk_simp [iblk, idx3 t]
  entry_read
  pointwise
  have hj := j.isLt
  have hb := b.isLt
  have e0 : ((((View.whole main_v7).slice (win0_3.rect t)).emb (ix2 j b) 0 : Fin _)).val = j.val := by
    blk_simp [idx3 t]
  have e1 : ((((View.whole main_v7).slice (win0_3.rect t)).emb (ix2 j b) 1 : Fin _)).val = b.val := by
    blk_simp [idx3 t]
  rw [e0, e1]
  have h : IntOp.cmpi .sge (BitVec.ofNat 32 j.val) (BitVec.ofNat 32 b.val) = if b.val ≤ j.val then 1#1 else 0#1 := by
    rw [WordCmp.cmpi_sge_ofNat (by omega) (by omega)]
    by_cases hle : b.val ≤ j.val
    · rw [if_pos hle, decide_eq_true hle]; rfl
    · rw [if_neg hle, decide_eq_false hle]; rfl
  rw [h]
  by_cases hle : b.val ≤ j.val
  · rw [if_pos hle, if_pos hle]
    show (((1 : ℕ) : ℝ) : EReal) = 1
    norm_num
  · rw [if_neg hle, if_neg hle]
    show (((0 : ℕ) : ℝ) : EReal) = 0
    norm_num

/-- The blocks of the result cover it. -/
theorem covers4 : (cfg0.win 4).Covers :=
  (cfg0.win 4).covers_of_indexMap_surj rfl (by decide) fun β =>
    ⟨fun a => match a with
      | ⟨0, _⟩ => (⟨(β 0).val, (β 0).isLt⟩ : Fin 8)
      | ⟨1, _⟩ => (⟨(β 2).val, (β 2).isLt⟩ : Fin 8)
      | ⟨2, _⟩ => (⟨(β 1).val, (β 1).isLt⟩ : Fin 16), fun a => by
      match a with
      | ⟨0, _⟩ =>
        show (BitVec.ofNat 32 (β 0).val).toNat = (β 0).val
        have h : (β 0).val < 8 := (β 0).isLt
        rw [BitVec.toNat_ofNat, Nat.mod_eq_of_lt (by omega)]
      | ⟨1, _⟩ =>
        show (BitVec.ofNat 32 (β 1).val).toNat = (β 1).val
        have h : (β 1).val < 16 := (β 1).isLt
        rw [BitVec.toNat_ofNat, Nat.mod_eq_of_lt (by omega)]
      | ⟨2, _⟩ =>
        show (BitVec.ofNat 32 (β 2).val).toNat = (β 2).val
        have h : (β 2).val < 8 := (β 2).isLt
        rw [BitVec.toNat_ofNat, Nat.mod_eq_of_lt (by omega)]⟩

/-- The precondition: every query and key is a real number. -/
theorem fin_of_pre [Cert.Pre_finite.Facts] (X : FVec Ideal S8x4096x3072 .bf16)
    (h : Cert.Pre_finite.fn (F := Ideal) X = fun _ => 1#1) (b : Fin 8) (t : Fin 4096) (d : Fin 3072) (hd : d.val < 2048) :
    ∃ r : ℝ, X (ix3 b t d) = (r : EReal) := by
  have h1 := congrFun h (ix3 b t ⟨d.val, hd⟩)
  revert h1
  unfold Cert.Pre_finite.fn
  pointwise
  intro h1
  have htop : Ideal.ofBits FTy.f32 2139095040#32 = ⊤ := by rfl
  rw [htop] at h1
  change BitVec.ofBool (decide (max (X (ix3 b t d)) (-(X (ix3 b t d))) < (⊤ : EReal))) = 1#1 at h1
  have h2 : max (X (ix3 b t d)) (-(X (ix3 b t d))) < (⊤ : EReal) := by
    by_contra hn
    rw [decide_eq_false hn] at h1
    exact absurd h1 (by decide)
  obtain ⟨h3, h4⟩ := max_lt_iff.1 h2
  refine ⟨(X (ix3 b t d)).toReal, (EReal.coe_toReal h3.ne fun hb => ?_).symm⟩
  rw [hb, EReal.neg_bot] at h4
  exact h4.ne rfl

/-- The scores of the first head of a pair, from its masked queries. -/
theorem score0 (X : FVec Ideal S8x4096x3072 .bf16)
    (hfin : ∀ (b : Fin 8) (t : Fin 4096) (d : Fin 3072), d.val < 2048 → ∃ r : ℝ, X (ix3 b t d) = (r : EReal))
    (b : Fin 8) (p : Fin 8) (t s : Fin 4096) :
    ∑ d : Fin 128, (X (ix3 b t ⟨128 * p.val + d.val, by omega⟩) * k0_pay2 (F := Ideal) (ix2 0 d))
        * X (ix3 b s ⟨1024 + (128 * p.val + d.val), by omega⟩)
      = ((score X b ⟨2 * p.val, by omega⟩ t s.val : ℝ) : EReal) := by
  rw [sum_halves, ← score_eq X b ⟨2 * p.val, by omega⟩ hfin t s]
  rw [Finset.sum_eq_zero (s := (Finset.univ : Finset (Fin 64)))
    (f := fun e : Fin 64 => (X (ix3 b t ⟨128 * p.val + (64 + e.val), by omega⟩) * k0_pay2 (F := Ideal) (ix2 0 ⟨64 + e.val, by omega⟩))
        * X (ix3 b s ⟨1024 + (128 * p.val + (64 + e.val)), by omega⟩)), add_zero]
  · refine Finset.sum_congr rfl fun e _ => ?_
    rw [pay2_at, if_pos e.isLt, mul_one]
    congr 4 <;> (simp only; omega)
  · intro e _
    rw [pay2_at, if_neg (by show ¬ (64 + e.val < 64); omega), mul_zero, zero_mul]

/-- The scores of the second head of a pair, from its masked queries. -/
theorem score1 (X : FVec Ideal S8x4096x3072 .bf16)
    (hfin : ∀ (b : Fin 8) (t : Fin 4096) (d : Fin 3072), d.val < 2048 → ∃ r : ℝ, X (ix3 b t d) = (r : EReal))
    (b : Fin 8) (p : Fin 8) (t s : Fin 4096) :
    ∑ d : Fin 128, (X (ix3 b t ⟨128 * p.val + d.val, by omega⟩) * k0_pay3 (F := Ideal) (ix2 0 d))
        * X (ix3 b s ⟨1024 + (128 * p.val + d.val), by omega⟩)
      = ((score X b ⟨2 * p.val + 1, by omega⟩ t s.val : ℝ) : EReal) := by
  rw [sum_halves, ← score_eq X b ⟨2 * p.val + 1, by omega⟩ hfin t s]
  rw [Finset.sum_eq_zero (s := (Finset.univ : Finset (Fin 64)))
    (f := fun e : Fin 64 => (X (ix3 b t ⟨128 * p.val + e.val, by omega⟩) * k0_pay3 (F := Ideal) (ix2 0 ⟨e.val, by omega⟩))
        * X (ix3 b s ⟨1024 + (128 * p.val + e.val), by omega⟩)), zero_add]
  · refine Finset.sum_congr rfl fun e _ => ?_
    rw [pay3_at, if_neg (by show ¬ (64 + e.val < 64); omega), mul_one]
    congr 4 <;> (simp only; omega)
  · intro e _
    rw [pay3_at, if_pos e.isLt, mul_zero, zero_mul]

/-- What a point writes, one lane of one query: the reference's result there. -/
theorem block_at (c : Dev nD) (t : Fin cfg0.N)
    (hfin : ∀ (b : Fin 8) (t : Fin 4096) (d : Fin 3072), d.val < 2048 →
      ∃ r : ℝ, (m ((c : Thread nD τ).loc main_arg0) : FVec Ideal S8x4096x3072 .bf16) (ix3 b t d) = (r : EReal))
    (r : Fin 256) (l : Fin 128) :
    outsAt0 m c t (ix3 0 r l)
      = Cert.ReferenceIdeal.Read.val_main_v31 (F := Ideal) (m ((c : Thread nD τ).loc main_arg0))
          (ix3 (grid0.coords t 0) ⟨256 * (grid0.coords t 2).val + r.val, by have h : (grid0.coords t 2).val < 16 := (grid0.coords t 2).isLt; omega⟩
            ⟨128 * (grid0.coords t 1).val + l.val, by have h : (grid0.coords t 1).val < 8 := (grid0.coords t 1).isLt; omega⟩) := by
  have hp : (grid0.coords t 1).val < 8 := (grid0.coords t 1).isLt
  have hq : (grid0.coords t 2).val < 16 := (grid0.coords t 2).isLt
  let X : FVec Ideal S8x4096x3072 .bf16 := m ((c : Thread nD τ).loc main_arg0)
  let W : Vec Ideal S1x4096x128 .bf16 := iblk m c 2 t
  have hW := v_at m c t
  change ∀ s d, W (ix3 0 s d) = _ at hW
  let b : Fin 8 := grid0.coords t 0
  let p : Fin 8 := grid0.coords t 1
  let q : Fin 4096 := ⟨256 * (grid0.coords t 2).val + r.val, by omega⟩
  have hz0 : ∀ s : Fin 4096, ∑ d : Fin 128, k0_pay7 (iblk m c 0 t) (ix2 r d) * iblk m c 1 t (ix3 0 s d)
      = ((score X b ⟨2 * p.val, by omega⟩ q s.val : ℝ) : EReal) := by
    intro s
    rw [← score0 X hfin b p q s]
    refine Finset.sum_congr rfl fun d _ => ?_
    rw [k_at m c t s d]
    pointwise [k0_pay7, k0_pay4]
    rw [q_at m c t r d]
  have hz1 : ∀ s : Fin 4096, ∑ d : Fin 128, k0_pay25 k0_pay3 (k0_pay4 (iblk m c 0 t)) (ix2 r d) * iblk m c 1 t (ix3 0 s d)
      = ((score X b ⟨2 * p.val + 1, by omega⟩ q s.val : ℝ) : EReal) := by
    intro s
    rw [← score1 X hfin b p q s]
    refine Finset.sum_congr rfl fun d _ => ?_
    rw [k_at m c t s d]
    pointwise [k0_pay25, k0_pay4]
    rw [q_at m c t r d]
  by_cases hl : l.val < 64
  · have hu0 : ∀ s : Fin 4096, W (ix3 0 s l) * k0_pay2 (F := Ideal) (ix2 0 l)
        = value X b ⟨2 * p.val, by omega⟩ ⟨l.val, hl⟩ s.val := by
      intro s
      rw [pay2_at, if_pos hl, mul_one, hW, value, dif_pos s.isLt]
      show X _ = X _
      congr 2
      apply Fin.ext
      show 2048 + (128 * (grid0.coords t 1).val + l.val) = 2048 + (64 * (2 * (grid0.coords t 1).val) + l.val)
      omega
    have hu1 : ∀ s : Fin 4096, W (ix3 0 s l) * k0_pay3 (F := Ideal) (ix2 0 l) = (fun _ => (0 : EReal)) s.val := by
      intro s
      rw [pay3_at, if_pos hl, mul_zero]
    have h := out_at c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) _ _ _ (fun _ => 0) r l (tri_at m c t) hz0 hz1 hu0 hu1
    rw [acc_zero, add_zero] at h
    have h31 := v31_at X b ⟨2 * p.val, by omega⟩ hfin q ⟨l.val, hl⟩
    refine h.trans (h31.symm.trans ?_)
    show Cert.ReferenceIdeal.Read.val_main_v31 (F := Ideal) X _ = Cert.ReferenceIdeal.Read.val_main_v31 (F := Ideal) X _
    congr 2
    apply Fin.ext
    show 64 * (2 * (grid0.coords t 1).val) + l.val = 128 * (grid0.coords t 1).val + l.val
    omega
  · have hl' := l.isLt
    have hu0 : ∀ s : Fin 4096, W (ix3 0 s l) * k0_pay2 (F := Ideal) (ix2 0 l) = (fun _ => (0 : EReal)) s.val := by
      intro s
      rw [pay2_at, if_neg hl, mul_zero]
    have hu1 : ∀ s : Fin 4096, W (ix3 0 s l) * k0_pay3 (F := Ideal) (ix2 0 l)
        = value X b ⟨2 * p.val + 1, by omega⟩ ⟨l.val - 64, by omega⟩ s.val := by
      intro s
      rw [pay3_at, if_neg hl, mul_one, hW, value, dif_pos s.isLt]
      show X _ = X _
      congr 2
      apply Fin.ext
      show 2048 + (128 * (grid0.coords t 1).val + l.val) = 2048 + (64 * (2 * (grid0.coords t 1).val + 1) + (l.val - 64))
      omega
    have h := out_at c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) _ _ (fun _ => 0) _ r l (tri_at m c t) hz0 hz1 hu0 hu1
    rw [acc_zero, zero_add] at h
    have h31 := v31_at X b ⟨2 * p.val + 1, by omega⟩ hfin q ⟨l.val - 64, by omega⟩
    refine h.trans (h31.symm.trans ?_)
    show Cert.ReferenceIdeal.Read.val_main_v31 (F := Ideal) X _ = Cert.ReferenceIdeal.Read.val_main_v31 (F := Ideal) X _
    congr 2
    apply Fin.ext
    show 64 * (2 * (grid0.coords t 1).val + 1) + (l.val - 64) = 128 * (grid0.coords t 1).val + l.val
    omega

/-- The result array of the kernel is the reference's. -/
theorem final (c : Dev nD)
    (hfin : ∀ (b : Fin 8) (t : Fin 4096) (d : Fin 3072), d.val < 2048 →
      ∃ r : ℝ, (m ((c : Thread nD τ).loc main_arg0) : FVec Ideal S8x4096x3072 .bf16) (ix3 b t d) = (r : EReal)) :
    (dats m 0 c).arrAt 4 cfg0.N
      = Cert.ReferenceIdeal.Read.val_main_v31 (F := Ideal) (m ((c : Thread nD τ).loc main_arg0)) := by
  refine (dats m 0 c).arrAt_eq_of_covers 4 _ covers4 fun t hf y => ?_
  obtain ⟨k, r, l, rfl⟩ : ∃ (k : Fin 1) (r : Fin 256) (l : Fin 128), y = ix3 k r l := ⟨y 0, y 1, y 2, funext fun a => by
    match a with
    | ⟨0, _⟩ => rfl
    | ⟨1, _⟩ => rfl
    | ⟨2, _⟩ => rfl⟩
  obtain rfl : k = 0 := Subsingleton.elim _ _
  have h0 : (dats m 0 c).after 4 t (ix3 0 r l) = outsAt0 m c t (ix3 0 r l) := by rw [after0_4]
  blk_simp
  refine (h0.trans (block_at m c t hfin r l)).trans ?_
  blk_ext [idx4 t]

end Cert.Stick

end
-- ==== Proof.MlpTile.lean ====
/-
  One tile of the channel mixer: 256 gate channels and their 256 partners, convolved over time, gated and multiplied into
  the result. Everything is stated once, for any tile.
-/
module

public import proofs.«01_k».proof.Proof.Gen.Kernel2Ideal.Skeleton
public import Idealize.ShloMosaic.Lib.Pointwise
public import Idealize.ShloMosaic.Lib.WordCmp

@[expose] public section

set_option maxRecDepth 16384

noncomputable section

open Idealize.ShloMosaic
open Cert.Kernel2Ideal Cert.Kernel2Ideal.Gen

namespace Cert.Mlp

/-- Three weighted consecutive entries of `A`, from entry `q` on, and a bias. -/
def mix (A : ℕ → EReal) (cb c0 c1 c2 : EReal) (q : ℕ) : EReal := ((cb + A q * c0) + A (q + 1) * c1) + A (q + 2) * c2

/-- One entry of a row divided by the root of its mean square, scaled. -/
def norm (Y : Fin 1024 → EReal) (g : EReal) (l : Fin 1024) : EReal :=
  Y l * Ideal.rsqrt (Ideal.div (∑ x, Y x * Y x) (Ideal.ofBits FTy.f32 1149239296#32) + Ideal.ofBits FTy.f32 897988541#32) * g

/-- 256 channels at a block of 512 times, convolved over three times; `pv` holds the last eight times of the block
    before. -/
def conv (hb : FVec Ideal S512x1024 .bf16) (w : Vec Ideal S1024x256 .bf16) (pv : Vec Ideal S8x256 .f32)
    (cb c0 c1 c2 : Vec Ideal S1x256 .f32) : FVec Ideal S512x256 .f32 :=
  k0_pay9 (k0_pay5 hb w) (k0_pay7 hb w pv cb c0 c1) (k0_pay8 c2)

/-- The comparison "row `k` is among the first `n`". -/
theorem slt_at (k : Fin 8) (n : ℕ) (hn : n < 8) (x y : EReal) :
    Scalar.select (IntOp.cmpi .slt (BitVec.ofNat 32 k.val) (BitVec.ofNat 32 n)) x y = if k.val < n then x else y := by
  have hk := k.isLt
  rw [WordCmp.cmpi_slt_ofNat (by omega) (by omega)]
  by_cases h : k.val < n
  · rw [if_pos h, decide_eq_true h]; rfl
  · rw [if_neg h, decide_eq_false h]; rfl

/-- A tile shifted down `n` rows, its first rows taken from the block before. -/
theorem tap_at (E : FVec Ideal S512x256 .f32) (pv : Vec Ideal S8x256 .f32) (A : ℕ → EReal) (j : Fin 256)
    (hp : ∀ k : Fin 8, pv (ix2 k j) = A k.val) (ha : ∀ r : Fin 512, E (ix2 r j) = A (8 + r.val)) (r : Fin 512)
    (n : ℕ) (hn : n < 8) :
    (if h : r.val < 8 then
        Scalar.select (IntOp.cmpi .slt (BitVec.ofNat 32 r.val) (BitVec.ofNat 32 n))
          (pv (ix2 ⟨(r.val + 8 - n) % 8, Nat.mod_lt _ (by decide)⟩ j)) (E (ix2 ⟨(r.val + 512 - n) % 512, Nat.mod_lt _ (by decide)⟩ j))
      else E (ix2 ⟨(8 + (r.val - 8) + 512 - n) % 512, Nat.mod_lt _ (by decide)⟩ j)) = A (r.val + 8 - n) := by
  have hr := r.isLt
  by_cases h8 : r.val < 8
  · rw [dif_pos h8, slt_at ⟨r.val, h8⟩ n hn, hp, ha]
    by_cases h : r.val < n
    · rw [if_pos h]
      congr 1
      show (r.val + 8 - n) % 8 = _
      omega
    · rw [if_neg h]
      congr 1
      show 8 + (r.val + 512 - n) % 512 = _
      omega
  · rw [dif_neg h8, ha]
    congr 1
    show 8 + (8 + (r.val - 8) + 512 - n) % 512 = _
    omega

/-- A tile before its convolution. -/
theorem pre_at (hb : FVec Ideal S512x1024 .bf16) (w : Vec Ideal S1024x256 .bf16) (r : Fin 512) (j : Fin 256) :
    k0_pay5 hb w (ix2 r j) = ∑ d : Fin 1024, hb (ix2 r d) * w (ix2 d j) := by
  pointwise [k0_pay5]

/-- The convolution at one time and channel; `A` numbers the times from eight before the block. -/
theorem conv_at (hb : FVec Ideal S512x1024 .bf16) (w : Vec Ideal S1024x256 .bf16) (pv : Vec Ideal S8x256 .f32)
    (cb c0 c1 c2 : Vec Ideal S1x256 .f32) (A : ℕ → EReal) (j : Fin 256)
    (hp : ∀ k : Fin 8, pv (ix2 k j) = A k.val)
    (ha : ∀ r : Fin 512, ∑ d : Fin 1024, hb (ix2 r d) * w (ix2 d j) = A (8 + r.val)) (r : Fin 512) :
    conv hb w pv cb c0 c1 c2 (ix2 r j) = mix A (cb (ix2 0 j)) (c0 (ix2 0 j)) (c1 (ix2 0 j)) (c2 (ix2 0 j)) (r.val + 6) := by
  unfold mix
  have ha' : ∀ r : Fin 512, k0_pay5 hb w (ix2 r j) = A (8 + r.val) := fun r => (pre_at hb w r j).trans (ha r)
  generalize hE : k0_pay5 hb w = E at ha'
  unfold conv k0_pay7
  rw [hE]
  pointwise [k0_pay9, k0_pay8]
  have t2 := tap_at E pv A j hp ha' r 2 (by decide)
  have t1 := tap_at E pv A j hp ha' r 1 (by decide)
  have t0 := ha' r
  rw [Nat.add_comm] at t0
  exact congrArg₂ (· + ·) (congrArg₂ (· + ·) (congrArg (_ + · * _) t2) (congrArg (· * _) t1)) (congrArg (· * _) t0)

/-- The last eight times of a tile, kept for the block after. -/
theorem last_at (hb : FVec Ideal S512x1024 .bf16) (w : Vec Ideal S1024x256 .bf16) (k : Fin 8) (j : Fin 256) :
    k0_pay6 hb w (ix2 k j) = ∑ d : Fin 1024, hb (ix2 ⟨504 + k.val, by omega⟩ d) * w (ix2 d j) := by
  pointwise [k0_pay6]
  exact pre_at hb w _ j

/-- The gated product of one gate channel and its partner. -/
def act (g u : EReal) : EReal := g * Ideal.div 1 (1 + Ideal.exp (0 - g)) * u

/-- The block's rows after the output projection and the residual. -/
theorem rows_at (x0 : Vec Ideal S512x1024 .f32) (x1 : Vec Ideal S512x1024 .bf16) (x2 : Vec Ideal S1024x1024 .bf16)
    (r : Fin 512) (d : Fin 1024) :
    k0_pay3 x0 x1 x2 (ix2 r d) = x0 (ix2 r d) + ∑ x, x1 (ix2 r x) * x2 (ix2 x d) := by
  pointwise [k0_pay3]

/-- The block's rows normalised. -/
theorem norm_at (x0 : Vec Ideal S512x1024 .f32) (x1 : Vec Ideal S512x1024 .bf16) (x2 : Vec Ideal S1024x1024 .bf16)
    (x3 : Vec Ideal S1x1024 .f32) (r : Fin 512) (d : Fin 1024) :
    k0_pay4 x0 x1 x2 x3 (ix2 r d) = norm (fun x => k0_pay3 x0 x1 x2 (ix2 r x)) (x3 (ix2 0 d)) d := by
  unfold k0_pay4 norm
  generalize k0_pay3 x0 x1 x2 = Y
  pointwise

/-- A tile's step: the gate channels `wg`, their partners `wu`, multiplied into the running result `y` by `wd`. -/
def step (hb : FVec Ideal S512x1024 .bf16) (wg : Vec Ideal S1024x256 .bf16) (pg : Vec Ideal S8x256 .f32)
    (bg g0 g1 g2 : Vec Ideal S1x256 .f32) (wu : Vec Ideal S1024x256 .bf16) (pu : Vec Ideal S8x256 .f32)
    (bu u0 u1 u2 : Vec Ideal S1x256 .f32) (y : Vec Ideal S512x1024 .f32) (wd : Vec Ideal S256x1024 .bf16) :
    FVec Ideal S512x1024 .f32 :=
  k0_pay13 (conv hb wg pg bg g0 g1 g2) (k0_pay5 hb wu) (k0_pay7 hb wu pu bu u0 u1) u2 y wd

theorem step_at (hb : FVec Ideal S512x1024 .bf16) (wg : Vec Ideal S1024x256 .bf16) (pg : Vec Ideal S8x256 .f32)
    (bg g0 g1 g2 : Vec Ideal S1x256 .f32) (wu : Vec Ideal S1024x256 .bf16) (pu : Vec Ideal S8x256 .f32)
    (bu u0 u1 u2 : Vec Ideal S1x256 .f32) (y : Vec Ideal S512x1024 .f32) (wd : Vec Ideal S256x1024 .bf16)
    (r : Fin 512) (l : Fin 1024) :
    step hb wg pg bg g0 g1 g2 wu pu bu u0 u1 u2 y wd (ix2 r l)
      = y (ix2 r l) + ∑ j : Fin 256, act (conv hb wg pg bg g0 g1 g2 (ix2 r j)) (conv hb wu pu bu u0 u1 u2 (ix2 r j)) * wd (ix2 j l) := by
  have hu : ∀ j : Fin 256, conv hb wu pu bu u0 u1 u2 (ix2 r j)
      = k0_pay7 hb wu pu bu u0 u1 (ix2 r j) + k0_pay5 hb wu (ix2 r j) * u2 (ix2 0 j) := fun j => by
    unfold conv
    generalize k0_pay7 hb wu pu bu u0 u1 = C
    generalize k0_pay5 hb wu = E
    pointwise [k0_pay9, k0_pay8]
  simp only [hu, act]
  unfold step
  generalize conv hb wg pg bg g0 g1 g2 = G
  generalize k0_pay7 hb wu pu bu u0 u1 = C
  generalize k0_pay5 hb wu = E
  pointwise [k0_pay13]

end Cert.Mlp

end
-- ==== Proof.MlpBlock.lean ====
/-
  What a grid point of the channel mixer writes and what it keeps, as eleven applications of the one tile step.
-/
module

public import proofs.«01_k».proof.Proof.MlpTile
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Kernel2Ideal Cert.Kernel2Ideal.Gen

namespace Cert.Mlp

/-- Columns `256 n .. 256 n + 255` lie inside an array of 5632 columns. -/
theorem inb_cols {R R' o : ℕ} (ho : o + R' ≤ R) (n : Fin 22) (a : Fin 2) :
    (![o, 256 * n.val] : Fin 2 → ℕ) a + (![R', 256] : Fin 2 → ℕ) a ≤ (![R, 5632] : Fin 2 → ℕ) a := by
  have hn := n.isLt
  match a with
  | ⟨0, _⟩ => exact ho
  | ⟨1, _⟩ => show 256 * n.val + 256 ≤ 5632; omega

/-- Rows `256 k .. 256 k + 255` lie inside an array of 2816 rows. -/
theorem inb_rows {k : ℕ} (hk : k < 11) (a : Fin 2) :
    (![256 * k, 0] : Fin 2 → ℕ) a + (![256, 1024] : Fin 2 → ℕ) a ≤ (![2816, 1024] : Fin 2 → ℕ) a := by
  match a with
  | ⟨0, _⟩ => show 256 * k + 256 ≤ 2816; omega
  | ⟨1, _⟩ => show 0 + 1024 ≤ 1024; omega

/-- The columns of tile `n` of the input weights. -/
def wT (x4 : Vec Ideal S1024x5632 .bf16) (n : Fin 22) : Vec Ideal S1024x256 .bf16 :=
  View.ld x4 (Rect.unit (s := S1024x5632) ![0, 256 * n.val] S1024x256.size (inb_cols (R := 1024) (by decide) n))

/-- The columns of tile `n` of the kept times. -/
def pT (xs : Vec Ideal S8x5632 .f32) (n : Fin 22) : Vec Ideal S8x256 .f32 :=
  View.ld xs (Rect.unit (s := S8x5632) ![0, 256 * n.val] S8x256.size (inb_cols (R := 8) (by decide) n))

/-- The columns of tile `n` of the bias. -/
def bT (x6 : Vec Ideal S1x5632 .f32) (n : Fin 22) : Vec Ideal S1x256 .f32 :=
  View.ld x6 (Rect.unit (s := S1x5632) ![0, 256 * n.val] S1x256.size (inb_cols (R := 1) (by decide) n))

/-- The columns of tile `n` of row `i` of the convolution's weights. -/
def cT (x5 : Vec Ideal S3x5632 .f32) (i : Fin 3) (n : Fin 22) : Vec Ideal S1x256 .f32 :=
  View.ld x5 (Rect.unit (s := S3x5632) ![i.val, 256 * n.val] S1x256.size (inb_cols (R := 3) (by omega) n))

/-- The rows of tile `k` of the output weights. -/
def dT (x7 : Vec Ideal S2816x1024 .bf16) (k : ℕ) (hk : k < 11) : Vec Ideal S256x1024 .bf16 :=
  View.ld x7 (Rect.unit (s := S2816x1024) ![256 * k, 0] S256x1024.size (inb_rows hk))

theorem wT_at (x4 : Vec Ideal S1024x5632 .bf16) (n : Fin 22) (d : Fin 1024) (j : Fin 256) :
    wT x4 n (ix2 d j) = x4 (ix2 d ⟨256 * n.val + j.val, by omega⟩) :=
  View.ld_unit_apply_of x4 _ _ _ _ _ fun a => by
    match a with
    | ⟨0, _⟩ => exact (Nat.zero_add _).symm
    | ⟨1, _⟩ => rfl

theorem pT_at (xs : Vec Ideal S8x5632 .f32) (n : Fin 22) (k : Fin 8) (j : Fin 256) :
    pT xs n (ix2 k j) = xs (ix2 k ⟨256 * n.val + j.val, by omega⟩) :=
  View.ld_unit_apply_of xs _ _ _ _ _ fun a => by
    match a with
    | ⟨0, _⟩ => exact (Nat.zero_add _).symm
    | ⟨1, _⟩ => rfl

theorem bT_at (x6 : Vec Ideal S1x5632 .f32) (n : Fin 22) (j : Fin 256) :
    bT x6 n (ix2 0 j) = x6 (ix2 0 ⟨256 * n.val + j.val, by omega⟩) :=
  View.ld_unit_apply_of x6 _ _ _ _ _ fun a => by
    match a with
    | ⟨0, _⟩ => rfl
    | ⟨1, _⟩ => rfl

theorem cT_at (x5 : Vec Ideal S3x5632 .f32) (i : Fin 3) (n : Fin 22) (j : Fin 256) :
    cT x5 i n (ix2 0 j) = x5 (ix2 i ⟨256 * n.val + j.val, by omega⟩) :=
  View.ld_unit_apply_of x5 _ _ _ _ _ fun a => by
    match a with
    | ⟨0, _⟩ => rfl
    | ⟨1, _⟩ => rfl

theorem dT_at (x7 : Vec Ideal S2816x1024 .bf16) (k : ℕ) (hk : k < 11) (j : Fin 256) (l : Fin 1024) :
    dT x7 k hk (ix2 j l) = x7 (ix2 ⟨256 * k + j.val, by omega⟩ l) :=
  View.ld_unit_apply_of x7 _ _ _ _ _ fun a => by
    match a with
    | ⟨0, _⟩ => rfl
    | ⟨1, _⟩ => exact (Nat.zero_add _).symm

section

variable (hb : FVec Ideal S512x1024 .bf16) (y0 : FVec Ideal S512x1024 .f32) (x4 : Vec Ideal S1024x5632 .bf16)
  (x5 : Vec Ideal S3x5632 .f32) (x6 : Vec Ideal S1x5632 .f32) (x7 : Vec Ideal S2816x1024 .bf16) (xs : Vec Ideal S8x5632 .f32)

/-- The running result after the first `k` tiles. -/
def tiles : (k : ℕ) → k ≤ 11 → FVec Ideal S512x1024 .f32
  | 0, _ => y0
  | k + 1, hk =>
    let g : Fin 22 := ⟨k, by omega⟩
    let u : Fin 22 := ⟨11 + k, by omega⟩
    step hb (wT x4 g) (pT xs g) (bT x6 g) (cT x5 0 g) (cT x5 1 g) (cT x5 2 g)
      (wT x4 u) (pT xs u) (bT x6 u) (cT x5 0 u) (cT x5 1 u) (cT x5 2 u) (tiles k (by omega)) (dT x7 k (by omega))

/-- One tile's share of a row of the result. -/
def share (A : Fin 5632 → ℕ → EReal) (r : Fin 512) (l : Fin 1024) (f : Fin 2816) : EReal :=
  act (mix (A ⟨f.val, by omega⟩) (x6 (ix2 0 ⟨f.val, by omega⟩)) (x5 (ix2 0 ⟨f.val, by omega⟩)) (x5 (ix2 1 ⟨f.val, by omega⟩))
      (x5 (ix2 2 ⟨f.val, by omega⟩)) (r.val + 6))
    (mix (A ⟨2816 + f.val, by omega⟩) (x6 (ix2 0 ⟨2816 + f.val, by omega⟩)) (x5 (ix2 0 ⟨2816 + f.val, by omega⟩))
      (x5 (ix2 1 ⟨2816 + f.val, by omega⟩)) (x5 (ix2 2 ⟨2816 + f.val, by omega⟩)) (r.val + 6))
    * x7 (ix2 f l)

/-- A sum over the first `256 k` places, block after block. -/
theorem sum_blocks (S : Fin 2816 → EReal) (k : ℕ) (hk : k < 11) :
    ∑ i ∈ Finset.range (256 * (k + 1)), (if h : i < 2816 then S ⟨i, h⟩ else 0)
      = ∑ i ∈ Finset.range (256 * k), (if h : i < 2816 then S ⟨i, h⟩ else 0)
        + ∑ j : Fin 256, S ⟨256 * k + j.val, by omega⟩ := by
  rw [show 256 * (k + 1) = 256 * k + 256 by omega, Finset.sum_range_add, Finset.sum_range (n := 256)]
  refine congrArg (_ + ·) (Finset.sum_congr rfl fun j _ => ?_)
  rw [dif_pos]

variable (A : Fin 5632 → ℕ → EReal) (hp : ∀ (k : Fin 8) (f : Fin 5632), xs (ix2 k f) = A f k.val)
  (ha : ∀ (r : Fin 512) (f : Fin 5632), ∑ d : Fin 1024, hb (ix2 r d) * x4 (ix2 d f) = A f (8 + r.val))

include hp ha

/-- One tile, convolved. -/
theorem tile_at (n : Fin 22) (r : Fin 512) (j : Fin 256) (f : Fin 5632) (hf : f.val = 256 * n.val + j.val) :
    conv hb (wT x4 n) (pT xs n) (bT x6 n) (cT x5 0 n) (cT x5 1 n) (cT x5 2 n) (ix2 r j)
      = mix (A f) (x6 (ix2 0 f)) (x5 (ix2 0 f)) (x5 (ix2 1 f)) (x5 (ix2 2 f)) (r.val + 6) := by
  have hlt : 256 * n.val + j.val < 5632 := by have := n.isLt; have := j.isLt; omega
  obtain rfl : f = ⟨256 * n.val + j.val, hlt⟩ := Fin.ext hf
  rw [conv_at hb (wT x4 n) (pT xs n) _ _ _ _ (A ⟨256 * n.val + j.val, by omega⟩) j
    (fun k => (pT_at xs n k j).trans (hp k _)) (fun r => ?_) r, bT_at, cT_at, cT_at, cT_at]
  rw [← ha r]
  exact Finset.sum_congr rfl fun d _ => by rw [wT_at]

/-- The running result after the first `k` tiles, at a row and lane. -/
theorem tiles_at (r : Fin 512) (l : Fin 1024) : ∀ (k : ℕ) (hk : k ≤ 11),
    tiles hb y0 x4 x5 x6 x7 xs k hk (ix2 r l)
      = y0 (ix2 r l) + ∑ i ∈ Finset.range (256 * k), (if h : i < 2816 then share x5 x6 x7 A r l ⟨i, h⟩ else 0)
  | 0, _ => by rw [Nat.mul_zero, Finset.sum_range_zero, add_zero]; rfl
  | k + 1, hk => by
    rw [tiles]
    refine (step_at _ _ _ _ _ _ _ _ _ _ _ _ _ _ _ r l).trans ?_
    rw [tiles_at r l k (by omega), sum_blocks _ k (by omega), ← add_assoc]
    congr 1
    refine Finset.sum_congr rfl fun j _ => ?_
    have hj := j.isLt
    rw [tile_at hb x4 x5 x6 xs A hp ha ⟨k, by omega⟩ r j ⟨256 * k + j.val, by omega⟩ rfl,
      tile_at hb x4 x5 x6 xs A hp ha ⟨11 + k, by omega⟩ r j ⟨2816 + (256 * k + j.val), by omega⟩
        (by show 2816 + (256 * k + j.val) = 256 * (11 + k) + j.val; omega), dT_at]
    rfl

/-- The whole result of a block, at a row and lane. -/
theorem all_tiles_at (r : Fin 512) (l : Fin 1024) :
    tiles hb y0 x4 x5 x6 x7 xs 11 (Nat.le_refl 11) (ix2 r l) = y0 (ix2 r l) + ∑ f : Fin 2816, share x5 x6 x7 A r l f := by
  rw [tiles_at hb y0 x4 x5 x6 x7 xs A hp ha, show 256 * 11 = 2816 from rfl, Finset.sum_range]
  exact congrArg (_ + ·) (Finset.sum_congr rfl fun f _ => dif_pos f.isLt)

omit hp ha

/-- What a tile leaves for the block after. -/
def kept (n : Fin 22) : View.Piece (Elt Ideal) S8x5632 .f32 :=
  ⟨Rect.unit (s := S8x5632) ![0, 256 * n.val] S8x256.size (inb_cols (R := 8) (by decide) n), k0_pay6 hb (wT x4 n)⟩

/-- The order in which the tiles leave it, the last first. -/
def order : List (Fin 22) := [21, 10, 20, 9, 19, 8, 18, 7, 17, 6, 16, 5, 15, 4, 14, 3, 13, 2, 12, 1, 11, 0]

/-- The last eight times of the block, before the convolution. -/
def tail : Vec Ideal S8x5632 .f32 := fun y =>
  ∑ d : Fin 1024, hb (ix2 ⟨504 + (y 0).val, by have h : (y 0).val < 8 := (y 0).isLt; omega⟩ d) * x4 (ix2 d (y 1))

theorem piece_tail (n : Fin 22) (x : (kept hb x4 n).1.shape.Idx) : (kept hb x4 n).2 x = tail hb x4 ((kept hb x4 n).1.emb x) := by
  obtain ⟨k, j, hx⟩ : ∃ (k : Fin 8) (j : Fin 256), x = ix2 k j :=
    ⟨x 0, x 1, funext fun a => match a with | ⟨0, _⟩ => rfl | ⟨1, _⟩ => rfl⟩
  subst hx
  refine (last_at hb (wT x4 n) k j).trans (Finset.sum_congr rfl fun d _ => ?_)
  rw [wT_at]
  have h0 : ((kept hb x4 n).1.emb (ix2 k j) 0 : Fin 8).val = k.val := by
    show 0 + 1 * k.val = k.val; omega
  have h1 : ((kept hb x4 n).1.emb (ix2 k j) 1 : Fin 5632).val = 256 * n.val + j.val := by
    show 256 * n.val + 1 * j.val = _; omega
  congr 3
  · exact Fin.ext (congrArg (504 + ·) h0.symm)
  · exact Fin.ext h1.symm

theorem pieces_tail (L : List (Fin 22)) : View.PiecesOf (tail hb x4) (L.map (kept hb x4)) := by
  induction L with
  | nil => trivial
  | cons n L ih => exact ⟨piece_tail hb x4 n, ih⟩

theorem keep_eq (L' : List (View.Piece (Elt Ideal) S8x5632 .f32)) :
    View.canon (order.map (kept hb x4) ++ L') = tail hb x4 := by
  funext y
  exact View.canon_append_of_piecesOf (tail hb x4) L' _ (pieces_tail hb x4 order) y
    (View.cover_of_tiledL (order.map (kept hb x4)) S8x256.size (by rfl) y)

end

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S8x5632 .f32) (harg10 : arg10.IsWhole)
  (x0 : Vec Ideal S512x1024 .f32) (x1 : Vec Ideal S512x1024 .bf16) (x2 : Vec Ideal S1024x1024 .bf16) (x3 : Vec Ideal S1x1024 .f32)
  (x4 : Vec Ideal S1024x5632 .bf16) (x5 : Vec Ideal S3x5632 .f32) (x6 : Vec Ideal S1x5632 .f32) (x7 : Vec Ideal S2816x1024 .bf16)

/-- What a point that continues a sequence keeps. -/
theorem keep_B (hc0 : ¬cond0_0 i) (xs : Vec Ideal S8x5632 .f32) :
    sout0_B_0 c i arg1 harg1 arg2 harg2 arg3 harg3 arg4 harg4 arg5 harg5 arg6 harg6 arg7 harg7 arg8 harg8 arg9 harg9 arg10 harg10 hc0 x0 x1 x2 x3 x4 x5 x6 x7 xs
      = tail (k0_pay4 x0 x1 x2 x3) x4 := by
  unfold sout0_B_0
  frame_open
  simp (disch := decide) only [↓ View.readCov_skip, ↓ View.readCov_cons_toLoadRect, ↓ View.readCov_fill]
  frame_out
  exact keep_eq (k0_pay4 x0 x1 x2 x3) x4 []

/-- What a point that starts a sequence keeps. -/
theorem keep_A (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 x6 x7
      = tail (k0_pay4 x0 x1 x2 x3) x4 := by
  unfold sout0_A_0
  frame_open
  simp (disch := decide) only [↓ View.readCov_skip, ↓ View.readCov_cons_toLoadRect, ↓ View.readCov_fill]
  frame_out
  exact keep_eq (k0_pay4 x0 x1 x2 x3) x4 [⟨Rect.unit (s := S8x5632) ![0, 0] S8x5632.size inb_S8x5632_S8x5632_0_0, k0_pay2 (F := Ideal)⟩]

/-- What a point that continues a sequence writes. -/
theorem out_B (hc0 : ¬cond0_0 i) (xs : Vec Ideal S8x5632 .f32) :
    out0_B_8 c i arg1 harg1 arg2 harg2 arg3 harg3 arg4 harg4 arg5 harg5 arg6 harg6 arg7 harg7 arg8 harg8 arg9 harg9 arg10 harg10 hc0 x0 x1 x2 x3 x4 x5 x6 x7 xs
      = tiles (k0_pay4 x0 x1 x2 x3) (k0_pay3 x0 x1 x2) x4 x5 x6 x7 xs 11 (Nat.le_refl 11) := by
  unfold out0_B_8
  frame_open
  simp (disch := decide) only [↓ View.readCov_skip, ↓ View.readCov_cons_toLoadRect, ↓ View.readCov_fill]
  frame_out
  try simp only [read_unread_whole]
  rfl

/-- What a point that starts a sequence writes: nothing came before. -/
theorem out_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6 x7
      = tiles (k0_pay4 x0 x1 x2 x3) (k0_pay3 x0 x1 x2) x4 x5 x6 x7 (k0_pay2 (F := Ideal)) 11 (Nat.le_refl 11) := by
  unfold out0_A_8
  frame_open
  simp (disch := decide) only [↓ View.readCov_skip, ↓ View.readCov_cons_toLoadRect, ↓ View.readCov_fill]
  frame_out
  rfl

end Cert.Mlp

end
-- ==== Proof.MlpRef.lean ====
/-
  The channel mixer as the reference writes it, read at one batch, time and lane.
-/
module

public import proofs.«01_k».proof.Proof.Gen.Reference2Ideal.Read
public import proofs.«01_k».proof.Proof.MlpTile

@[expose] public section

set_option maxRecDepth 16384

noncomputable section

open Idealize.ShloMosaic
open Cert.Reference2Ideal Cert.Reference2Ideal.Gen Cert.Reference2Ideal.Read

namespace Cert.Mlp

variable (x0 : FVec Ideal S32768x1024 .f32) (x1 : FVec Ideal S32768x1024 .bf16) (x2 : FVec Ideal S1024x1024 .f32)
  (x3 : FVec Ideal S1024 .f32) (x4 : FVec Ideal S1024x5632 .f32) (x5 : FVec Ideal S3x5632 .f32) (x6 : FVec Ideal S5632 .f32)
  (x7 : FVec Ideal S2816x1024 .f32)

/-- The row after the output projection and the residual. -/
theorem v4_at (b : Fin 8) (p : Fin 4096) (l : Fin 1024) :
    val_main_v4 (F := Ideal) x0 x1 x2 (ix3 b p l)
      = x0 (ix2 ⟨b.val * 4096 + p.val, by omega⟩ l) + ∑ x, x1 (ix2 ⟨b.val * 4096 + p.val, by omega⟩ x) * x2 (ix2 x l) := by
  pointwise [val_main_v4, val_main_v3, val_main_v2, val_main_v1, val_main_v0]

/-- The row normalised. -/
theorem v17_at (b : Fin 8) (p : Fin 4096) (l : Fin 1024) :
    val_main_v17 (F := Ideal) x0 x1 x2 x3 (ix3 b p l)
      = norm (fun x => val_main_v4 (F := Ideal) x0 x1 x2 (ix3 b p x)) (x3 (ix1 l)) l := by
  unfold norm
  unfold val_main_v17 val_main_v14 val_main_v13 val_main_v12 val_main_v11 val_main_v9 val_main_v7 val_main_v6 val_main_v5
  generalize val_main_v4 (F := Ideal) x0 x1 x2 = Y
  pointwise [val_main_v8, val_main_cst_0, val_main_cst, val_main_cst_1, val_main_v10, val_main_v16, val_main_v15]

/-- The row multiplied into the input weights. -/
theorem v18_at (b : Fin 8) (p : Fin 4096) (f : Fin 5632) :
    val_main_v18 (F := Ideal) x0 x1 x2 x3 x4 (ix3 b p f)
      = ∑ d : Fin 1024, val_main_v17 (F := Ideal) x0 x1 x2 x3 (ix3 b p d) * x4 (ix2 d f) := by
  unfold val_main_v18
  generalize val_main_v17 (F := Ideal) x0 x1 x2 x3 = Y
  pointwise

/-- A channel of a sequence before the convolution, its times numbered from eight before the first: zero before the
    first. -/
def pre (b : Fin 8) (f : Fin 5632) (q : ℕ) : EReal :=
  if h : 8 ≤ q ∧ q < 4104 then val_main_v18 (F := Ideal) x0 x1 x2 x3 x4 (ix3 b ⟨q - 8, by omega⟩ f) else 0

theorem pre_of (b : Fin 8) (f : Fin 5632) (p : Fin 4096) :
    pre x0 x1 x2 x3 x4 b f (8 + p.val) = val_main_v18 (F := Ideal) x0 x1 x2 x3 x4 (ix3 b p f) := by
  have hp := p.isLt
  unfold pre
  rw [dif_pos (by omega)]
  congr 2
  exact Fin.ext (by show 8 + p.val - 8 = p.val; omega)

theorem pre_before (b : Fin 8) (f : Fin 5632) (q : ℕ) (hq : q < 8) : pre x0 x1 x2 x3 x4 b f q = 0 := by
  unfold pre
  rw [dif_neg (by omega)]

/-- A shifted copy of the channel, zero before the sequence. -/
theorem shift_at (b : Fin 8) (f : Fin 5632) (n : ℕ) (hn : n < 4098) (z : EReal) (hz : z = 0) :
    (if h : 2 ≤ n ∧ n - 2 < 4096 then val_main_v18 (F := Ideal) x0 x1 x2 x3 x4 (ix3 b ⟨n - 2, h.2⟩ f) else z)
      = pre x0 x1 x2 x3 x4 b f (n + 6) := by
  unfold pre
  by_cases h : 2 ≤ n
  · rw [dif_pos (by omega), dif_pos (by omega)]
    exact congrArg (fun q => val_main_v18 (F := Ideal) x0 x1 x2 x3 x4 (ix3 b q f)) (Fin.ext (by show n - 2 = n + 6 - 8; omega))
  · rw [dif_neg (by omega), dif_neg (by omega), hz]

/-- The convolution. -/
theorem v44_at (b : Fin 8) (p : Fin 4096) (f : Fin 5632) :
    val_main_v44 (F := Ideal) x0 x1 x2 x3 x4 x5 x6 (ix3 b p f)
      = mix (pre x0 x1 x2 x3 x4 b f) (x6 (ix1 f)) (x5 (ix2 0 f)) (x5 (ix2 1 f)) (x5 (ix2 2 f)) (p.val + 6) := by
  have hp := p.isLt
  have hz : (FloatOps.sitofp FTy.f32 0#32 : Ideal .f32) = (0 : EReal) := by
    show (((0 : ℤ) : ℝ) : EReal) = 0
    norm_num
  have s0 := shift_at x0 x1 x2 x3 x4 b f p.val (by omega) _ hz
  have s1 := shift_at x0 x1 x2 x3 x4 b f (1 + p.val) (by omega) _ hz
  have s2 := pre_of x0 x1 x2 x3 x4 b f p
  pointwise [val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25, val_main_v24,
    val_main_v23, val_main_v22, val_main_v21, val_main_v20, val_main_v19, val_main_cst_2, val_main_call0_v0, val_main_c]
  unfold mix
  rw [s0, s1, ← s2, show p.val + 6 + 1 = 1 + p.val + 6 by omega, show p.val + 6 + 2 = 8 + p.val by omega]
  simp only [add_assoc]

/-- The reference's result at a row and lane. -/
theorem v51_at (b : Fin 8) (p : Fin 4096) (l : Fin 1024) :
    val_main_v51 (F := Ideal) x0 x1 x2 x3 x4 x5 x6 x7 (ix2 ⟨b.val * 4096 + p.val, by omega⟩ l)
      = val_main_v4 (F := Ideal) x0 x1 x2 (ix3 b p l)
        + ∑ f : Fin 2816, act (val_main_v44 (F := Ideal) x0 x1 x2 x3 x4 x5 x6 (ix3 b p ⟨f.val, by omega⟩))
            (val_main_v44 (F := Ideal) x0 x1 x2 x3 x4 x5 x6 (ix3 b p ⟨2816 + f.val, by omega⟩)) * x7 (ix2 f l) := by
  unfold act
  simp only [zero_sub]
  unfold val_main_v51 val_main_v50 val_main_v49 val_main_v48 val_main_v47 val_main_call1_v5 val_main_call1_v3 val_main_call1_v1 val_main_call1_v0
    val_main_v45 val_main_v46
  generalize val_main_v4 (F := Ideal) x0 x1 x2 = Y
  generalize val_main_v44 (F := Ideal) x0 x1 x2 x3 x4 x5 x6 = C
  have e0 : (b.val * 4096 + p.val) / 4096 = b.val := by omega
  have e1 : (b.val * 4096 + p.val) % 4096 = p.val := by omega
  pointwise [val_main_call1_v2, val_main_call1_v4, val_main_call1_cst, val_main_call1_cst_0]

end Cert.Mlp

end
-- ==== Proof.MlpValue.lean ====
/-
  The channel mixer's result array is the reference's: block by block of 512 times, the eight last times of a block kept for
  the block after.
-/
module

public import proofs.«01_k».proof.Proof.MlpBlock
public import proofs.«01_k».proof.Proof.MlpRef
public import proofs.«01_k».proof.Defs
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Mlp

variable (m : (ℓ : Loc nD τ sig) → Buf (Elt Ideal) ℓ)

theorem widx0 : ∀ t : Fin cfg0.N, win0_0.index t = ![t.val, 0] := (by decide +kernel : ∀ t : Fin grid0.N, _)
theorem widx1 : ∀ t : Fin cfg0.N, win0_1.index t = ![t.val, 0] := (by decide +kernel : ∀ t : Fin grid0.N, _)
theorem widx2 : ∀ t : Fin cfg0.N, win0_2.index t = ![0, 0] := fun _ => rfl
theorem widx3 : ∀ t : Fin cfg0.N, win0_3.index t = ![0, 0] := fun _ => rfl
theorem widx4 : ∀ t : Fin cfg0.N, win0_4.index t = ![0, 0] := fun _ => rfl
theorem widx5 : ∀ t : Fin cfg0.N, win0_5.index t = ![0, 0] := fun _ => rfl
theorem widx6 : ∀ t : Fin cfg0.N, win0_6.index t = ![0, 0] := fun _ => rfl
theorem widx7 : ∀ t : Fin cfg0.N, win0_7.index t = ![0, 0] := fun _ => rfl
theorem widx8 : ∀ t : Fin cfg0.N, win0_8.index t = ![t.val, 0] := (by decide +kernel : ∀ t : Fin grid0.N, _)

section

variable (c : Dev nD) (t : Fin cfg0.N)

/-- The residual rows of a point. -/
theorem x_at (r : Fin 512) (d : Fin 1024) :
    iblk m c 0 t (ix2 r d) = (m ((c : Thread nD τ).loc main_arg0) : FVec Ideal S32768x1024 .f32)
      (ix2 ⟨512 * t.val + r.val, by have h : t.val < 64 := t.isLt; omega⟩ d) := by
  blk_ext [iblk, V, widx0 t]

/-- The attention rows of a point. -/
theorem o_at (r : Fin 512) (d : Fin 1024) :
    iblk m c 1 t (ix2 r d) = (m ((c : Thread nD τ).loc main_arg1) : FVec Ideal S32768x1024 .bf16)
      (ix2 ⟨512 * t.val + r.val, by have h : t.val < 64 := t.isLt; omega⟩ d) := by
  blk_ext [iblk, V, widx1 t]

/-- The output projection's weights. -/
theorem wo_at (d l : Fin 1024) :
    iblk m c 2 t (ix2 d l) = (m ((c : Thread nD τ).loc main_arg2) : FVec Ideal S1024x1024 .f32) (ix2 d l) := by
  blk_simp [iblk, widx2 t]
  entry_read
  pointwise
  blk_ext [widx2 t]

/-- The normalisation's scales. -/
theorem g_at (d : Fin 1024) :
    iblk m c 3 t (ix2 0 d) = (m ((c : Thread nD τ).loc main_arg3) : FVec Ideal S1024 .f32) (ix1 d) := by
  blk_simp [iblk, widx3 t]
  entry_read
  pointwise
  blk_ext [widx3 t]

/-- The input weights. -/
theorem win_at (d : Fin 1024) (f : Fin 5632) :
    iblk m c 4 t (ix2 d f) = (m ((c : Thread nD τ).loc main_arg4) : FVec Ideal S1024x5632 .f32) (ix2 d f) := by
  blk_simp [iblk, widx4 t]
  entry_read
  pointwise
  blk_ext [widx4 t]

/-- The convolution's weights. -/
theorem cw_at (i : Fin 3) (f : Fin 5632) :
    iblk m c 5 t (ix2 i f) = (m ((c : Thread nD τ).loc main_arg5) : FVec Ideal S3x5632 .f32) (ix2 i f) := by
  blk_ext [iblk, V, widx5 t]

/-- The convolution's bias. -/
theorem cb_at (f : Fin 5632) :
    iblk m c 6 t (ix2 0 f) = (m ((c : Thread nD τ).loc main_arg6) : FVec Ideal S5632 .f32) (ix1 f) := by
  blk_simp [iblk, widx6 t]
  entry_read
  pointwise
  blk_ext [widx6 t]

/-- The output weights. -/
theorem wd_at (f : Fin 2816) (l : Fin 1024) :
    iblk m c 7 t (ix2 f l) = (m ((c : Thread nD τ).loc main_arg7) : FVec Ideal S2816x1024 .f32) (ix2 f l) := by
  blk_simp [iblk, widx7 t]
  entry_read
  pointwise
  blk_ext [widx7 t]

end

section

variable (c : Dev nD)

/-- The row of a sequence after the output projection and the residual. -/
abbrev R4 : FVec Ideal Cert.Reference2Ideal.S8x4096x1024 .f32 :=
  Cert.Reference2Ideal.Read.val_main_v4 (F := Ideal) (m ((c : Thread nD τ).loc main_arg0)) (m ((c : Thread nD τ).loc main_arg1))
    (m ((c : Thread nD τ).loc main_arg2))

/-- A channel of a sequence before the convolution. -/
abbrev P (b : Fin 8) (f : Fin 5632) (q : ℕ) : EReal :=
  pre (m ((c : Thread nD τ).loc main_arg0)) (m ((c : Thread nD τ).loc main_arg1)) (m ((c : Thread nD τ).loc main_arg2))
    (m ((c : Thread nD τ).loc main_arg3)) (m ((c : Thread nD τ).loc main_arg4)) b f q

/-- The sequence of a point. -/
def seq (t : Fin cfg0.N) : Fin 8 := ⟨t.val / 8, by have h : t.val < 64 := t.isLt; omega⟩

/-- The time in its sequence of a row of a point. -/
def time (t : Fin cfg0.N) (r : Fin 512) : Fin 4096 := ⟨512 * (t.val % 8) + r.val, by omega⟩

variable (t : Fin cfg0.N)

/-- The rows a point computes on. -/
theorem y_at (r : Fin 512) (d : Fin 1024) :
    k0_pay3 (iblk m c 0 t) (iblk m c 1 t) (iblk m c 2 t) (ix2 r d) = R4 m c (ix3 (seq t) (time t r) d) := by
  have ht : t.val < 64 := t.isLt
  have e : (⟨(seq t).val * 4096 + (time t r).val, by have := (seq t).isLt; have := (time t r).isLt; omega⟩ : Fin 32768)
      = ⟨512 * t.val + r.val, by omega⟩ :=
    Fin.ext (by show t.val / 8 * 4096 + (512 * (t.val % 8) + r.val) = 512 * t.val + r.val; omega)
  refine (rows_at _ _ _ r d).trans ((?_ : _ = _).trans (v4_at _ _ _ (seq t) (time t r) d).symm)
  rw [e, x_at m c t r d]
  exact congrArg₂ (fun a b : EReal => a + b) rfl (Finset.sum_congr rfl fun x _ => by rw [o_at m c t r x, wo_at m c t x d])

/-- The rows normalised. -/
theorem h_at (r : Fin 512) (d : Fin 1024) :
    k0_pay4 (iblk m c 0 t) (iblk m c 1 t) (iblk m c 2 t) (iblk m c 3 t) (ix2 r d)
      = Cert.Reference2Ideal.Read.val_main_v17 (F := Ideal) (m ((c : Thread nD τ).loc main_arg0)) (m ((c : Thread nD τ).loc main_arg1))
          (m ((c : Thread nD τ).loc main_arg2)) (m ((c : Thread nD τ).loc main_arg3)) (ix3 (seq t) (time t r) d) := by
  refine (norm_at _ _ _ _ r d).trans ((?_ : _ = _).trans (v17_at _ _ _ _ (seq t) (time t r) d).symm)
  rw [g_at m c t d]
  exact congrArg (fun Y => norm Y _ d) (funext fun x => y_at m c t r x)

/-- The rows multiplied into the input weights. -/
theorem a_at (r : Fin 512) (f : Fin 5632) :
    ∑ d : Fin 1024, k0_pay4 (iblk m c 0 t) (iblk m c 1 t) (iblk m c 2 t) (iblk m c 3 t) (ix2 r d) * iblk m c 4 t (ix2 d f)
      = P m c (seq t) f (8 + (time t r).val) := by
  rw [P, pre_of, v18_at]
  exact Finset.sum_congr rfl fun d _ => by rw [h_at m c t r d, win_at m c t d f]

/-- What a point keeps, whatever it started from. -/
theorem keep_eq_tail :
    (outsAt0 m c t.val t.isLt).2 = tail (k0_pay4 (iblk m c 0 t) (iblk m c 1 t) (iblk m c 2 t) (iblk m c 3 t)) (iblk m c 4 t) := by
  by_cases h0 : t.val % 8 = 0
  · have h := congrArg Prod.snd (outsAt0_A m c t h0)
    dsimp only at h
    rw [keep_A] at h
    exact h
  · have h := congrArg Prod.snd (outsAt0_B m c t h0)
    dsimp only at h
    rw [keep_B] at h
    exact h

theorem keep_at (k : Fin 8) (f : Fin 5632) :
    (outsAt0 m c t.val t.isLt).2 (ix2 k f) = P m c (seq t) f (512 * (t.val % 8) + 512 + k.val) := by
  rw [keep_eq_tail m c t]
  refine (a_at m c t ⟨504 + k.val, by omega⟩ f).trans (congrArg (P m c (seq t) f) ?_)
  show 8 + (512 * (t.val % 8) + (504 + k.val)) = _
  omega

/-- What the eleven tiles of a point compute, given what was kept from the point before. -/
theorem result_at (xs : Vec Ideal S8x5632 .f32)
    (hxs : ∀ (k : Fin 8) (f : Fin 5632), xs (ix2 k f) = P m c (seq t) f (512 * (t.val % 8) + k.val)) (r : Fin 512) (l : Fin 1024) :
    tiles (k0_pay4 (iblk m c 0 t) (iblk m c 1 t) (iblk m c 2 t) (iblk m c 3 t)) (k0_pay3 (iblk m c 0 t) (iblk m c 1 t) (iblk m c 2 t))
        (iblk m c 4 t) (iblk m c 5 t) (iblk m c 6 t) (iblk m c 7 t) xs 11 (Nat.le_refl 11) (ix2 r l)
      = Cert.Reference2Ideal.Read.val_main_v51 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (ix2 ⟨512 * t.val + r.val, by have h : t.val < 64 := t.isLt; omega⟩ l) := by
  have ht : t.val < 64 := t.isLt
  have e : (⟨(seq t).val * 4096 + (time t r).val, by have := (seq t).isLt; have := (time t r).isLt; omega⟩ : Fin 32768)
      = ⟨512 * t.val + r.val, by omega⟩ :=
    Fin.ext (by show t.val / 8 * 4096 + (512 * (t.val % 8) + r.val) = 512 * t.val + r.val; omega)
  rw [all_tiles_at _ _ _ _ _ _ _ (fun f q => P m c (seq t) f (512 * (t.val % 8) + q)) hxs
    (fun (r : Fin 512) (f : Fin 5632) => (a_at m c t r f).trans (congrArg (P m c (seq t) f)
      (by show 8 + (512 * (t.val % 8) + r.val) = 512 * (t.val % 8) + (8 + r.val); omega))) r l]
  rw [y_at m c t r l, ← e, v51_at]
  have hmix : ∀ f : Fin 5632, mix (fun q => P m c (seq t) f (512 * (t.val % 8) + q)) (iblk m c 6 t (ix2 0 f)) (iblk m c 5 t (ix2 0 f))
      (iblk m c 5 t (ix2 1 f)) (iblk m c 5 t (ix2 2 f)) (r.val + 6)
      = Cert.Reference2Ideal.Read.val_main_v44 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix3 (seq t) (time t r) f) := fun f => by
    rw [v44_at, cb_at m c t f, cw_at m c t 0 f, cw_at m c t 1 f, cw_at m c t 2 f]
    rfl
  refine congrArg (R4 m c (ix3 (seq t) (time t r) l) + ·) (Finset.sum_congr rfl fun f _ => ?_)
  unfold share
  rw [hmix, hmix, wd_at m c t f l]

/-- What a point writes, at a row and lane: the reference's result there. -/
theorem block_at (r : Fin 512) (l : Fin 1024) :
    (outsAt0 m c t.val t.isLt).1 (ix2 r l)
      = Cert.Reference2Ideal.Read.val_main_v51 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (ix2 ⟨512 * t.val + r.val, by have h : t.val < 64 := t.isLt; omega⟩ l) := by
  by_cases h0 : t.val % 8 = 0
  · have h := congrArg Prod.fst (outsAt0_A m c t h0)
    dsimp only at h
    rw [out_A] at h
    refine (congrFun h (ix2 r l)).trans (result_at m c t _ (fun k f => ?_) r l)
    rw [P, pre_before _ _ _ _ _ _ _ _ (by omega)]
    pointwise [k0_pay2]
  · have h := congrArg Prod.fst (outsAt0_B m c t h0)
    dsimp only at h
    rw [out_B] at h
    refine (congrFun h (ix2 r l)).trans (result_at m c t _ (fun k f => ?_) r l)
    have ht : t.val < 64 := t.isLt
    have hk := keep_at m c ⟨t.val - 1, Nat.lt_of_le_of_lt (Nat.sub_le _ _) t.isLt⟩ k f
    refine hk.trans ?_
    have es : seq ⟨t.val - 1, Nat.lt_of_le_of_lt (Nat.sub_le _ _) t.isLt⟩ = seq t :=
      Fin.ext (by show (t.val - 1) / 8 = t.val / 8; omega)
    rw [es]
    exact congrArg (P m c (seq t) f) (by show 512 * ((t.val - 1) % 8) + 512 + k.val = _; omega)

end

/-- The blocks of the result cover it. -/
theorem covers8 : (cfg0.win 8).Covers :=
  (cfg0.win 8).covers_of_indexMap_surj rfl (by decide) fun β =>
    ⟨fun a => match a with
      | ⟨0, _⟩ => (⟨(β 0).val, (β 0).isLt⟩ : Fin 64), fun a => by
      match a with
      | ⟨0, _⟩ =>
        show (BitVec.ofNat 32 (β 0).val).toNat = (β 0).val
        have h : (β 0).val < 64 := (β 0).isLt
        rw [BitVec.toNat_ofNat, Nat.mod_eq_of_lt (by omega)]
      | ⟨1, _⟩ =>
        show 0 = (β 1).val
        have h : (β 1).val < 1 := (β 1).isLt
        omega⟩

/-- The result array of the kernel is the reference's. -/
theorem final (c : Dev nD) :
    (dats m 0 c).arrAt 8 cfg0.N
      = Cert.Reference2Ideal.Read.val_main_v51 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 8 _ covers8 fun t hf y => ?_
  obtain ⟨r, l, rfl⟩ : ∃ (r : Fin 512) (l : Fin 1024), y = ix2 r l := ⟨y 0, y 1, funext fun a => by
    match a with
    | ⟨0, _⟩ => rfl
    | ⟨1, _⟩ => rfl⟩
  have h0 : (dats m 0 c).after 8 t (ix2 r l) = (outsAt0 m c t.val t.isLt).1 (ix2 r l) := by rw [after0_8]
  blk_simp
  refine (h0.trans (block_at m c t r l)).trans ?_
  blk_ext [widx8 t]

end Cert.Mlp

end
-- ==== Proof.ProjTile.lean ====
/-
  The projection of a block of rows: the rows normalised, multiplied into the weights 512 columns at a time, and stored 128
  columns at a time, some of the columns scaled. Stated once for both projections.
-/
module

public import proofs.«01_k».proof.Proof.Gen.Kernel3Ideal.Skeleton
public import proofs.«01_k».proof.Proof.Gen.Kernel3Ideal.Frame
public import proofs.«01_k».proof.Proof.MlpTile
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic
open Cert.Kernel3Ideal Cert.Kernel3Ideal.Gen

namespace Cert.Proj

/-- A block of rows times 512 columns of the weights. -/
def prod (h : FVec Ideal S512x1024 .bf16) (w : Vec Ideal S1024x512 .bf16) : FVec Ideal S512x512 .f32 := k0_pay10 h w

theorem prod_at (h : FVec Ideal S512x1024 .bf16) (w : Vec Ideal S1024x512 .bf16) (r j : Fin 512) :
    prod h w (ix2 r j) = ∑ d : Fin 1024, h (ix2 r d) * w (ix2 d j) := by
  pointwise [prod, k0_pay10]

/-- The rows normalised. -/
theorem rows_at (x0 : Vec Ideal S1x512x1024 .f32) (x1 : Vec Ideal S1x1024 .f32) (r : Fin 512) (d : Fin 1024) :
    k0_pay2 x0 x1 (ix2 r d) = Cert.Mlp.norm (fun x => x0 (ix3 0 r x)) (x1 (ix2 0 d)) d := by
  unfold Cert.Mlp.norm
  pointwise [k0_pay2]

theorem slices_cols (j : Fin 4) : S512x512.Slices ![0, 128 * j.val] S512x128 :=
  ⟨rfl, fun a => by
    have hj := j.isLt
    match a with
    | ⟨0, _⟩ => show 0 + 512 ≤ 512; omega
    | ⟨1, _⟩ => show 128 * j.val + 128 ≤ 512; omega⟩

/-- 128 columns of a product. -/
def cols (Y : FVec Ideal S512x512 .f32) (j : Fin 4) : FVec Ideal S512x128 .f32 :=
  extractStridedSlice S512x128 ![0, 128 * j.val] Y (slices_cols j)

theorem cols_at (Y : FVec Ideal S512x512 .f32) (j : Fin 4) (r : Fin 512) (l : Fin 128) :
    cols Y j (ix2 r l) = Y (ix2 r ⟨128 * j.val + l.val, by omega⟩) :=
  extractStridedSlice_apply _ _ _ _ _ fun a => by
    match a with
    | ⟨0, _⟩ => exact (Nat.zero_add _).symm
    | ⟨1, _⟩ => rfl

/-- What is stored of 128 columns, as they are or scaled. -/
def stored (s : Bool) (Z : FVec Ideal S512x128 .f32) : FVec Ideal S1x512x128 .bf16 :=
  bif s then k0_pay8 Z (k0_pay7 (F := Ideal)) else shapeCast S1x512x128 (truncf .bf16 Z bitsLt_bf16_f32) shapeCasts_S512x128_S1x512x128

/-- The factor of a column. -/
def factor (s : Bool) : EReal := bif s then Ideal.ofBits FTy.f32 0x3E000000#32 else 1

theorem stored_at (s : Bool) (Z : FVec Ideal S512x128 .f32) (r : Fin 512) (l : Fin 128) :
    stored s Z (ix3 0 r l) = Z (ix2 r l) * factor s := by
  cases s with
  | true =>
    show k0_pay8 Z (k0_pay7 (F := Ideal)) (ix3 0 r l) = Z (ix2 r l) * Ideal.ofBits FTy.f32 0x3E000000#32
    pointwise [k0_pay8, k0_pay7]
  | false =>
    refine Eq.trans ?_ (mul_one _).symm
    show shapeCast S1x512x128 (truncf .bf16 Z bitsLt_bf16_f32) shapeCasts_S512x128_S1x512x128 (ix3 0 r l) = Z (ix2 r l)
    pointwise

theorem inb_w (k : Fin 6) (a : Fin 2) :
    (![0, 512 * k.val] : Fin 2 → ℕ) a + (![1024, 512] : Fin 2 → ℕ) a ≤ (![1024, 3072] : Fin 2 → ℕ) a := by
  have hk := k.isLt
  match a with
  | ⟨0, _⟩ => show 0 + 1024 ≤ 1024; omega
  | ⟨1, _⟩ => show 512 * k.val + 512 ≤ 3072; omega

/-- 512 columns of the weights. -/
def wT (x2 : Vec Ideal S1024x3072 .bf16) (k : Fin 6) : Vec Ideal S1024x512 .bf16 :=
  View.ld x2 (Rect.unit (s := S1024x3072) ![0, 512 * k.val] S1024x512.size (inb_w k))

theorem wT_at (x2 : Vec Ideal S1024x3072 .bf16) (k : Fin 6) (d : Fin 1024) (j : Fin 512) :
    wT x2 k (ix2 d j) = x2 (ix2 d ⟨512 * k.val + j.val, by omega⟩) :=
  View.ld_unit_apply_of x2 _ _ _ _ _ fun a => by
    match a with
    | ⟨0, _⟩ => exact (Nat.zero_add _).symm
    | ⟨1, _⟩ => rfl

theorem inb_o (k : Fin 6) (j : Fin 4) (a : Fin 3) :
    (![0, 0, 512 * k.val + 128 * j.val] : Fin 3 → ℕ) a + (![1, 512, 128] : Fin 3 → ℕ) a ≤ (![1, 512, 3072] : Fin 3 → ℕ) a := by
  have hk := k.isLt
  have hj := j.isLt
  match a with
  | ⟨0, _⟩ => show 0 + 1 ≤ 1; omega
  | ⟨1, _⟩ => show 0 + 512 ≤ 512; omega
  | ⟨2, _⟩ => show 512 * k.val + 128 * j.val + 128 ≤ 3072; omega

variable (s : Fin 6 → Bool) (h : FVec Ideal S512x1024 .bf16) (x2 : Vec Ideal S1024x3072 .bf16)

/-- What is stored of 128 columns: the columns `128 j` on of the product with the columns `512 k` on. -/
def piece (n : Fin 6 × Fin 4) : View.Piece (Elt Ideal) S1x512x3072 .bf16 :=
  ⟨Rect.unit (s := S1x512x3072) ![0, 0, 512 * n.1.val + 128 * n.2.val] S1x512x128.size (inb_o n.1 n.2),
    stored (s n.1) (cols (prod h (wT x2 n.1)) n.2)⟩

/-- The order of the stores, the last first. -/
def order : List (Fin 6 × Fin 4) :=
  [(5, 3), (5, 2), (5, 1), (5, 0), (4, 3), (4, 2), (4, 1), (4, 0), (3, 3), (3, 2), (3, 1), (3, 0),
    (2, 3), (2, 2), (2, 1), (2, 0), (1, 3), (1, 2), (1, 1), (1, 0), (0, 3), (0, 2), (0, 1), (0, 0)]

/-- An entry of the product, its columns scaled 512 by 512. -/
def entry (r : Fin 512) (f : Fin 3072) : EReal :=
  (∑ d : Fin 1024, h (ix2 r d) * x2 (ix2 d f)) * factor (s ⟨f.val / 512, by omega⟩)

/-- The whole product. -/
def whole : Vec Ideal S1x512x3072 .bf16 := fun y => entry s h x2 (y 1) (y 2)

theorem piece_at (n : Fin 6 × Fin 4) (x : (piece s h x2 n).1.shape.Idx) :
    (piece s h x2 n).2 x = whole s h x2 ((piece s h x2 n).1.emb x) := by
  obtain ⟨k, j⟩ := n
  obtain ⟨o, r, l, rfl⟩ : ∃ (o : Fin 1) (r : Fin 512) (l : Fin 128), x = ix3 o r l :=
    ⟨x 0, x 1, x 2, funext fun a => match a with | ⟨0, _⟩ => rfl | ⟨1, _⟩ => rfl | ⟨2, _⟩ => rfl⟩
  obtain rfl : o = 0 := Subsingleton.elim _ _
  have hk := k.isLt
  have hj := j.isLt
  have hl := l.isLt
  have h1 : ((piece s h x2 (k, j)).1.emb (ix3 0 r l) 1 : Fin 512) = r := Fin.ext (by show 0 + 1 * r.val = r.val; omega)
  have h2 : ((piece s h x2 (k, j)).1.emb (ix3 0 r l) 2 : Fin 3072)
      = ⟨512 * k.val + (128 * j.val + l.val), show 512 * k.val + (128 * j.val + l.val) < 3072 by omega⟩ :=
    Fin.ext (by show 512 * k.val + 128 * j.val + 1 * l.val = 512 * k.val + (128 * j.val + l.val); omega)
  have h3 : (⟨(512 * k.val + (128 * j.val + l.val)) / 512, by omega⟩ : Fin 6) = k :=
    Fin.ext (by show (512 * k.val + (128 * j.val + l.val)) / 512 = k.val; omega)
  refine Eq.trans ?_ ((congrArg (entry s h x2 · _) h1).trans (congrArg (entry s h x2 r) h2)).symm
  unfold entry
  rw [h3]
  refine (stored_at _ _ r l).trans ?_
  rw [cols_at, prod_at]
  refine congrArg (· * factor (s k)) (Finset.sum_congr rfl fun d _ => ?_)
  rw [wT_at]
  rfl

theorem pieces_whole (L : List (Fin 6 × Fin 4)) : View.PiecesOf (whole s h x2) (L.map (piece s h x2)) := by
  induction L with
  | nil => trivial
  | cons n L ih => exact ⟨piece_at s h x2 n, ih⟩

/-- The stores together leave the whole product. -/
theorem canon_eq : View.canon (order.map (piece s h x2)) = whole s h x2 := by
  funext y
  have e := View.canon_append_of_piecesOf (whole s h x2) [] _ (pieces_whole s h x2 order) y
    (View.cover_of_tiledL (order.map (piece s h x2)) S1x512x128.size (by rfl) y)
  rwa [List.append_nil] at e

/-- Which columns the first projection scales: the queries, 1024 columns. -/
def queries (k : Fin 6) : Bool := decide (k.val < 2)

/-- What a point of the first projection writes. -/
theorem out_eq (x0 : Vec Ideal S1x512x1024 .f32) (x1 : Vec Ideal S1x1024 .f32) (x3 : Vec Ideal S128x128 .bf16) (x4 : Vec Ideal S2x128 .f32) :
    out0_5 x0 x1 x2 x3 x4 = whole queries (k0_pay2 (View.ld x0 r0_0) (View.ld x1 r0_1)) x2 := by
  rw [← canon_eq]
  rfl

theorem ld0 (x0 : Vec Ideal S1x512x1024 .f32) : View.ld x0 r0_0 = x0 :=
  View.ld_unit_zero (by funext a; match a with | ⟨0, _⟩ => rfl | ⟨1, _⟩ => rfl | ⟨2, _⟩ => rfl) _ x0

theorem ld1 (x1 : Vec Ideal S1x1024 .f32) : View.ld x1 r0_1 = x1 :=
  View.ld_unit_zero (by funext a; match a with | ⟨0, _⟩ => rfl | ⟨1, _⟩ => rfl) _ x1

end Cert.Proj

end
-- ==== Proof.ProjRef.lean ====
/-
  The reference of the two projections, entry by entry.
-/
module

public import proofs.«01_k».proof.Proof.ProjTile
public import proofs.«01_k».proof.Proof.Gen.Reference3Ideal.Read
public import proofs.«01_k».proof.Proof.Gen.Reference4Ideal.Read
public import Idealize.ShloMosaic.Lib.Pointwise

@[expose] public section

set_option maxRecDepth 16384

noncomputable section

open Idealize.ShloMosaic
open Cert.Kernel3Ideal

namespace Cert.Proj

variable (x0 : FVec Ideal S8x4096x1024 .f32) (x1 : FVec Ideal S1024 .f32) (x2 : FVec Ideal S1024x3072 .f32)

/-- An entry of the rows normalised and multiplied into the weights. -/
def proj (b : Fin 8) (p : Fin 4096) (f : Fin 3072) : EReal :=
  ∑ d : Fin 1024, Cert.Mlp.norm (fun x => x0 (ix3 b p x)) (x1 (ix1 d)) d * x2 (ix2 d f)

section

open Cert.Reference3Ideal.Read

theorem v12_at (b : Fin 8) (p : Fin 4096) (d : Fin 1024) :
    val_main_v12 (F := Ideal) x0 x1 (ix3 b p d) = Cert.Mlp.norm (fun x => x0 (ix3 b p x)) (x1 (ix1 d)) d := by
  unfold Cert.Mlp.norm
  unfold val_main_v12 val_main_v9 val_main_v8 val_main_v7 val_main_v6 val_main_v4 val_main_v2 val_main_v1 val_main_v0
  pointwise [val_main_v3, val_main_v5, val_main_cst, val_main_cst_0, val_main_cst_1, val_main_v11, val_main_v10]

theorem v13_at (b : Fin 8) (p : Fin 4096) (f : Fin 3072) :
    val_main_v13 (F := Ideal) x0 x1 x2 (ix3 b p f) = proj x0 x1 x2 b p f := by
  have e : val_main_v13 (F := Ideal) x0 x1 x2 (ix3 b p f)
      = ∑ d : Fin 1024, val_main_v12 (F := Ideal) x0 x1 (ix3 b p d) * x2 (ix2 d f) := by
    unfold val_main_v13
    generalize val_main_v12 (F := Ideal) x0 x1 = Y
    pointwise
  rw [e]
  exact Finset.sum_congr rfl fun d _ => by rw [v12_at]

/-- The first projection's reference: the queries' columns scaled. -/
theorem ref3_at (b : Fin 8) (p : Fin 4096) (f : Fin 3072) :
    val_main_v20 (F := Ideal) x0 x1 x2 (ix3 b p f) = proj x0 x1 x2 b p f * factor (queries ⟨f.val / 512, by omega⟩) := by
  rw [← v13_at]
  unfold val_main_v20 val_main_v19 val_main_v18 val_main_v16 val_main_v15 val_main_v14
  generalize val_main_v13 (F := Ideal) x0 x1 x2 = Y
  pointwise [val_main_v17, val_main_cst_2]
  have hf := f.isLt
  by_cases h : f.val < 1024
  · have hq : queries ⟨f.val / 512, by omega⟩ = true := decide_eq_true (by show f.val / 512 < 2; omega)
    rw [dif_pos h, hq]
    rfl
  · have hq : queries ⟨f.val / 512, by omega⟩ = false := decide_eq_false (by show ¬f.val / 512 < 2; omega)
    rw [dif_neg h, hq]
    refine Eq.trans ?_ (mul_one _).symm
    by_cases h' : f.val - 1024 < 1024
    · rw [dif_pos h']
      exact congrArg (fun q => Y (ix3 b p q)) (Fin.ext (by show 1024 + (f.val - 1024) = f.val; omega))
    · rw [dif_neg h']
      exact congrArg (fun q => Y (ix3 b p q)) (Fin.ext (by show 2048 + (f.val - 1024 - 1024) = f.val; omega))

end

section

open Cert.Reference4Ideal.Read

/-- The second projection's reference: 512 rows of zeros before every sequence. -/
theorem ref4_at (b : Fin 8) (q : Fin 4608) (f : Fin 3072) :
    val_main_v15 (F := Ideal) x0 x1 x2 (ix3 b q f) = if h : 512 ≤ q.val then proj x0 x1 x2 b ⟨q.val - 512, by omega⟩ f else 0 := by
  have hq := q.isLt
  have hY : val_main_v13 (F := Ideal) x0 x1 x2 = Cert.Reference3Ideal.Read.val_main_v13 (F := Ideal) x0 x1 x2 := rfl
  unfold val_main_v15 val_main_v14
  rw [hY]
  by_cases h : 512 ≤ q.val
  · rw [dif_pos h, ← v13_at]
    generalize Cert.Reference3Ideal.Read.val_main_v13 (F := Ideal) x0 x1 x2 = Y
    pointwise
    rw [dif_pos (by omega)]
  · rw [dif_neg h]
    generalize Cert.Reference3Ideal.Read.val_main_v13 (F := Ideal) x0 x1 x2 = Y
    pointwise [val_main_call0_v0, val_main_c]
    rw [dif_neg (by omega)]
    show (((0 : ℤ) : ℝ) : EReal) = 0
    norm_num

end

end Cert.Proj

end
-- ==== Proof.ProjValue.lean ====
/-
  The first projection's result array is the reference's.
-/
module

public import proofs.«01_k».proof.Proof.ProjRef
public import proofs.«01_k».proof.Defs
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen

namespace Cert.Proj

variable (m : (ℓ : Loc nD τ sig) → Buf (Elt Ideal) ℓ)

theorem widx0 : ∀ t : Fin cfg0.N, win0_0.index t = ![t.val / 8, t.val % 8, 0] := (by decide +kernel : ∀ t : Fin grid0.N, _)
theorem widx1 : ∀ t : Fin cfg0.N, win0_1.index t = ![0, 0] := fun _ => rfl
theorem widx2 : ∀ t : Fin cfg0.N, win0_2.index t = ![0, 0] := fun _ => rfl
theorem widx5 : ∀ t : Fin cfg0.N, win0_5.index t = ![t.val / 8, t.val % 8, 0] := (by decide +kernel : ∀ t : Fin grid0.N, _)

/-- The blocks of the result cover it. -/
theorem covers5 : (cfg0.win 5).Covers :=
  (cfg0.win 5).covers_of_indexMap_surj rfl (by decide) fun β =>
    ⟨fun a => match a with
      | ⟨0, _⟩ => (⟨(β 0).val, (β 0).isLt⟩ : Fin 8)
      | ⟨1, _⟩ => (⟨(β 1).val, (β 1).isLt⟩ : Fin 8), fun a => by
      match a with
      | ⟨0, _⟩ =>
        show (BitVec.ofNat 32 (β 0).val).toNat = (β 0).val
        have h : (β 0).val < 8 := (β 0).isLt
        rw [BitVec.toNat_ofNat, Nat.mod_eq_of_lt (by omega)]
      | ⟨1, _⟩ =>
        show (BitVec.ofNat 32 (β 1).val).toNat = (β 1).val
        have h : (β 1).val < 8 := (β 1).isLt
        rw [BitVec.toNat_ofNat, Nat.mod_eq_of_lt (by omega)]
      | ⟨2, _⟩ =>
        show 0 = (β 2).val
        have h : (β 2).val < 1 := (β 2).isLt
        omega⟩

section

variable (c : Dev nD) (t : Fin cfg0.N)

/-- The sequence of a point. -/
def seq : Fin 8 := ⟨t.val / 8, by have h : t.val < 64 := t.isLt; omega⟩

/-- The time in its sequence of a row of a point. -/
def time (r : Fin 512) : Fin 4096 := ⟨512 * (t.val % 8) + r.val, by omega⟩

/-- The rows of a point. -/
theorem x_at (r : Fin 512) (d : Fin 1024) :
    iblk m c 0 t (ix3 0 r d) = (m ((c : Thread nD τ).loc main_arg0) : FVec Ideal S8x4096x1024 .f32) (ix3 (seq t) (time t r) d) := by
  blk_ext [iblk, V, widx0 t, seq, time]

/-- The normalisation's scales. -/
theorem g_at (d : Fin 1024) :
    iblk m c 1 t (ix2 0 d) = (m ((c : Thread nD τ).loc main_arg1) : FVec Ideal S1024 .f32) (ix1 d) := by
  blk_simp [iblk, widx1 t, V]
  simp only [hostOps0, hostOps0_1, hostOps0_2, List.flatten_cons, List.flatten_nil, List.cons_append, List.nil_append, List.append_nil]
  entry_read
  pointwise
  blk_ext [widx1 t]

/-- The weights. -/
theorem w_at (d : Fin 1024) (f : Fin 3072) :
    iblk m c 2 t (ix2 d f) = (m ((c : Thread nD τ).loc main_arg2) : FVec Ideal S1024x3072 .f32) (ix2 d f) := by
  blk_simp [iblk, widx2 t]
  entry_read
  pointwise
  blk_ext [widx2 t]

/-- What a point computes, at a row and lane. -/
theorem entry_at (s : Fin 6 → Bool) (r : Fin 512) (f : Fin 3072) :
    entry s (Cert.Kernel3Ideal.Gen.k0_pay2 (iblk m c 0 t) (iblk m c 1 t)) (iblk m c 2 t) r f
      = proj (m ((c : Thread nD τ).loc main_arg0)) (m ((c : Thread nD τ).loc main_arg1)) (m ((c : Thread nD τ).loc main_arg2))
          (seq t) (time t r) f * factor (s ⟨f.val / 512, by omega⟩) := by
  unfold entry proj
  refine congrArg (fun z : EReal => z * factor (s ⟨f.val / 512, by omega⟩)) (Finset.sum_congr rfl fun d _ => ?_)
  rw [w_at m c t d f]
  refine congrArg (fun z : EReal => z * (m ((c : Thread nD τ).loc main_arg2) : FVec Ideal S1024x3072 .f32) (ix2 d f)) ?_
  refine (rows_at _ _ r d).trans ?_
  rw [g_at m c t d]
  exact congrArg (fun Y => Cert.Mlp.norm Y _ d) (funext fun x => x_at m c t r x)

/-- What a point writes, at a row and lane: the reference's result there. -/
theorem block_at (r : Fin 512) (f : Fin 3072) :
    out0_5 (iblk m c 0 t) (iblk m c 1 t) (iblk m c 2 t) (iblk m c 3 t) (iblk m c 4 t) (ix3 0 r f)
      = Cert.Reference3Ideal.Read.val_main_v20 (F := Ideal) (m ((c : Thread nD τ).loc main_arg0)) (m ((c : Thread nD τ).loc main_arg1))
          (m ((c : Thread nD τ).loc main_arg2)) (ix3 (seq t) (time t r) f) := by
  rw [ref3_at, ← entry_at m c t queries r f, out_eq, ld0, ld1]
  rfl

end

/-- The result array of the kernel is the reference's. -/
theorem final (c : Dev nD) :
    (dats m 0 c).arrAt 5 cfg0.N
      = Cert.Reference3Ideal.Read.val_main_v20 (F := Ideal) (m ((c : Thread nD τ).loc main_arg0)) (m ((c : Thread nD τ).loc main_arg1))
          (m ((c : Thread nD τ).loc main_arg2)) := by
  refine (dats m 0 c).arrAt_eq_of_covers 5 _ covers5 fun t hf y => ?_
  obtain ⟨k, r, f, rfl⟩ : ∃ (k : Fin 1) (r : Fin 512) (f : Fin 3072), y = ix3 k r f := ⟨y 0, y 1, y 2, funext fun a => by
    match a with
    | ⟨0, _⟩ => rfl
    | ⟨1, _⟩ => rfl
    | ⟨2, _⟩ => rfl⟩
  obtain rfl : k = 0 := Subsingleton.elim _ _
  have h0 : (dats m 0 c).after 5 t (ix3 0 r f)
      = out0_5 (iblk m c 0 t) (iblk m c 1 t) (iblk m c 2 t) (iblk m c 3 t) (iblk m c 4 t) (ix3 0 r f) := by rw [after0_5]
  blk_simp
  refine (h0.trans (block_at m c t r f)).trans ?_
  blk_ext [widx5 t, seq, time]

end Cert.Proj

end
-- ==== Proof.PadValue.lean ====
/-
  The second projection's result array is the reference's: 512 rows of zeros before every sequence, then the projected rows.
-/
module

public import proofs.«01_k».proof.Proof.Gen.Kernel4Ideal.Frame
public import Idealize.ShloMosaic.Lib.Pipeline.ValueKit
public import Idealize.ShloMosaic.Lib.Pipeline.ReadBack
public import proofs.«01_k».proof.Proof.ProjRef
public import proofs.«01_k».proof.Defs
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen
open Cert.Proj (whole entry proj factor rows_at canon_eq ref4_at)

namespace Cert.Pad

section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S1x512x3072 .bf16) (harg7 : arg7.IsWhole)
  (x0 : Vec Ideal S1x512x1024 .f32) (x1 : Vec Ideal S1x1024 .f32) (x2 : Vec Ideal S1024x3072 .bf16) (x3 : Vec Ideal S128x128 .bf16) (x4 : Vec Ideal S2x128 .f32)

/-- What a point past the leading rows writes. -/
theorem out_B (hc0 : ¬cond0_0 i) (hc1 : cond0_1 i) :
    out0_B_5 c i arg2 harg2 arg3 harg3 arg4 harg4 arg5 harg5 arg6 harg6 arg7 harg7 hc0 hc1 x0 x1 x2 x3 x4
      = whole (fun _ => false) (Cert.Kernel3Ideal.Gen.k0_pay2 x0 x1) x2 := by
  unfold out0_B_5
  frame_open
  frame_out
  exact canon_eq (fun _ => false) (Cert.Kernel3Ideal.Gen.k0_pay2 x0 x1) x2

/-- What a point of the leading rows writes: zeros. -/
theorem out_A (hc0 : cond0_0 i) (hc1 : ¬cond0_1 i) (r : Fin 512) (f : Fin 3072) :
    out0_A_5 c i arg2 harg2 arg3 harg3 arg4 harg4 arg5 harg5 arg6 harg6 arg7 harg7 hc0 hc1 x0 x1 x2 x3 x4 (ix3 0 r f) = 0 := by
  unfold out0_A_5
  frame_open
  frame_out
  unfold k0_pay1
  pointwise

end

variable (m : (ℓ : Loc nD τ sig) → Buf (Elt Ideal) ℓ)

theorem widx0 : ∀ t : Fin cfg0.N, win0_0.index t = ![t.val / 9, t.val % 9 - 1, 0] := (by decide +kernel : ∀ t : Fin grid0.N, _)
theorem widx1 : ∀ t : Fin cfg0.N, win0_1.index t = ![0, 0] := fun _ => rfl
theorem widx2 : ∀ t : Fin cfg0.N, win0_2.index t = ![0, 0] := fun _ => rfl
theorem widx5 : ∀ t : Fin cfg0.N, win0_5.index t = ![t.val / 9, t.val % 9, 0] := (by decide +kernel : ∀ t : Fin grid0.N, _)

/-- The blocks of the result cover it. -/
theorem covers5 : (cfg0.win 5).Covers :=
  (cfg0.win 5).covers_of_indexMap_surj rfl (by decide) fun β =>
    ⟨fun a => match a with
      | ⟨0, _⟩ => (⟨(β 0).val, (β 0).isLt⟩ : Fin 8)
      | ⟨1, _⟩ => (⟨(β 1).val, (β 1).isLt⟩ : Fin 9), fun a => by
      match a with
      | ⟨0, _⟩ =>
        show (BitVec.ofNat 32 (β 0).val).toNat = (β 0).val
        have h : (β 0).val < 8 := (β 0).isLt
        rw [BitVec.toNat_ofNat, Nat.mod_eq_of_lt (by omega)]
      | ⟨1, _⟩ =>
        show (BitVec.ofNat 32 (β 1).val).toNat = (β 1).val
        have h : (β 1).val < 9 := (β 1).isLt
        rw [BitVec.toNat_ofNat, Nat.mod_eq_of_lt (by omega)]
      | ⟨2, _⟩ =>
        show 0 = (β 2).val
        have h : (β 2).val < 1 := (β 2).isLt
        omega⟩

section

variable (c : Dev nD) (t : Fin cfg0.N)

/-- The sequence of a point. -/
def seq : Fin 8 := ⟨t.val / 9, by have h : t.val < 72 := t.isLt; omega⟩

/-- The time in its sequence of a row that a point reads. -/
def time (r : Fin 512) : Fin 4096 := ⟨512 * (t.val % 9 - 1) + r.val, by omega⟩

/-- The place of a row that a point writes. -/
def place (r : Fin 512) : Fin 4608 := ⟨512 * (t.val % 9) + r.val, by omega⟩

/-- The rows of a point. -/
theorem x_at (r : Fin 512) (d : Fin 1024) :
    iblk m c 0 t (ix3 0 r d) = (m ((c : Thread nD τ).loc main_arg0) : FVec Ideal S8x4096x1024 .f32) (ix3 (seq t) (time t r) d) := by
  blk_ext [iblk, V, widx0 t, seq, time]

/-- The normalisation's scales. -/
theorem g_at (d : Fin 1024) :
    iblk m c 1 t (ix2 0 d) = (m ((c : Thread nD τ).loc main_arg1) : FVec Ideal S1024 .f32) (ix1 d) := by
  blk_simp [iblk, widx1 t, V]
  simp only [hostOps0, hostOps0_1, hostOps0_2, List.flatten_cons, List.flatten_nil, List.cons_append, List.nil_append, List.append_nil]
  entry_read
  pointwise
  blk_ext [widx1 t]

/-- The weights. -/
theorem w_at (d : Fin 1024) (f : Fin 3072) :
    iblk m c 2 t (ix2 d f) = (m ((c : Thread nD τ).loc main_arg2) : FVec Ideal S1024x3072 .f32) (ix2 d f) := by
  blk_simp [iblk, widx2 t]
  entry_read
  pointwise
  blk_ext [widx2 t]

/-- What a point computes, at a row and lane. -/
theorem entry_at (s : Fin 6 → Bool) (r : Fin 512) (f : Fin 3072) :
    entry s (Cert.Kernel3Ideal.Gen.k0_pay2 (iblk m c 0 t) (iblk m c 1 t)) (iblk m c 2 t) r f
      = proj (m ((c : Thread nD τ).loc main_arg0)) (m ((c : Thread nD τ).loc main_arg1)) (m ((c : Thread nD τ).loc main_arg2))
          (seq t) (time t r) f * factor (s ⟨f.val / 512, by omega⟩) := by
  unfold entry proj
  refine congrArg (fun z : EReal => z * factor (s ⟨f.val / 512, by omega⟩)) (Finset.sum_congr rfl fun d _ => ?_)
  rw [w_at m c t d f]
  refine congrArg (fun z : EReal => z * (m ((c : Thread nD τ).loc main_arg2) : FVec Ideal S1024x3072 .f32) (ix2 d f)) ?_
  refine (rows_at _ _ r d).trans ?_
  rw [g_at m c t d]
  exact congrArg (fun Y => Cert.Mlp.norm Y _ d) (funext fun x => x_at m c t r x)

/-- What a point writes, at a row and lane: the reference's result there. -/
theorem block_at (r : Fin 512) (f : Fin 3072) :
    outsAt0 m c t.val t.isLt (ix3 0 r f)
      = Cert.Reference4Ideal.Read.val_main_v15 (F := Ideal) (m ((c : Thread nD τ).loc main_arg0)) (m ((c : Thread nD τ).loc main_arg1))
          (m ((c : Thread nD τ).loc main_arg2)) (ix3 (seq t) (place t r) f) := by
  rw [ref4_at]
  by_cases h0 : t.val % 9 = 0
  · rw [dif_neg (show ¬512 ≤ (place t r).val by show ¬512 ≤ 512 * (t.val % 9) + r.val; omega), outsAt0_A m c t h0 (by omega)]
    exact out_A c _ _ _ _ _ _ _ _ _ _ _ _ _ _ _ _ _ _ _ _ r f
  · have hp : 512 ≤ 512 * (t.val % 9) + r.val := by omega
    have e : (⟨(place t r).val - 512, by have := (place t r).isLt; omega⟩ : Fin 4096) = time t r :=
      Fin.ext (by show 512 * (t.val % 9) + r.val - 512 = 512 * (t.val % 9 - 1) + r.val; omega)
    rw [dif_pos (show 512 ≤ (place t r).val from hp), e, outsAt0_B m c t h0 (by omega), out_B]
    refine (entry_at m c t (fun _ => false) r f).trans ?_
    exact mul_one _

end

/-- The result array of the kernel is the reference's. -/
theorem final (c : Dev nD) :
    (dats m 0 c).arrAt 5 cfg0.N
      = Cert.Reference4Ideal.Read.val_main_v15 (F := Ideal) (m ((c : Thread nD τ).loc main_arg0)) (m ((c : Thread nD τ).loc main_arg1))
          (m ((c : Thread nD τ).loc main_arg2)) := by
  refine (dats m 0 c).arrAt_eq_of_covers 5 _ covers5 fun t hf y => ?_
  obtain ⟨k, r, f, rfl⟩ : ∃ (k : Fin 1) (r : Fin 512) (f : Fin 3072), y = ix3 k r f := ⟨y 0, y 1, y 2, funext fun a => by
    match a with
    | ⟨0, _⟩ => rfl
    | ⟨1, _⟩ => rfl
    | ⟨2, _⟩ => rfl⟩
  obtain rfl : k = 0 := Subsingleton.elim _ _
  have h0 : (dats m 0 c).after 5 t (ix3 0 r f) = outsAt0 m c t.val t.isLt (ix3 0 r f) := by rw [after0_5]
  blk_simp
  refine (h0.trans (block_at m c t r f)).trans ?_
  blk_ext [widx5 t, seq, place]

end Cert.Pad

end
-- ==== Proof.RopeTile.lean ====
/-
  The projection of a block of rows with the heads normalised and rotated: the rows normalised, multiplied into the weights 512
  columns at a time, and stored 128 columns (two heads) at a time. Every store is one of five kinds.
-/
module

public import proofs.«01_k».proof.Proof.Gen.Kernel5Ideal.Skeleton
public import proofs.«01_k».proof.Proof.Gen.Kernel5Ideal.Frame
public import proofs.«01_k».proof.Proof.MlpTile
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic
open Cert.Kernel5Ideal Cert.Kernel5Ideal.Gen

namespace Cert.Rope

/-! ## The operations of a tile -/

/-- A block of rows times 512 columns of the weights. -/
def prod (h : FVec Ideal S512x1024 .bf16) (w : Vec Ideal S1024x512 .bf16) : FVec Ideal S512x512 .f32 := k0_pay26 h w

theorem prod_at (h : FVec Ideal S512x1024 .bf16) (w : Vec Ideal S1024x512 .bf16) (r j : Fin 512) :
    prod h w (ix2 r j) = ∑ d : Fin 1024, h (ix2 r d) * w (ix2 d j) := by
  pointwise [prod, k0_pay26]

/-- A block of rows times the last 128 columns of the weights. -/
def lastProd (h : FVec Ideal S512x1024 .bf16) (w : Vec Ideal S1024x128 .bf16) : FVec Ideal S512x128 .f32 := k0_pay101 h w

theorem lastProd_at (h : FVec Ideal S512x1024 .bf16) (w : Vec Ideal S1024x128 .bf16) (r : Fin 512) (j : Fin 128) :
    lastProd h w (ix2 r j) = ∑ d : Fin 1024, h (ix2 r d) * w (ix2 d j) := by
  pointwise [lastProd, k0_pay101]

/-- The rows normalised. -/
theorem rows_at (x0 : Vec Ideal S1x512x1024 .f32) (x1 : Vec Ideal S1x1024 .f32) (r : Fin 512) (d : Fin 1024) :
    k0_pay4 x0 x1 (ix2 r d) = Cert.Mlp.norm (fun x => x0 (ix3 0 r x)) (x1 (ix2 0 d)) d := by
  unfold Cert.Mlp.norm
  pointwise [k0_pay4]

theorem slices_cols (j : Fin 4) : S512x512.Slices ![0, 128 * j.val] S512x128 :=
  ⟨rfl, fun a => by
    have hj := j.isLt
    match a with
    | ⟨0, _⟩ => show 0 + 512 ≤ 512; omega
    | ⟨1, _⟩ => show 128 * j.val + 128 ≤ 512; omega⟩

/-- 128 columns of a product. -/
def cols (Y : FVec Ideal S512x512 .f32) (j : Fin 4) : FVec Ideal S512x128 .f32 :=
  extractStridedSlice S512x128 ![0, 128 * j.val] Y (slices_cols j)

theorem cols_at (Y : FVec Ideal S512x512 .f32) (j : Fin 4) (r : Fin 512) (l : Fin 128) :
    cols Y j (ix2 r l) = Y (ix2 r ⟨128 * j.val + l.val, by omega⟩) :=
  extractStridedSlice_apply _ _ _ _ _ fun a => by
    match a with
    | ⟨0, _⟩ => exact (Nat.zero_add _).symm
    | ⟨1, _⟩ => rfl

/-- Two heads normalised, with the matrix that sums over each head and the scales of their lanes. -/
def normed (bd : Vec Ideal S128x128 .bf16) (g : Vec Ideal S1x128 .f32) (Z : FVec Ideal S512x128 .f32) : FVec Ideal S512x128 .f32 :=
  mulf (mulf Z (rsqrt (addf (mulf (matmul dot_S512x128_S128x128_S512x128_1_0_0_1_n_n none (truncf .bf16 (mulf Z Z) bitsLt_bf16_f32)
      (k0_pay5 bd) (constant S512x128 .f32 0x00000000#32))
      (broadcast S512x128 (Scalar.ofBits .f32 0x3C800000#32))) (broadcast S512x128 (Scalar.ofBits .f32 0x358637BD#32)))))
    (broadcastTo S512x128 (shapeCast S1x128 g shapeCasts_S1x128_S1x128) broadcasts_S1x128_S512x128)

/-- A lane of two heads normalised. -/
def norm2 (bd : Fin 128 → Fin 128 → EReal) (g : Fin 128 → EReal) (z : Fin 128 → EReal) (l : Fin 128) : EReal :=
  z l * Ideal.rsqrt ((∑ k, z k * z k * bd k l) * Ideal.ofBits FTy.f32 0x3C800000#32 + Ideal.ofBits FTy.f32 0x358637BD#32) * g l

theorem normed_at (bd : Vec Ideal S128x128 .bf16) (g : Vec Ideal S1x128 .f32) (Z : FVec Ideal S512x128 .f32) (r : Fin 512) (l : Fin 128) :
    normed bd g Z (ix2 r l) = norm2 (fun k l => bd (ix2 k l)) (fun l => g (ix2 0 l)) (fun l => Z (ix2 r l)) l := by
  unfold norm2
  pointwise [normed, k0_pay5]

/-- The lane a lane is turned with: the other half of its head. -/
def mate (l : Fin 128) : Fin 128 :=
  if l.val % 64 < 32 then ⟨(l.val + 128 - 96) % 128, by omega⟩ else ⟨(l.val + 128 - 32) % 128, by omega⟩

/-- Which lanes stand in the first half of their head. -/
theorem half_at (r : Fin 512) (l : Fin 128) : k0_pay105 (ix2 r l) = if l.val % 64 < 32 then 1#1 else 0#1 := by
  unfold k0_pay105
  pointwise
  revert l
  decide +kernel

/-- Two heads rotated, with the cosines and the signed sines of their lanes. -/
def turned (cs sn : Vec Ideal S512x128 .f32) (Z : FVec Ideal S512x128 .f32) : FVec Ideal S512x128 .f32 :=
  addf (mulf Z (shapeCast S512x128 cs shapeCasts_S512x128_S512x128))
    (mulf (select k0_pay105 (dynamicRotate 1 96#32 none Z rotates_S512x128_d1) (dynamicRotate 1 32#32 none Z rotates_S512x128_d1))
      (shapeCast S512x128 sn shapeCasts_S512x128_S512x128))

theorem turned_at (cs sn : Vec Ideal S512x128 .f32) (Z : FVec Ideal S512x128 .f32) (r : Fin 512) (l : Fin 128) :
    turned cs sn Z (ix2 r l) = Z (ix2 r l) * cs (ix2 r l) + Z (ix2 r (mate l)) * sn (ix2 r l) := by
  have hm := half_at r l
  unfold turned
  generalize k0_pay105 = M at hm ⊢
  pointwise
  rw [hm]
  unfold mate
  by_cases h : l.val % 64 < 32
  · rw [if_pos h, if_pos h]
    rfl
  · rw [if_neg h, if_neg h]
    rfl

/-- Two heads scaled. -/
def scaled (Z : FVec Ideal S512x128 .f32) : FVec Ideal S512x128 .f32 := mulf Z (broadcast S512x128 (Scalar.ofBits .f32 0x3E000000#32))

theorem scaled_at (Z : FVec Ideal S512x128 .f32) (r : Fin 512) (l : Fin 128) :
    scaled Z (ix2 r l) = Z (ix2 r l) * Ideal.ofBits FTy.f32 0x3E000000#32 := by
  pointwise [scaled]

/-- Of two heads, the first rotated, the second as it is. -/
def low (cs sn : Vec Ideal S512x128 .f32) (Z : FVec Ideal S512x128 .f32) : FVec Ideal S512x128 .f32 :=
  select k0_pay102 (turned cs sn Z) Z

theorem low_at (cs sn : Vec Ideal S512x128 .f32) (Z : FVec Ideal S512x128 .f32) (r : Fin 512) (l : Fin 128) :
    low cs sn Z (ix2 r l) = if l.val < 64 then turned cs sn Z (ix2 r l) else Z (ix2 r l) := by
  unfold low
  generalize turned cs sn Z = T
  pointwise [k0_pay102]
  have e : ∀ l : Fin 128, IntOp.cmpi CmpIPredicate.slt (BitVec.ofNat 32 l.val) 64#32 = if l.val < 64 then 1#1 else 0#1 := by
    decide +kernel
  rw [e l]
  by_cases h : l.val < 64
  · rw [if_pos h, if_pos h]
    rfl
  · rw [if_neg h, if_neg h]
    rfl

/-! ## The five kinds of tiles -/

/-- A tile of queries, keys, values, index queries, or the last one: index keys and their weights. -/
inductive Kind where
  | query
  | key
  | value
  | index
  | last

/-- Two lanes of heads rotated. -/
def turn2 (c s z : Fin 128 → EReal) (l : Fin 128) : EReal := z l * c l + z (mate l) * s l

/-- A lane of a tile. -/
def lane (k : Kind) (bd : Fin 128 → Fin 128 → EReal) (g : Fin 2 → Fin 128 → EReal) (c s z : Fin 128 → EReal) (l : Fin 128) : EReal :=
  match k with
  | .query => turn2 c s (norm2 bd (g 0) z) l * Ideal.ofBits FTy.f32 0x3E000000#32
  | .key => turn2 c s (norm2 bd (g 1) z) l
  | .value => z l
  | .index => turn2 c s z l * Ideal.ofBits FTy.f32 0x3E000000#32
  | .last => if l.val < 64 then turn2 c s z l else z l

variable (x2 : Vec Ideal S1024x3712 .bf16) (x3 : Vec Ideal S128x128 .bf16) (x4 : Vec Ideal S2x128 .f32)
  (x5 x6 : Vec Ideal S512x128 .f32)

/-- What becomes of a tile of the product. -/
def tile (k : Kind) (Z : FVec Ideal S512x128 .f32) : FVec Ideal S512x128 .f32 :=
  match k with
  | .query => scaled (turned (View.ld x5 r0_5) (View.ld x6 r0_5) (normed (View.ld x3 r0_2) (View.ld x4 r0_4) Z))
  | .key => turned (View.ld x5 r0_5) (View.ld x6 r0_5) (normed (View.ld x3 r0_2) (View.ld x4 r0_16) Z)
  | .value => Z
  | .index => scaled (turned (View.ld x5 r0_5) (View.ld x6 r0_5) Z)
  | .last => low (View.ld x5 r0_5) (View.ld x6 r0_5) Z

theorem ld2 : View.ld x3 r0_2 = x3 :=
  View.ld_unit_zero (by funext a; match a with | ⟨0, _⟩ => rfl | ⟨1, _⟩ => rfl) _ x3

theorem ld5 : View.ld x5 r0_5 = x5 :=
  View.ld_unit_zero (by funext a; match a with | ⟨0, _⟩ => rfl | ⟨1, _⟩ => rfl) _ x5

theorem ld4 (l : Fin 128) : View.ld x4 r0_4 (ix2 0 l) = x4 (ix2 0 l) :=
  View.ld_unit_apply_of x4 _ _ _ _ _ fun a => by
    match a with
    | ⟨0, _⟩ => rfl
    | ⟨1, _⟩ => exact (Nat.zero_add _).symm

theorem ld16 (l : Fin 128) : View.ld x4 r0_16 (ix2 0 l) = x4 (ix2 1 l) :=
  View.ld_unit_apply_of x4 _ _ _ _ _ fun a => by
    match a with
    | ⟨0, _⟩ => rfl
    | ⟨1, _⟩ => exact (Nat.zero_add _).symm

theorem tile_at (k : Kind) (Z : FVec Ideal S512x128 .f32) (r : Fin 512) (l : Fin 128) :
    tile x3 x4 x5 x6 k Z (ix2 r l)
      = lane k (fun k l => x3 (ix2 k l)) (fun i l => x4 (ix2 i l)) (fun l => x5 (ix2 r l)) (fun l => x6 (ix2 r l)) (fun l => Z (ix2 r l)) l := by
  unfold tile
  rw [ld2, ld5, ld5]
  cases k with
  | query =>
    show scaled _ (ix2 r l) = turn2 _ _ _ l * _
    rw [scaled_at, turned_at, normed_at, normed_at, funext fun l => ld4 x4 l]
    rfl
  | key =>
    refine (turned_at _ _ _ r l).trans ?_
    rw [normed_at, normed_at, funext fun l => ld16 x4 l]
    rfl
  | value => rfl
  | index =>
    show scaled _ (ix2 r l) = turn2 _ _ _ l * _
    rw [scaled_at, turned_at]
    rfl
  | last =>
    show low _ _ _ (ix2 r l) = if l.val < 64 then turn2 _ _ _ l else Z (ix2 r l)
    rw [low_at, turned_at]
    rfl

/-! ## The stores -/

/-- The kind of a tile. -/
def kind (n : Fin 29) : Kind :=
  bif decide (n.val < 8) then .query else bif decide (n.val < 16) then .key else bif decide (n.val < 24) then .value else
    bif decide (n.val < 28) then .index else .last

theorem inb_w (k : Fin 7) (a : Fin 2) :
    (![0, 512 * k.val] : Fin 2 → ℕ) a + (![1024, 512] : Fin 2 → ℕ) a ≤ (![1024, 3712] : Fin 2 → ℕ) a := by
  have hk := k.isLt
  match a with
  | ⟨0, _⟩ => show 0 + 1024 ≤ 1024; omega
  | ⟨1, _⟩ => show 512 * k.val + 512 ≤ 3712; omega

/-- 512 columns of the weights. -/
def wT (k : Fin 7) : Vec Ideal S1024x512 .bf16 := View.ld x2 (Rect.unit (s := S1024x3712) ![0, 512 * k.val] S1024x512.size (inb_w k))

theorem wT_at (k : Fin 7) (d : Fin 1024) (j : Fin 512) : wT x2 k (ix2 d j) = x2 (ix2 d ⟨512 * k.val + j.val, by omega⟩) :=
  View.ld_unit_apply_of x2 _ _ _ _ _ fun a => by
    match a with
    | ⟨0, _⟩ => exact (Nat.zero_add _).symm
    | ⟨1, _⟩ => rfl

theorem ld41 (d : Fin 1024) (j : Fin 128) : View.ld x2 r0_41 (ix2 d j) = x2 (ix2 d ⟨3584 + j.val, by omega⟩) :=
  View.ld_unit_apply_of x2 _ _ _ _ _ fun a => by
    match a with
    | ⟨0, _⟩ => exact (Nat.zero_add _).symm
    | ⟨1, _⟩ => rfl

theorem inb_o (n : Fin 29) (a : Fin 3) :
    (![0, 0, 128 * n.val] : Fin 3 → ℕ) a + (![1, 512, 128] : Fin 3 → ℕ) a ≤ (![1, 512, 3712] : Fin 3 → ℕ) a := by
  have hn := n.isLt
  match a with
  | ⟨0, _⟩ => show 0 + 1 ≤ 1; omega
  | ⟨1, _⟩ => show 0 + 512 ≤ 512; omega
  | ⟨2, _⟩ => show 128 * n.val + 128 ≤ 3712; omega

variable (h : FVec Ideal S512x1024 .bf16)

/-- A tile of the product. -/
def part (n : Fin 29) : FVec Ideal S512x128 .f32 :=
  if h28 : n.val < 28 then cols (prod h (wT x2 ⟨n.val / 4, by omega⟩)) ⟨n.val % 4, by omega⟩ else lastProd h (View.ld x2 r0_41)

theorem part_at (n : Fin 29) (r : Fin 512) (l : Fin 128) :
    part x2 h n (ix2 r l) = ∑ d : Fin 1024, h (ix2 r d) * x2 (ix2 d ⟨128 * n.val + l.val, by omega⟩) := by
  unfold part
  have hn := n.isLt
  by_cases h28 : n.val < 28
  · rw [dif_pos h28, cols_at, prod_at]
    refine Finset.sum_congr rfl fun d _ => ?_
    rw [wT_at]
    exact congrArg (fun q => h (ix2 r d) * x2 (ix2 d q)) (Fin.ext (by show 512 * (n.val / 4) + (128 * (n.val % 4) + l.val) = 128 * n.val + l.val; omega))
  · rw [dif_neg h28, lastProd_at]
    refine Finset.sum_congr rfl fun d _ => ?_
    rw [ld41]
    exact congrArg (fun q => h (ix2 r d) * x2 (ix2 d q)) (Fin.ext (by show 3584 + l.val = 128 * n.val + l.val; omega))

/-- What is stored of a tile. -/
def piece (n : Fin 29) : View.Piece (Elt Ideal) S1x512x3712 .bf16 :=
  ⟨Rect.unit (s := S1x512x3712) ![0, 0, 128 * n.val] S1x512x128.size (inb_o n),
    shapeCast S1x512x128 (truncf .bf16 (tile x3 x4 x5 x6 (kind n) (part x2 h n)) bitsLt_bf16_f32) shapeCasts_S512x128_S1x512x128⟩

/-- The order of the stores, the last first. -/
def order : List (Fin 29) :=
  [28, 27, 26, 25, 24, 23, 22, 21, 20, 19, 18, 17, 16, 15, 14, 13, 12, 11, 10, 9, 8, 7, 6, 5, 4, 3, 2, 1, 0]

/-- An entry of what is stored. -/
def entry (r : Fin 512) (f : Fin 3712) : EReal :=
  lane (kind ⟨f.val / 128, by omega⟩) (fun k l => x3 (ix2 k l)) (fun i l => x4 (ix2 i l)) (fun l => x5 (ix2 r l)) (fun l => x6 (ix2 r l))
    (fun l => ∑ d : Fin 1024, h (ix2 r d) * x2 (ix2 d ⟨128 * (f.val / 128) + l.val, by omega⟩)) ⟨f.val % 128, by omega⟩

/-- All that is stored. -/
def whole : Vec Ideal S1x512x3712 .bf16 := fun y => entry x2 x3 x4 x5 x6 h (y 1) (y 2)

theorem piece_at (n : Fin 29) (x : (piece x2 x3 x4 x5 x6 h n).1.shape.Idx) :
    (piece x2 x3 x4 x5 x6 h n).2 x = whole x2 x3 x4 x5 x6 h ((piece x2 x3 x4 x5 x6 h n).1.emb x) := by
  obtain ⟨o, r, l, rfl⟩ : ∃ (o : Fin 1) (r : Fin 512) (l : Fin 128), x = ix3 o r l :=
    ⟨x 0, x 1, x 2, funext fun a => match a with | ⟨0, _⟩ => rfl | ⟨1, _⟩ => rfl | ⟨2, _⟩ => rfl⟩
  obtain rfl : o = 0 := Subsingleton.elim _ _
  have hn := n.isLt
  have hl := l.isLt
  have h1 : ((piece x2 x3 x4 x5 x6 h n).1.emb (ix3 0 r l) 1 : Fin 512) = r := Fin.ext (by show 0 + 1 * r.val = r.val; omega)
  have h2 : ((piece x2 x3 x4 x5 x6 h n).1.emb (ix3 0 r l) 2 : Fin 3712) = (⟨128 * n.val + l.val, by omega⟩ : Fin 3712) :=
    Fin.ext (by show 128 * n.val + 1 * l.val = 128 * n.val + l.val; omega)
  have e : entry x2 x3 x4 x5 x6 h r ⟨128 * n.val + l.val, by omega⟩
      = lane (kind n) (fun k l => x3 (ix2 k l)) (fun i l => x4 (ix2 i l)) (fun l => x5 (ix2 r l)) (fun l => x6 (ix2 r l))
          (fun l => part x2 h n (ix2 r l)) l := by
    have hq : (⟨(128 * n.val + l.val) / 128, by omega⟩ : Fin 29) = n := Fin.ext (by show (128 * n.val + l.val) / 128 = n.val; omega)
    have hr : (⟨(128 * n.val + l.val) % 128, by omega⟩ : Fin 128) = l := Fin.ext (by show (128 * n.val + l.val) % 128 = l.val; omega)
    unfold entry
    rw [hq, hr]
    refine congrArg (fun z => lane (kind n) (fun k l => x3 (ix2 k l)) (fun i l => x4 (ix2 i l)) (fun l => x5 (ix2 r l)) (fun l => x6 (ix2 r l)) z l)
      (funext fun j => ?_)
    rw [part_at]
    exact Finset.sum_congr rfl fun d _ => congrArg (fun q => h (ix2 r d) * x2 (ix2 d q)) (Fin.ext (by
      show 128 * ((128 * n.val + l.val) / 128) + j.val = 128 * n.val + j.val; omega))
  refine Eq.trans ?_ ((congrArg (entry x2 x3 x4 x5 x6 h · _) h1).trans ((congrArg (entry x2 x3 x4 x5 x6 h r) h2).trans e)).symm
  rw [← tile_at]
  unfold piece
  dsimp only
  generalize tile x3 x4 x5 x6 (kind n) (part x2 h n) = T
  show shapeCast S1x512x128 (truncf .bf16 T bitsLt_bf16_f32) shapeCasts_S512x128_S1x512x128 (ix3 0 r l) = T (ix2 r l)
  pointwise

theorem pieces_whole (L : List (Fin 29)) : View.PiecesOf (whole x2 x3 x4 x5 x6 h) (L.map (piece x2 x3 x4 x5 x6 h)) := by
  induction L with
  | nil => trivial
  | cons n L ih => exact ⟨piece_at x2 x3 x4 x5 x6 h n, ih⟩

/-- The stores together leave the whole. -/
theorem canon_eq : View.canon (order.map (piece x2 x3 x4 x5 x6 h)) = whole x2 x3 x4 x5 x6 h := by
  funext y
  have e := View.canon_append_of_piecesOf (whole x2 x3 x4 x5 x6 h) [] _ (pieces_whole x2 x3 x4 x5 x6 h order) y
    (View.cover_of_tiledL (order.map (piece x2 x3 x4 x5 x6 h)) S1x512x128.size (by rfl) y)
  rwa [List.append_nil] at e

variable (x0 : Vec Ideal S1x512x1024 .f32) (x1 : Vec Ideal S1x1024 .f32)

/-- What a point writes. -/
theorem out_eq :
    out0_7 x0 x1 x2 x3 x4 x5 x6 = whole x2 x3 x4 x5 x6 (k0_pay4 (View.ld x0 r0_0) (View.ld x1 r0_1)) := by
  rw [← canon_eq]
  rfl

/-- What is stored besides: the last tile, unrounded. -/
def tailPiece : View.Piece (Elt Ideal) S1x512x128 .f32 :=
  ⟨r0_43, shapeCast S1x512x128 (tile x3 x4 x5 x6 .last (part x2 h 28)) shapeCasts_S512x128_S1x512x128⟩

/-- A column of the last tile among all. -/
def tailCol (l : Fin 128) : Fin 3712 := ⟨3584 + l.val, by omega⟩

/-- All that is stored besides. -/
def tail : Vec Ideal S1x512x128 .f32 := fun y => entry x2 x3 x4 x5 x6 h (y 1) (tailCol (y 2))

theorem tail_eq : out0_8 x0 x1 x2 x3 x4 x5 x6 = tail x2 x3 x4 x5 x6 (k0_pay4 (View.ld x0 r0_0) (View.ld x1 r0_1)) := by
  have e : out0_8 x0 x1 x2 x3 x4 x5 x6 = View.canon [tailPiece x2 x3 x4 x5 x6 (k0_pay4 (View.ld x0 r0_0) (View.ld x1 r0_1))] := rfl
  rw [e]
  generalize k0_pay4 (View.ld x0 r0_0) (View.ld x1 r0_1) = h
  funext y
  obtain ⟨o, r, l, rfl⟩ : ∃ (o : Fin 1) (r : Fin 512) (l : Fin 128), y = ix3 o r l :=
    ⟨y 0, y 1, y 2, funext fun a => match a with | ⟨0, _⟩ => rfl | ⟨1, _⟩ => rfl | ⟨2, _⟩ => rfl⟩
  obtain rfl : o = 0 := Subsingleton.elim _ _
  have hy : (ix3 0 r l : S1x512x128.Idx) = r0_43.emb (ix3 0 r l) := funext fun a => by
    match a with
    | ⟨0, _⟩ => rfl
    | ⟨1, _⟩ => exact Fin.ext (by show r.val = 0 + 1 * r.val; omega)
    | ⟨2, _⟩ => exact Fin.ext (by show l.val = 0 + 1 * l.val; omega)
  have hl := l.isLt
  have ht : tail x2 x3 x4 x5 x6 h (ix3 0 r l) = tile x3 x4 x5 x6 .last (part x2 h 28) (ix2 r l) := by
    have hc := (tailCol l).isLt
    have hq : (⟨(tailCol l).val / 128, by omega⟩ : Fin 29) = 28 := Fin.ext (by show (3584 + l.val) / 128 = 28; omega)
    have hr : (⟨(tailCol l).val % 128, by omega⟩ : Fin 128) = l := Fin.ext (by show (3584 + l.val) % 128 = l.val; omega)
    rw [tile_at]
    show entry x2 x3 x4 x5 x6 h r (tailCol l) = _
    unfold entry
    rw [hq, hr]
    refine congrArg (fun z => lane .last (fun k l => x3 (ix2 k l)) (fun i l => x4 (ix2 i l)) (fun l => x5 (ix2 r l)) (fun l => x6 (ix2 r l)) z l)
      (funext fun j => ?_)
    rw [part_at]
    exact Finset.sum_congr rfl fun d _ => congrArg (fun q => h (ix2 r d) * x2 (ix2 d q)) (Fin.ext (by
      show 128 * ((3584 + l.val) / 128) + j.val = 128 * 28 + j.val; omega))
  rw [ht]
  refine (congrArg (View.canon [tailPiece x2 x3 x4 x5 x6 h]) hy).trans ((View.canon_cons_emb r0_43 _ [] (ix3 0 r l)).trans ?_)
  generalize tile x3 x4 x5 x6 .last (part x2 h 28) = T
  pointwise

theorem ld0 : View.ld x0 r0_0 = x0 :=
  View.ld_unit_zero (by funext a; match a with | ⟨0, _⟩ => rfl | ⟨1, _⟩ => rfl | ⟨2, _⟩ => rfl) _ x0

theorem ld1 : View.ld x1 r0_1 = x1 :=
  View.ld_unit_zero (by funext a; match a with | ⟨0, _⟩ => rfl | ⟨1, _⟩ => rfl) _ x1

end Cert.Rope

end
-- ==== Proof.RopeMath.lean ====
/-
  Heads of 64 lanes, normalised and rotated, beside tiles of two heads.
-/
module

public import proofs.«01_k».proof.Proof.RopeTile

@[expose] public section

set_option maxRecDepth 16384

noncomputable section

open Idealize.ShloMosaic
open Cert.Kernel5Ideal

namespace Cert.Rope

/-- A lane of a head divided by the root of the head's mean square, scaled. -/
def headNorm (u g : Fin 64 → EReal) (i : Fin 64) : EReal :=
  u i * Ideal.rsqrt (Ideal.div (∑ x, u x * u x) (Ideal.ofBits FTy.f32 0x42800000#32) + Ideal.ofBits FTy.f32 0x358637BD#32) * g i

/-- A lane of a head rotated by the angles whose cosines and sines are `c` and `s`. -/
def headTurn (c s : Fin 32 → EReal) (u : Fin 64 → EReal) (i : Fin 64) : EReal :=
  if h : i.val < 32 then u i * c ⟨i.val, h⟩ - u ⟨i.val + 32, by omega⟩ * s ⟨i.val, h⟩
  else u i * c ⟨i.val - 32, by omega⟩ + u ⟨i.val - 32, by omega⟩ * s ⟨i.val - 32, by omega⟩

/-- The head of a lane of a tile. -/
def half (z : Fin 128 → EReal) (l : Fin 128) (i : Fin 64) : EReal := z ⟨64 * (l.val / 64) + i.val, by omega⟩

/-- A lane within its head. -/
def inner (l : Fin 128) : Fin 64 := ⟨l.val % 64, by omega⟩

theorem half_inner (z : Fin 128 → EReal) (l : Fin 128) : half z l (inner l) = z l :=
  congrArg z (Fin.ext (by show 64 * (l.val / 64) + l.val % 64 = l.val; omega))

/-- A sum over the lanes of one head of a tile. -/
theorem sum_half (F : Fin 128 → EReal) (l : Fin 128) :
    ∑ k : Fin 128, F k * (if k.val / 64 = l.val / 64 then 1 else 0) = ∑ i : Fin 64, F ⟨64 * (l.val / 64) + i.val, by omega⟩ := by
  have e := Fin.sum_univ_add (a := 64) (b := 64) (fun k : Fin (64 + 64) => F k * (if k.val / 64 = l.val / 64 then 1 else 0))
  refine e.trans ?_
  have hl := l.isLt
  by_cases h : l.val < 64
  · have hr : ∑ i : Fin 64, F (Fin.natAdd 64 i) * (if (Fin.natAdd 64 i).val / 64 = l.val / 64 then 1 else 0) = 0 :=
      Finset.sum_eq_zero fun i _ => by
        rw [if_neg (by show ¬(64 + i.val) / 64 = l.val / 64; omega), mul_zero]
    rw [hr, add_zero]
    refine Finset.sum_congr rfl fun i _ => ?_
    rw [if_pos (by show i.val / 64 = l.val / 64; omega), mul_one]
    exact congrArg F (Fin.ext (by show i.val = 64 * (l.val / 64) + i.val; omega))
  · have hr : ∑ i : Fin 64, F (Fin.castAdd 64 i) * (if (Fin.castAdd 64 i).val / 64 = l.val / 64 then 1 else 0) = 0 :=
      Finset.sum_eq_zero fun i _ => by
        rw [if_neg (by show ¬i.val / 64 = l.val / 64; omega), mul_zero]
    rw [hr, zero_add]
    refine Finset.sum_congr rfl fun i _ => ?_
    rw [if_pos (by show (64 + i.val) / 64 = l.val / 64; omega), mul_one]
    exact congrArg F (Fin.ext (by show 64 + i.val = 64 * (l.val / 64) + i.val; omega))

theorem bits_64 : Ideal.ofBits FTy.f32 0x42800000#32 = ((64 : ℝ) : EReal) := by
  simp [Ideal.ofBits, Ideal.ieee, -EReal.coe_mul]; norm_num

theorem bits_64th : Ideal.ofBits FTy.f32 0x3C800000#32 = (((1 : ℝ) / 64 : ℝ) : EReal) := by
  simp [Ideal.ofBits, Ideal.ieee, -EReal.coe_mul]; norm_num

/-- Two heads normalised together are each normalised. -/
theorem norm2_eq (bd : Fin 128 → Fin 128 → EReal) (g : Fin 128 → EReal) (q : Fin 64 → EReal) (z : Fin 128 → EReal)
    (hb : ∀ k l, bd k l = if k.val / 64 = l.val / 64 then 1 else 0) (hg : ∀ l, g l = q (inner l)) (l : Fin 128) :
    norm2 bd g z l = headNorm (half z l) q (inner l) := by
  unfold norm2 headNorm
  rw [half_inner, hg, bits_64, bits_64th, Ideal.div_coe (by norm_num)]
  have e : ∑ k, z k * z k * bd k l = ∑ x, half z l x * half z l x :=
    (Finset.sum_congr rfl fun k _ => by rw [hb]).trans (sum_half (fun k => z k * z k) l)
  rw [e]

/-- Two heads rotated together are each rotated. -/
theorem turn2_eq (C S : Fin 128 → EReal) (c s : Fin 32 → EReal) (z : Fin 128 → EReal)
    (hC : ∀ l : Fin 128, C l = c ⟨l.val % 32, by omega⟩)
    (hS : ∀ l : Fin 128, S l = if l.val % 64 < 32 then -s ⟨l.val % 32, by omega⟩ else s ⟨l.val % 32, by omega⟩) (l : Fin 128) :
    turn2 C S z l = headTurn c s (half z l) (inner l) := by
  have hl := l.isLt
  unfold turn2 headTurn
  rw [half_inner, hC, hS]
  by_cases h : l.val % 64 < 32
  · have e : (⟨l.val % 32, by omega⟩ : Fin 32) = ⟨(inner l).val, h⟩ := Fin.ext (by show l.val % 32 = l.val % 64; omega)
    have em : z (mate l) = half z l ⟨(inner l).val + 32, by have h' : (inner l).val < 32 := h; omega⟩ := congrArg z (by
      unfold mate
      rw [if_pos h]
      exact Fin.ext (by show (l.val + 128 - 96) % 128 = 64 * (l.val / 64) + (l.val % 64 + 32); omega))
    rw [if_pos h, dif_pos (show (inner l).val < 32 from h), e, em, mul_neg, sub_eq_add_neg]
  · have h' : ¬(inner l).val < 32 := h
    have hi := (inner l).isLt
    have e : (⟨l.val % 32, by omega⟩ : Fin 32) = ⟨(inner l).val - 32, by omega⟩ :=
      Fin.ext (by show l.val % 32 = l.val % 64 - 32; omega)
    have em : z (mate l) = half z l ⟨(inner l).val - 32, by omega⟩ := congrArg z (by
      unfold mate
      rw [if_neg h]
      exact Fin.ext (by show (l.val + 128 - 32) % 128 = 64 * (l.val / 64) + (l.val % 64 - 32); omega))
    rw [if_neg h, dif_neg h', e, em]

/-! ## All columns -/

/-- The head of a column. -/
def head (P : Fin 3712 → EReal) (f : Fin 3712) (i : Fin 64) : EReal := P ⟨64 * (f.val / 64) + i.val, by omega⟩

/-- A column within its head. -/
def pos (f : Fin 3712) : Fin 64 := ⟨f.val % 64, by omega⟩

/-- What becomes of a column of the product: queries and keys are normalised and rotated, index queries and index keys
    rotated, and queries and index queries scaled. -/
def col (q k : Fin 64 → EReal) (c s : Fin 32 → EReal) (P : Fin 3712 → EReal) (f : Fin 3712) : EReal :=
  if f.val < 1024 then headTurn c s (headNorm (head P f) q) (pos f) * Ideal.ofBits FTy.f32 0x3E000000#32
  else if f.val < 2048 then headTurn c s (headNorm (head P f) k) (pos f)
  else if f.val < 3072 then P f
  else if f.val < 3584 then headTurn c s (head P f) (pos f) * Ideal.ofBits FTy.f32 0x3E000000#32
  else if f.val < 3648 then headTurn c s (head P f) (pos f)
  else P f

/-- A lane of a tile is its column. -/
theorem lane_eq (bd : Fin 128 → Fin 128 → EReal) (g : Fin 2 → Fin 128 → EReal) (C S : Fin 128 → EReal)
    (q k : Fin 64 → EReal) (c s : Fin 32 → EReal) (P : Fin 3712 → EReal)
    (hb : ∀ k l, bd k l = if k.val / 64 = l.val / 64 then 1 else 0)
    (hq : ∀ l, g 0 l = q (inner l)) (hk : ∀ l, g 1 l = k (inner l))
    (hC : ∀ l : Fin 128, C l = c ⟨l.val % 32, by omega⟩)
    (hS : ∀ l : Fin 128, S l = if l.val % 64 < 32 then -s ⟨l.val % 32, by omega⟩ else s ⟨l.val % 32, by omega⟩) (f : Fin 3712) :
    lane (kind ⟨f.val / 128, by omega⟩) bd g C S (fun l => P ⟨128 * (f.val / 128) + l.val, by omega⟩) ⟨f.val % 128, by omega⟩
      = col q k c s P f := by
  have hf := f.isLt
  generalize hl : (⟨f.val % 128, by omega⟩ : Fin 128) = l
  generalize hz : (fun l : Fin 128 => P ⟨128 * (f.val / 128) + l.val, by omega⟩) = z
  have hlv : f.val % 128 = l.val := congrArg Fin.val hl
  have hz' : ∀ j : Fin 128, z j = P ⟨128 * (f.val / 128) + j.val, by omega⟩ := fun j => (congrFun hz j).symm
  have hzl : z l = P f := (hz' l).trans (congrArg P (Fin.ext (by show 128 * (f.val / 128) + l.val = f.val; omega)))
  have hin : inner l = pos f := Fin.ext (by show l.val % 64 = f.val % 64; omega)
  have hhalf : half z l = head P f := funext fun i => (hz' _).trans (congrArg P (Fin.ext (by
    show 128 * (f.val / 128) + (64 * (l.val / 64) + i.val) = 64 * (f.val / 64) + i.val; omega)))
  have hturn : turn2 C S z l = headTurn c s (head P f) (pos f) := by rw [turn2_eq C S c s z hC hS, hhalf, hin]
  have hnorm : ∀ (g : Fin 128 → EReal) (q : Fin 64 → EReal), (∀ l, g l = q (inner l)) →
      turn2 C S (norm2 bd g z) l = headTurn c s (headNorm (head P f) q) (pos f) := fun g q hg => by
    rw [turn2_eq C S c s _ hC hS, hin, ← hhalf]
    refine congrArg (fun u => headTurn c s u (pos f)) (funext fun i => ?_)
    have hi := i.isLt
    have hll := l.isLt
    show norm2 bd g z ⟨64 * (l.val / 64) + i.val, by omega⟩ = _
    rw [norm2_eq bd g q z hb hg]
    have e1 : half z ⟨64 * (l.val / 64) + i.val, by omega⟩ = half z l := funext fun x => congrArg z (Fin.ext (by
      show 64 * ((64 * (l.val / 64) + i.val) / 64) + x.val = 64 * (l.val / 64) + x.val; omega))
    have e2 : inner ⟨64 * (l.val / 64) + i.val, by omega⟩ = i := Fin.ext (by show (64 * (l.val / 64) + i.val) % 64 = i.val; omega)
    rw [e1, e2]
  unfold col
  by_cases h1 : f.val < 1024
  · have hkd : kind ⟨f.val / 128, by omega⟩ = .query := by
      unfold kind
      rw [decide_eq_true (show f.val / 128 < 8 by omega)]
      rfl
    rw [if_pos h1, hkd]
    exact congrArg (fun v : EReal => v * Ideal.ofBits FTy.f32 0x3E000000#32) (hnorm (g 0) q hq)
  by_cases h2 : f.val < 2048
  · have hkd : kind ⟨f.val / 128, by omega⟩ = .key := by
      unfold kind
      rw [decide_eq_false (show ¬f.val / 128 < 8 by omega), decide_eq_true (show f.val / 128 < 16 by omega)]
      rfl
    rw [if_neg h1, if_pos h2, hkd]
    exact hnorm (g 1) k hk
  by_cases h3 : f.val < 3072
  · have hkd : kind ⟨f.val / 128, by omega⟩ = .value := by
      unfold kind
      rw [decide_eq_false (show ¬f.val / 128 < 8 by omega), decide_eq_false (show ¬f.val / 128 < 16 by omega),
        decide_eq_true (show f.val / 128 < 24 by omega)]
      rfl
    rw [if_neg h1, if_neg h2, if_pos h3, hkd]
    exact hzl
  by_cases h4 : f.val < 3584
  · have hkd : kind ⟨f.val / 128, by omega⟩ = .index := by
      unfold kind
      rw [decide_eq_false (show ¬f.val / 128 < 8 by omega), decide_eq_false (show ¬f.val / 128 < 16 by omega),
        decide_eq_false (show ¬f.val / 128 < 24 by omega), decide_eq_true (show f.val / 128 < 28 by omega)]
      rfl
    rw [if_neg h1, if_neg h2, if_neg h3, if_pos h4, hkd]
    exact congrArg (fun v : EReal => v * Ideal.ofBits FTy.f32 0x3E000000#32) hturn
  have hkd : kind ⟨f.val / 128, by omega⟩ = .last := by
    unfold kind
    rw [decide_eq_false (show ¬f.val / 128 < 8 by omega), decide_eq_false (show ¬f.val / 128 < 16 by omega),
      decide_eq_false (show ¬f.val / 128 < 24 by omega), decide_eq_false (show ¬f.val / 128 < 28 by omega)]
    rfl
  rw [if_neg h1, if_neg h2, if_neg h3, if_neg h4, hkd]
  show (if l.val < 64 then turn2 C S z l else z l) = _
  by_cases h5 : f.val < 3648
  · rw [if_pos h5, if_pos (by omega), hturn]
  · rw [if_neg h5, if_neg (by omega), hzl]

/-- An entry of what is stored is its column. -/
theorem entry_col (x2 : Vec Ideal S1024x3712 .bf16) (x3 : Vec Ideal S128x128 .bf16) (x4 : Vec Ideal S2x128 .f32)
    (x5 x6 : Vec Ideal S512x128 .f32) (h : FVec Ideal S512x1024 .bf16) (r : Fin 512)
    (q k : Fin 64 → EReal) (c s : Fin 32 → EReal) (P : Fin 3712 → EReal)
    (hP : ∀ f, ∑ d : Fin 1024, h (ix2 r d) * x2 (ix2 d f) = P f)
    (hb : ∀ k l : Fin 128, x3 (ix2 k l) = if k.val / 64 = l.val / 64 then (1 : EReal) else 0)
    (hq : ∀ l, x4 (ix2 0 l) = q (inner l)) (hk : ∀ l, x4 (ix2 1 l) = k (inner l))
    (hC : ∀ l : Fin 128, x5 (ix2 r l) = c ⟨l.val % 32, by omega⟩)
    (hS : ∀ l : Fin 128, x6 (ix2 r l) = if l.val % 64 < 32 then -s ⟨l.val % 32, by omega⟩ else s ⟨l.val % 32, by omega⟩) (f : Fin 3712) :
    entry x2 x3 x4 x5 x6 h r f = col q k c s P f := by
  have hf := f.isLt
  unfold entry
  have e : (fun l : Fin 128 => ∑ d : Fin 1024, h (ix2 r d) * x2 (ix2 d ⟨128 * (f.val / 128) + l.val, by omega⟩))
      = fun l : Fin 128 => P ⟨128 * (f.val / 128) + l.val, by omega⟩ := funext fun l => hP _
  rw [e]
  exact lane_eq _ _ _ _ q k c s P hb hq hk hC hS f

end Cert.Rope

end
-- ==== Proof.RopeRef.lean ====
/-
  The reference of the third projection, entry by entry.
-/
module

public import proofs.«01_k».proof.Proof.RopeMath
public import proofs.«01_k».proof.Proof.Gen.Reference5Ideal.Read
public import Idealize.ShloMosaic.Lib.Pointwise

@[expose] public section

set_option maxRecDepth 16384

noncomputable section

open Idealize.ShloMosaic
open Cert.Reference5Ideal Cert.Reference5Ideal.Gen Cert.Reference5Ideal.Read

namespace Cert.Rope

variable (x0 : FVec Ideal S8x4096x1024 .f32) (x1 : FVec Ideal S1024 .f32) (x2 : FVec Ideal S1024x3656 .f32)
  (x3 x4 : FVec Ideal S64 .f32)

/-- An entry of the rows normalised and multiplied into the weights. -/
def proj (b : Fin 8) (p : Fin 4096) (f : Fin 3656) : EReal :=
  ∑ d : Fin 1024, Cert.Mlp.norm (fun x => x0 (ix3 b p x)) (x1 (ix1 d)) d * x2 (ix2 d f)

/-- The same with 56 columns of zeros behind. -/
def full (b : Fin 8) (p : Fin 4096) (f : Fin 3712) : EReal := if h : f.val < 3656 then proj x0 x1 x2 b p ⟨f.val, h⟩ else 0

/-- The cosines of the angles of a time. -/
def cosT (p : Fin 4096) (i : Fin 32) : EReal := val_main_v16 (F := Ideal) (ix2 p i)

/-- The sines of the angles of a time. -/
def sinT (p : Fin 4096) (i : Fin 32) : EReal := val_main_v18 (F := Ideal) (ix2 p i)

theorem v32_at (b : Fin 8) (p : Fin 4096) (d : Fin 1024) :
    val_main_v32 (F := Ideal) x0 x1 (ix3 b p d) = Cert.Mlp.norm (fun x => x0 (ix3 b p x)) (x1 (ix1 d)) d := by
  unfold Cert.Mlp.norm
  unfold val_main_v32 val_main_v29 val_main_v28 val_main_v27 val_main_v26 val_main_v24 val_main_v22 val_main_v21 val_main_v20
  pointwise [val_main_v23, val_main_v25, val_main_cst_3, val_main_cst_4, val_main_cst_5, val_main_v31, val_main_v30]

theorem v33_at (b : Fin 8) (p : Fin 4096) (f : Fin 3656) :
    val_main_v33 (F := Ideal) x0 x1 x2 (ix3 b p f) = proj x0 x1 x2 b p f := by
  have e : val_main_v33 (F := Ideal) x0 x1 x2 (ix3 b p f)
      = ∑ d : Fin 1024, val_main_v32 (F := Ideal) x0 x1 (ix3 b p d) * x2 (ix2 d f) := by
    unfold val_main_v33
    generalize val_main_v32 (F := Ideal) x0 x1 = Y
    pointwise
  rw [e]
  exact Finset.sum_congr rfl fun d _ => by rw [v32_at]

/-! ## Normalising and rotating heads -/

/-- Sixteen heads normalised. -/
def normHeads (Z : FVec Ideal S8x4096x16x64 .f32) (g : FVec Ideal S64 .f32) : FVec Ideal S8x4096x16x64 .f32 :=
  mulf (mulf Z (broadcastInDim S8x4096x16x64 ![0, 1, 2, 3] bcast_S8x4096x16x1_S8x4096x16x64_0_1_2_3
      (Host.rsqrt (addf (Host.divf (broadcastInDim S8x4096x16x1 ![0, 1, 2] bcast_S8x4096x16_S8x4096x16x1_0_1_2
        (Host.reduceAdd (mulf Z Z) (val_main_cst_6 (F := Ideal)) reducesTo_S8x4096x16x64_S8x4096x16_d3 h_S_)) (val_main_v44 (F := Ideal)))
        (val_main_v46 (F := Ideal)))))) (val_main_v52 (F := Ideal) g)

theorem normHeads_at (Z : FVec Ideal S8x4096x16x64 .f32) (g : FVec Ideal S64 .f32) (b : Fin 8) (p : Fin 4096) (n : Fin 16) (i : Fin 64) :
    normHeads Z g (ix4 b p n i) = headNorm (fun j => Z (ix4 b p n j)) (fun j => g (ix1 j)) i := by
  unfold headNorm
  pointwise [normHeads, val_main_cst_6, val_main_v44, val_main_cst_7, val_main_v46, val_main_cst_8, val_main_v52, val_main_v51]

theorem v53_eq : val_main_v53 (F := Ideal) x0 x1 x2 x3 = normHeads (val_main_v40 (F := Ideal) x0 x1 x2) x3 := rfl
theorem v86_eq : val_main_v86 (F := Ideal) x0 x1 x2 x4 = normHeads (val_main_v73 (F := Ideal) x0 x1 x2) x4 := rfl

/-- A lane of a rotated head, from the two halves of its head. -/
theorem turn_split (u : Fin 64 → EReal) (c s : Fin 32 → EReal) (i : Fin 64) :
    (if h : i.val < 32 then u i * c ⟨i.val, h⟩ - u ⟨32 + i.val, by omega⟩ * s ⟨i.val, h⟩
      else u ⟨32 + (i.val - 32), by omega⟩ * c ⟨i.val - 32, by omega⟩ + u ⟨i.val - 32, by omega⟩ * s ⟨i.val - 32, by omega⟩)
      = headTurn c s u i := by
  unfold headTurn
  by_cases h : i.val < 32
  · rw [dif_pos h, dif_pos h]
    exact congrArg (fun q => u i * c ⟨i.val, h⟩ - u q * s ⟨i.val, h⟩) (Fin.ext (Nat.add_comm _ _))
  · rw [dif_neg h, dif_neg h]
    exact congrArg (fun q => u q * c ⟨i.val - 32, by omega⟩ + u ⟨i.val - 32, by omega⟩ * s ⟨i.val - 32, by omega⟩)
      (Fin.ext (by show 32 + (i.val - 32) = i.val; omega))

/-- Sixteen heads rotated. -/
def turnHeads (Z : FVec Ideal S8x4096x16x64 .f32) : FVec Ideal S8x4096x16x64 .f32 :=
  concatenate S8x4096x16x64 3
    [⟨S8x4096x16x32, subf (mulf (extractStridedSlice S8x4096x16x32 ![0, 0, 0, 0] Z slices_S8x4096x16x64_S8x4096x16x32_0_0_0_0) (val_main_v57 (F := Ideal)))
      (mulf (extractStridedSlice S8x4096x16x32 ![0, 0, 0, 32] Z slices_S8x4096x16x64_S8x4096x16x32_0_0_0_32) (val_main_v60 (F := Ideal)))⟩,
     ⟨S8x4096x16x32, addf (mulf (extractStridedSlice S8x4096x16x32 ![0, 0, 0, 32] Z slices_S8x4096x16x64_S8x4096x16x32_0_0_0_32) (val_main_v57 (F := Ideal)))
      (mulf (extractStridedSlice S8x4096x16x32 ![0, 0, 0, 0] Z slices_S8x4096x16x64_S8x4096x16x32_0_0_0_0) (val_main_v60 (F := Ideal)))⟩]
    concatenates_S8x4096x16x32_S8x4096x16x32_S8x4096x16x64_d3

theorem turnHeads_at (Z : FVec Ideal S8x4096x16x64 .f32) (b : Fin 8) (p : Fin 4096) (n : Fin 16) (i : Fin 64) :
    turnHeads Z (ix4 b p n i) = headTurn (cosT p) (sinT p) (fun j => Z (ix4 b p n j)) i := by
  unfold turnHeads cosT sinT val_main_v57 val_main_v56 val_main_v60 val_main_v59 val_main_v17 val_main_v19
  generalize val_main_v16 (F := Ideal) = C
  generalize val_main_v18 (F := Ideal) = S
  pointwise
  exact turn_split (fun j => Z (ix4 b p n j)) (fun j => C (ix2 p j)) (fun j => S (ix2 p j)) i

theorem v70_eq : val_main_v70 (F := Ideal) x0 x1 x2 x3 = turnHeads (val_main_v53 (F := Ideal) x0 x1 x2 x3) := rfl
theorem v103_eq : val_main_v103 (F := Ideal) x0 x1 x2 x4 = turnHeads (val_main_v86 (F := Ideal) x0 x1 x2 x4) := rfl

theorem v121_at (b : Fin 8) (p : Fin 4096) (n : Fin 8) (i : Fin 64) :
    val_main_v121 (F := Ideal) x0 x1 x2 (ix4 b p n i)
      = headTurn (cosT p) (sinT p) (fun j => val_main_v104 (F := Ideal) x0 x1 x2 (ix4 b p n j)) i := by
  unfold cosT sinT val_main_v121 val_main_v113 val_main_v120 val_main_v109 val_main_v112 val_main_v116 val_main_v119
    val_main_v105 val_main_v106 val_main_v108 val_main_v107 val_main_v111 val_main_v110 val_main_v115 val_main_v114
    val_main_v118 val_main_v117 val_main_v17 val_main_v19
  generalize val_main_v16 (F := Ideal) = C
  generalize val_main_v18 (F := Ideal) = S
  generalize val_main_v104 (F := Ideal) x0 x1 x2 = Z
  pointwise
  exact turn_split (fun j => Z (ix4 b p n j)) (fun j => C (ix2 p j)) (fun j => S (ix2 p j)) i

theorem v141_at (b : Fin 8) (p : Fin 4096) (n : Fin 1) (i : Fin 64) :
    val_main_v141 (F := Ideal) x0 x1 x2 (ix4 b p n i)
      = headTurn (cosT p) (sinT p) (fun j => val_main_v124 (F := Ideal) x0 x1 x2 (ix4 b p n j)) i := by
  unfold cosT sinT val_main_v141 val_main_v133 val_main_v140 val_main_v129 val_main_v132 val_main_v136 val_main_v139
    val_main_v125 val_main_v126 val_main_v128 val_main_v127 val_main_v131 val_main_v130 val_main_v135 val_main_v134
    val_main_v138 val_main_v137 val_main_v17 val_main_v19
  generalize val_main_v16 (F := Ideal) = C
  generalize val_main_v18 (F := Ideal) = S
  generalize val_main_v124 (F := Ideal) x0 x1 x2 = Z
  obtain rfl : n = 0 := Subsingleton.elim _ _
  pointwise
  exact turn_split (fun j => Z (ix4 b p 0 j)) (fun j => C (ix2 p j)) (fun j => S (ix2 p j)) i

theorem v142_at (b : Fin 8) (p : Fin 4096) (f : Fin 1024) :
    val_main_v142 (F := Ideal) x0 x1 x2 x3 (ix3 b p f)
      = val_main_v70 (F := Ideal) x0 x1 x2 x3 (ix4 b p ⟨f.val / 64, by omega⟩ ⟨f.val % 64, by omega⟩) * Ideal.ofBits FTy.f32 0x3E000000#32 := by
  unfold val_main_v142 val_main_v72
  generalize val_main_v70 (F := Ideal) x0 x1 x2 x3 = Z
  pointwise [val_main_v71, val_main_cst_9]

theorem v143_at (b : Fin 8) (p : Fin 4096) (f : Fin 1024) :
    val_main_v143 (F := Ideal) x0 x1 x2 x4 (ix3 b p f)
      = val_main_v103 (F := Ideal) x0 x1 x2 x4 (ix4 b p ⟨f.val / 64, by omega⟩ ⟨f.val % 64, by omega⟩) := by
  unfold val_main_v143
  generalize val_main_v103 (F := Ideal) x0 x1 x2 x4 = Z
  pointwise

theorem v144_at (b : Fin 8) (p : Fin 4096) (f : Fin 512) :
    val_main_v144 (F := Ideal) x0 x1 x2 (ix3 b p f)
      = val_main_v121 (F := Ideal) x0 x1 x2 (ix4 b p ⟨f.val / 64, by omega⟩ ⟨f.val % 64, by omega⟩) * Ideal.ofBits FTy.f32 0x3E000000#32 := by
  unfold val_main_v144 val_main_v123
  generalize val_main_v121 (F := Ideal) x0 x1 x2 = Z
  pointwise [val_main_v122, val_main_cst_13]

theorem v145_at (b : Fin 8) (p : Fin 4096) (f : Fin 64) :
    val_main_v145 (F := Ideal) x0 x1 x2 (ix3 b p f) = val_main_v141 (F := Ideal) x0 x1 x2 (ix4 b p 0 f) := by
  unfold val_main_v145
  generalize val_main_v141 (F := Ideal) x0 x1 x2 = Z
  pointwise

theorem v40_at (b : Fin 8) (p : Fin 4096) (n : Fin 16) (i : Fin 64) :
    val_main_v40 (F := Ideal) x0 x1 x2 (ix4 b p n i) = proj x0 x1 x2 b p ⟨64 * n.val + i.val, by omega⟩ := by
  rw [← v33_at]
  unfold val_main_v40 val_main_v34
  generalize val_main_v33 (F := Ideal) x0 x1 x2 = Z
  pointwise
  exact congrArg (fun q => Z (ix3 b p q)) (Fin.ext (by show n.val * 64 + i.val = 64 * n.val + i.val; omega))

theorem v73_at (b : Fin 8) (p : Fin 4096) (n : Fin 16) (i : Fin 64) :
    val_main_v73 (F := Ideal) x0 x1 x2 (ix4 b p n i) = proj x0 x1 x2 b p ⟨1024 + (64 * n.val + i.val), by omega⟩ := by
  rw [← v33_at]
  unfold val_main_v73 val_main_v35
  generalize val_main_v33 (F := Ideal) x0 x1 x2 = Z
  pointwise
  exact congrArg (fun q => Z (ix3 b p q)) (Fin.ext (by show 1024 + (n.val * 64 + i.val) = 1024 + (64 * n.val + i.val); omega))

theorem v104_at (b : Fin 8) (p : Fin 4096) (n : Fin 8) (i : Fin 64) :
    val_main_v104 (F := Ideal) x0 x1 x2 (ix4 b p n i) = proj x0 x1 x2 b p ⟨3072 + (64 * n.val + i.val), by omega⟩ := by
  rw [← v33_at]
  unfold val_main_v104 val_main_v37
  generalize val_main_v33 (F := Ideal) x0 x1 x2 = Z
  pointwise
  exact congrArg (fun q => Z (ix3 b p q)) (Fin.ext (by show 3072 + (n.val * 64 + i.val) = 3072 + (64 * n.val + i.val); omega))

theorem v124_at (b : Fin 8) (p : Fin 4096) (i : Fin 64) :
    val_main_v124 (F := Ideal) x0 x1 x2 (ix4 b p 0 i) = proj x0 x1 x2 b p ⟨3584 + i.val, by omega⟩ := by
  rw [← v33_at]
  unfold val_main_v124 val_main_v38
  generalize val_main_v33 (F := Ideal) x0 x1 x2 = Z
  pointwise

/-- The columns of the queries. -/
theorem query_at (b : Fin 8) (p : Fin 4096) (f : Fin 1024) :
    val_main_v142 (F := Ideal) x0 x1 x2 x3 (ix3 b p f)
      = headTurn (cosT p) (sinT p) (headNorm (fun j => proj x0 x1 x2 b p ⟨64 * (f.val / 64) + j.val, by omega⟩) (fun j => x3 (ix1 j)))
          ⟨f.val % 64, by omega⟩ * Ideal.ofBits FTy.f32 0x3E000000#32 := by
  rw [v142_at, v70_eq, turnHeads_at, v53_eq]
  refine congrArg (fun u => headTurn (cosT p) (sinT p) u _ * _) (funext fun j => ?_)
  rw [normHeads_at]
  exact congrArg (fun u => headNorm u _ j) (funext fun i => v40_at x0 x1 x2 b p _ i)

/-- The columns of the keys. -/
theorem key_at (b : Fin 8) (p : Fin 4096) (f : Fin 1024) :
    val_main_v143 (F := Ideal) x0 x1 x2 x4 (ix3 b p f)
      = headTurn (cosT p) (sinT p) (headNorm (fun j => proj x0 x1 x2 b p ⟨1024 + (64 * (f.val / 64) + j.val), by omega⟩) (fun j => x4 (ix1 j)))
          ⟨f.val % 64, by omega⟩ := by
  rw [v143_at, v103_eq, turnHeads_at, v86_eq]
  refine congrArg (fun u => headTurn (cosT p) (sinT p) u _) (funext fun j => ?_)
  rw [normHeads_at]
  exact congrArg (fun u => headNorm u _ j) (funext fun i => v73_at x0 x1 x2 b p _ i)

/-- The columns of the index queries. -/
theorem index_at (b : Fin 8) (p : Fin 4096) (f : Fin 512) :
    val_main_v144 (F := Ideal) x0 x1 x2 (ix3 b p f)
      = headTurn (cosT p) (sinT p) (fun j => proj x0 x1 x2 b p ⟨3072 + (64 * (f.val / 64) + j.val), by omega⟩)
          ⟨f.val % 64, by omega⟩ * Ideal.ofBits FTy.f32 0x3E000000#32 := by
  rw [v144_at, v121_at]
  exact congrArg (fun u => headTurn (cosT p) (sinT p) u _ * _) (funext fun j => v104_at x0 x1 x2 b p _ j)

/-- The columns of the index keys. -/
theorem indexKey_at (b : Fin 8) (p : Fin 4096) (f : Fin 64) :
    val_main_v145 (F := Ideal) x0 x1 x2 (ix3 b p f)
      = headTurn (cosT p) (sinT p) (fun j => proj x0 x1 x2 b p ⟨3584 + j.val, by omega⟩) f := by
  rw [v145_at, v141_at]
  exact congrArg (fun u => headTurn (cosT p) (sinT p) u _) (funext fun j => v124_at x0 x1 x2 b p j)

/-- The columns of the index keys' weights. -/
theorem weight_at (b : Fin 8) (p : Fin 4096) (f : Fin 64) :
    val_main_v146 (F := Ideal) x0 x1 x2 (ix3 b p f) = full x0 x1 x2 b p ⟨3648 + f.val, by omega⟩ := by
  unfold val_main_v146 val_main_v39 full
  by_cases h : f.val < 8
  · rw [dif_pos (by show 3648 + f.val < 3656; omega), ← v33_at]
    generalize val_main_v33 (F := Ideal) x0 x1 x2 = Z
    pointwise
    rw [dif_pos h]
  · rw [dif_neg (by show ¬3648 + f.val < 3656; omega)]
    generalize val_main_v33 (F := Ideal) x0 x1 x2 = Z
    pointwise [val_main_call0_v0, val_main_c]
    rw [dif_neg h]
    show (((0 : ℤ) : ℝ) : EReal) = 0
    norm_num

/-! ## The results -/

/-- A head of columns before the zeros. -/
theorem head_full (b : Fin 8) (p : Fin 4096) (f : Fin 3712) (g : Fin 64 → Fin 3656) (hg : ∀ j, (g j).val = 64 * (f.val / 64) + j.val) :
    head (full x0 x1 x2 b p) f = fun j => proj x0 x1 x2 b p (g j) := funext fun j => by
  have hj := (g j).isLt
  have e := hg j
  unfold head full
  rw [dif_pos (by show 64 * (f.val / 64) + j.val < 3656; omega)]
  exact congrArg (proj x0 x1 x2 b p) (Fin.ext e.symm)

/-- The last columns: an index key and its weights. -/
theorem last_at (b : Fin 8) (p : Fin 4096) (l : Fin 128) :
    (if h : l.val < 64 then val_main_v145 (F := Ideal) x0 x1 x2 (ix3 b p ⟨l.val, h⟩)
      else val_main_v146 (F := Ideal) x0 x1 x2 (ix3 b p ⟨l.val - 64, by omega⟩))
      = col (fun j => x3 (ix1 j)) (fun j => x4 (ix1 j)) (cosT p) (sinT p) (full x0 x1 x2 b p) (tailCol l) := by
  have hl := l.isLt
  have hc : (tailCol l).val = 3584 + l.val := rfl
  unfold col
  rw [if_neg (by omega), if_neg (by omega), if_neg (by omega), if_neg (by omega)]
  by_cases h : l.val < 64
  · rw [dif_pos h, if_pos (by omega), indexKey_at]
    rw [head_full x0 x1 x2 b p (tailCol l) (fun j => ⟨3584 + j.val, by omega⟩) fun j => by show 3584 + j.val = _; omega]
    exact congrArg (headTurn (cosT p) (sinT p) _) (Fin.ext (by show l.val = (3584 + l.val) % 64; omega))
  · rw [dif_neg h, if_neg (by omega), weight_at]
    exact congrArg (full x0 x1 x2 b p) (Fin.ext (by show 3648 + (l.val - 64) = 3584 + l.val; omega))

/-- The reference's first result. -/
theorem ref_at (b : Fin 8) (p : Fin 4096) (f : Fin 3712) :
    val_main_v148 (F := Ideal) x0 x1 x2 x3 x4 (ix3 b p f)
      = col (fun j => x3 (ix1 j)) (fun j => x4 (ix1 j)) (cosT p) (sinT p) (full x0 x1 x2 b p) f := by
  have hf := f.isLt
  have hq := query_at x0 x1 x2 x3 b p
  have hk := key_at x0 x1 x2 x4 b p
  have hv : ∀ j : Fin 1024, val_main_v36 (F := Ideal) x0 x1 x2 (ix3 b p j) = proj x0 x1 x2 b p ⟨2048 + j.val, by omega⟩ := fun j => by
    rw [← v33_at]
    unfold val_main_v36
    generalize val_main_v33 (F := Ideal) x0 x1 x2 = Z
    pointwise
  have hi := index_at x0 x1 x2 b p
  have hlast := last_at x0 x1 x2 x3 x4 b p
  unfold val_main_v148 val_main_v147
  generalize val_main_v142 (F := Ideal) x0 x1 x2 x3 = Q at hq ⊢
  generalize val_main_v143 (F := Ideal) x0 x1 x2 x4 = K at hk ⊢
  generalize val_main_v36 (F := Ideal) x0 x1 x2 = V at hv ⊢
  generalize val_main_v144 (F := Ideal) x0 x1 x2 = I at hi ⊢
  generalize val_main_v145 (F := Ideal) x0 x1 x2 = J at hlast ⊢
  generalize val_main_v146 (F := Ideal) x0 x1 x2 = W at hlast ⊢
  pointwise
  by_cases h1 : f.val < 1024
  · rw [dif_pos h1, hq]
    unfold col
    rw [if_pos h1, head_full x0 x1 x2 b p f (fun j => ⟨64 * (f.val / 64) + j.val, by omega⟩) fun j => rfl]
    rfl
  rw [dif_neg h1]
  by_cases h2 : f.val < 2048
  · rw [dif_pos (show f.val - 1024 < 1024 by omega), hk]
    unfold col
    rw [if_neg h1, if_pos h2, head_full x0 x1 x2 b p f (fun j => ⟨1024 + (64 * ((f.val - 1024) / 64) + j.val), by omega⟩) fun j => by
      show 1024 + (64 * ((f.val - 1024) / 64) + j.val) = _; omega]
    exact congrArg (headTurn (cosT p) (sinT p) _) (Fin.ext (by show (f.val - 1024) % 64 = f.val % 64; omega))
  rw [dif_neg (show ¬f.val - 1024 < 1024 by omega)]
  by_cases h3 : f.val < 3072
  · rw [dif_pos (show f.val - 1024 - 1024 < 1024 by omega), hv]
    unfold col full
    rw [if_neg h1, if_neg h2, if_pos h3, dif_pos (by omega)]
    exact congrArg (proj x0 x1 x2 b p) (Fin.ext (by show 2048 + (f.val - 1024 - 1024) = f.val; omega))
  rw [dif_neg (show ¬f.val - 1024 - 1024 < 1024 by omega)]
  by_cases h4 : f.val < 3584
  · rw [dif_pos (show f.val - 1024 - 1024 - 1024 < 512 by omega), hi]
    unfold col
    rw [if_neg h1, if_neg h2, if_neg h3, if_pos h4,
      head_full x0 x1 x2 b p f (fun j => ⟨3072 + (64 * ((f.val - 1024 - 1024 - 1024) / 64) + j.val), by omega⟩) fun j => by
        show 3072 + (64 * ((f.val - 1024 - 1024 - 1024) / 64) + j.val) = _; omega]
    exact congrArg (fun i => headTurn (cosT p) (sinT p) _ i * Ideal.ofBits FTy.f32 0x3E000000#32)
      (Fin.ext (by show (f.val - 1024 - 1024 - 1024) % 64 = f.val % 64; omega))
  rw [dif_neg (show ¬f.val - 1024 - 1024 - 1024 < 512 by omega)]
  have e : tailCol ⟨f.val - 1024 - 1024 - 1024 - 512, by omega⟩ = f :=
    Fin.ext (by show 3584 + (f.val - 1024 - 1024 - 1024 - 512) = f.val; omega)
  have hl := hlast ⟨f.val - 1024 - 1024 - 1024 - 512, by omega⟩
  rw [e] at hl
  exact hl

/-- The reference's second result: the last columns of the first. -/
theorem tail_at (b : Fin 8) (p : Fin 4096) (l : Fin 128) :
    val_main_v149 (F := Ideal) x0 x1 x2 (ix3 b p l)
      = col (fun j => x3 (ix1 j)) (fun j => x4 (ix1 j)) (cosT p) (sinT p) (full x0 x1 x2 b p) (tailCol l) := by
  rw [← last_at]
  unfold val_main_v149
  generalize val_main_v145 (F := Ideal) x0 x1 x2 = J
  generalize val_main_v146 (F := Ideal) x0 x1 x2 = W
  pointwise

end Cert.Rope

end
-- ==== Proof.RopeValue.lean ====
/-
  The third projection's result arrays are the reference's.
-/
module

public import proofs.«01_k».proof.Proof.RopeRef
public import proofs.«01_k».proof.Defs
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen

namespace Cert.Rope

variable (m : (ℓ : Loc nD τ sig) → Buf (Elt Ideal) ℓ)

theorem widx0 : ∀ t : Fin cfg0.N, win0_0.index t = ![t.val / 8, t.val % 8, 0] := (by decide +kernel : ∀ t : Fin grid0.N, _)
theorem widx1 : ∀ t : Fin cfg0.N, win0_1.index t = ![0, 0] := fun _ => rfl
theorem widx2 : ∀ t : Fin cfg0.N, win0_2.index t = ![0, 0] := fun _ => rfl
theorem widx3 : ∀ t : Fin cfg0.N, win0_3.index t = ![0, 0] := fun _ => rfl
theorem widx4 : ∀ t : Fin cfg0.N, win0_4.index t = ![0, 0] := fun _ => rfl
theorem widx5 : ∀ t : Fin cfg0.N, win0_5.index t = ![t.val % 8, 0] := (by decide +kernel : ∀ t : Fin grid0.N, _)
theorem widx6 : ∀ t : Fin cfg0.N, win0_6.index t = ![t.val % 8, 0] := (by decide +kernel : ∀ t : Fin grid0.N, _)
theorem widx7 : ∀ t : Fin cfg0.N, win0_7.index t = ![t.val / 8, t.val % 8, 0] := (by decide +kernel : ∀ t : Fin grid0.N, _)
theorem widx8 : ∀ t : Fin cfg0.N, win0_8.index t = ![t.val / 8, t.val % 8, 0] := (by decide +kernel : ∀ t : Fin grid0.N, _)

/-! ## What the host prepares -/

/-- The head of each of 128 lanes. -/
def heads : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

theorem heads_at (k : Fin 128) : heads (ix1 k) = BitVec.ofNat 32 (k.val / 64) := by
  pointwise [heads]
  revert k
  decide +kernel

/-- The matrix that sums over each head. -/
def sums : FVec Ideal S128x128 .bf16 :=
  uitofp .bf16 (cmpi .eq (broadcastInDim S128x128 ![0, 1] bcast_S128x1_S128x128_0_1 (broadcastInDim S128x1 ![0] bcast_S128_S128x1_0 heads))
    (broadcastInDim S128x128 ![0, 1] bcast_S1x128_S128x128_0_1 (broadcastInDim S1x128 ![1] bcast_S128_S1x128_1 heads)))

theorem sums_at (k l : Fin 128) : sums (ix2 k l) = if k.val / 64 = l.val / 64 then (1 : EReal) else 0 := by
  have hk := heads_at k
  have hl := heads_at l
  unfold sums
  generalize heads = H at hk hl ⊢
  pointwise
  rw [hk, hl]
  have e : IntOp.cmpi CmpIPredicate.eq (BitVec.ofNat 32 (k.val / 64)) (BitVec.ofNat 32 (l.val / 64))
      = if k.val / 64 = l.val / 64 then 1#1 else 0#1 := by
    clear hk hl
    revert k l
    decide +kernel
  rw [e]
  by_cases h : k.val / 64 = l.val / 64
  · rw [if_pos h, if_pos h]
    show (((1 : ℕ) : ℝ) : EReal) = 1
    norm_num
  · rw [if_neg h, if_neg h]
    show (((0 : ℕ) : ℝ) : EReal) = 0
    norm_num

/-- The scales of the lanes of two heads of queries and of two heads of keys. -/
def gains (q k : FVec Ideal S64 .f32) : FVec Ideal S2x128 .f32 :=
  concatenate S2x128 0
    [⟨S1x128, broadcastInDim S1x128 ![1] bcast_S128_S1x128_1 (shapeCast S128 (broadcastInDim S2x64 ![0, 1] bcast_S1x64_S2x64_0_1
        (shapeCast S1x64 q shapeCasts_S64_S1x64)) shapeCasts_S2x64_S128)⟩,
     ⟨S1x128, broadcastInDim S1x128 ![1] bcast_S128_S1x128_1 (shapeCast S128 (broadcastInDim S2x64 ![0, 1] bcast_S1x64_S2x64_0_1
        (shapeCast S1x64 k shapeCasts_S64_S1x64)) shapeCasts_S2x64_S128)⟩]
    concatenates_S1x128_S1x128_S2x128_d0

theorem gains_q (q k : FVec Ideal S64 .f32) (l : Fin 128) : gains q k (ix2 0 l) = q (ix1 (inner l)) := by
  pointwise [gains, inner]

theorem gains_k (q k : FVec Ideal S64 .f32) (l : Fin 128) : gains q k (ix2 1 l) = k (ix1 (inner l)) := by
  pointwise [gains, inner]

/-- The cosines of the lanes of two heads. -/
def cosTable (C : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 C shapeCasts_S4096x32_S1x4096x1x32)) shapeCasts_S1x4096x4x32_S4096x128

theorem cosTable_at (C : FVec Ideal S4096x32 .f32) (p : Fin 4096) (l : Fin 128) :
    cosTable C (ix2 p l) = C (ix2 p ⟨l.val % 32, by omega⟩) := by
  pointwise [cosTable]

/-- The sines of the lanes of two heads, those of the first halves negated. -/
def sinTable (S : FVec Ideal S4096x32 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, Host.negf S⟩, ⟨S4096x32, S⟩] concatenates_S4096x32_S4096x32_S4096x64_d1)
      shapeCasts_S4096x64_S1x4096x1x64)) shapeCasts_S1x4096x2x64_S4096x128

theorem sinTable_at (S : FVec Ideal S4096x32 .f32) (p : Fin 4096) (l : Fin 128) :
    sinTable S (ix2 p l)
      = if l.val % 64 < 32 then -(S (ix2 p ⟨l.val % 32, by omega⟩) : EReal) else S (ix2 p ⟨l.val % 32, by omega⟩) := by
  pointwise [sinTable]
  have hl := l.isLt
  by_cases h : l.val % 64 < 32
  · rw [dif_pos h, if_pos h]
    exact congrArg (fun q => -(S (ix2 p q) : EReal)) (Fin.ext (by show l.val % 64 = l.val % 32; omega))
  · rw [dif_neg h, if_neg h]
    exact congrArg (fun q => S (ix2 p q)) (Fin.ext (by show l.val % 64 - 32 = l.val % 32; omega))

/-- The weights with 56 columns of zeros behind. -/
def padded (W : FVec Ideal S1024x3656 .f32) : FVec Ideal S1024x3712 .bf16 :=
  truncf .bf16 (pad S1024x3712 ![0, 0] ![0, 56] ![0, 0] W (sitofp .f32 (constantI S_ 32 0#32)) pads_S1024x3656_S1024x3712_000_0560 h_S_) bitsLt_bf16_f32

theorem padded_at (W : FVec Ideal S1024x3656 .f32) (d : Fin 1024) (f : Fin 3712) :
    padded W (ix2 d f) = if h : f.val < 3656 then W (ix2 d ⟨f.val, h⟩) else (0 : EReal) := by
  have hz : (sitofp .f32 (constantI S_ 32 0#32) : FVec Ideal S_ .f32) = fun _ => (0 : EReal) := funext fun _ => by
    show (((0 : ℤ) : ℝ) : EReal) = 0
    norm_num
  unfold padded
  rw [hz]
  pointwise

/-- The blocks of the first result cover it. -/
theorem covers7 : (cfg0.win 7).Covers :=
  (cfg0.win 7).covers_of_indexMap_surj rfl (by decide) fun β =>
    ⟨fun a => match a with
      | ⟨0, _⟩ => (⟨(β 0).val, (β 0).isLt⟩ : Fin 8)
      | ⟨1, _⟩ => (⟨(β 1).val, (β 1).isLt⟩ : Fin 8), fun a => by
      match a with
      | ⟨0, _⟩ =>
        show (BitVec.ofNat 32 (β 0).val).toNat = (β 0).val
        have h : (β 0).val < 8 := (β 0).isLt
        rw [BitVec.toNat_ofNat, Nat.mod_eq_of_lt (by omega)]
      | ⟨1, _⟩ =>
        show (BitVec.ofNat 32 (β 1).val).toNat = (β 1).val
        have h : (β 1).val < 8 := (β 1).isLt
        rw [BitVec.toNat_ofNat, Nat.mod_eq_of_lt (by omega)]
      | ⟨2, _⟩ =>
        show 0 = (β 2).val
        have h : (β 2).val < 1 := (β 2).isLt
        omega⟩

/-- The blocks of the second result cover it. -/
theorem covers8 : (cfg0.win 8).Covers :=
  (cfg0.win 8).covers_of_indexMap_surj rfl (by decide) fun β =>
    ⟨fun a => match a with
      | ⟨0, _⟩ => (⟨(β 0).val, (β 0).isLt⟩ : Fin 8)
      | ⟨1, _⟩ => (⟨(β 1).val, (β 1).isLt⟩ : Fin 8), fun a => by
      match a with
      | ⟨0, _⟩ =>
        show (BitVec.ofNat 32 (β 0).val).toNat = (β 0).val
        have h : (β 0).val < 8 := (β 0).isLt
        rw [BitVec.toNat_ofNat, Nat.mod_eq_of_lt (by omega)]
      | ⟨1, _⟩ =>
        show (BitVec.ofNat 32 (β 1).val).toNat = (β 1).val
        have h : (β 1).val < 8 := (β 1).isLt
        rw [BitVec.toNat_ofNat, Nat.mod_eq_of_lt (by omega)]
      | ⟨2, _⟩ =>
        show 0 = (β 2).val
        have h : (β 2).val < 1 := (β 2).isLt
        omega⟩

section

variable (c : Dev nD) (t : Fin cfg0.N)

/-- The sequence of a point. -/
def seq : Fin 8 := ⟨t.val / 8, by have h : t.val < 64 := t.isLt; omega⟩

/-- The time in its sequence of a row of a point. -/
def time (r : Fin 512) : Fin 4096 := ⟨512 * (t.val % 8) + r.val, by omega⟩

/-- The rows of a point. -/
theorem x_at (r : Fin 512) (d : Fin 1024) :
    iblk m c 0 t (ix3 0 r d) = (m ((c : Thread nD τ).loc main_arg0) : FVec Ideal S8x4096x1024 .f32) (ix3 (seq t) (time t r) d) := by
  blk_ext [iblk, V, widx0 t, seq, time]

/-- The normalisation's scales. -/
theorem g_at (d : Fin 1024) :
    iblk m c 1 t (ix2 0 d) = (m ((c : Thread nD τ).loc main_arg1) : FVec Ideal S1024 .f32) (ix1 d) := by
  blk_simp [iblk, widx1 t, V]
  simp only [hostOps0, hostOps0_1, hostOps0_2, hostOps0_3, hostOps0_4, List.flatten_cons, List.flatten_nil, List.cons_append, List.nil_append, List.append_nil]
  entry_read
  pointwise
  blk_ext [widx1 t]

/-- The weights, padded. -/
theorem w_at (d : Fin 1024) (f : Fin 3712) :
    iblk m c 2 t (ix2 d f) = padded (m ((c : Thread nD τ).loc main_arg2)) (ix2 d f) := by
  blk_simp [iblk, widx2 t, V]
  simp only [hostOps0, hostOps0_1, hostOps0_2, hostOps0_3, hostOps0_4, List.flatten_cons, List.flatten_nil, List.cons_append, List.nil_append, List.append_nil]
  entry_read
  show padded (m ((c : Thread nD τ).loc main_arg2)) (((View.whole main_v44).slice (win0_2.rect t)).emb (ix2 d f)) = _
  blk_ext [widx2 t]

/-- The matrix that sums over each head. -/
theorem bd_at (k l : Fin 128) : iblk m c 3 t (ix2 k l) = sums (ix2 k l) := by
  blk_simp [iblk, widx3 t, V]
  simp only [hostOps0, hostOps0_1, hostOps0_2, hostOps0_3, hostOps0_4, List.flatten_cons, List.flatten_nil, List.cons_append, List.nil_append, List.append_nil]
  entry_read
  show sums (((View.whole main_v7).slice (win0_3.rect t)).emb (ix2 k l)) = _
  blk_ext [widx3 t]

/-- The scales of the heads' lanes. -/
theorem gain_at (i : Fin 2) (l : Fin 128) :
    iblk m c 4 t (ix2 i l) = gains (m ((c : Thread nD τ).loc main_arg3)) (m ((c : Thread nD τ).loc main_arg4)) (ix2 i l) := by
  blk_simp [iblk, widx4 t, V]
  simp only [hostOps0, hostOps0_1, hostOps0_2, hostOps0_3, hostOps0_4, List.flatten_cons, List.flatten_nil, List.cons_append, List.nil_append, List.append_nil]
  entry_read
  show gains (m ((c : Thread nD τ).loc main_arg3)) (m ((c : Thread nD τ).loc main_arg4)) (((View.whole main_v42).slice (win0_4.rect t)).emb (ix2 i l)) = _
  blk_ext [widx4 t]

/-- The cosines of a point's times. -/
theorem cos_at (r : Fin 512) (l : Fin 128) :
    iblk m c 5 t (ix2 r l) = cosTable (Cert.Reference5Ideal.Read.val_main_v16 (F := Ideal)) (ix2 (time t r) l) := by
  blk_simp [iblk, widx5 t, V]
  simp only [hostOps0, hostOps0_1, hostOps0_2, hostOps0_3, hostOps0_4, List.flatten_cons, List.flatten_nil, List.cons_append, List.nil_append, List.append_nil]
  entry_read
  show cosTable (Cert.Reference5Ideal.Read.val_main_v16 (F := Ideal)) (((View.whole main_v28).slice (win0_5.rect t)).emb (ix2 r l)) = _
  blk_ext [widx5 t, time]

/-- The sines of a point's times. -/
theorem sin_at (r : Fin 512) (l : Fin 128) :
    iblk m c 6 t (ix2 r l) = sinTable (Cert.Reference5Ideal.Read.val_main_v18 (F := Ideal)) (ix2 (time t r) l) := by
  blk_simp [iblk, widx6 t, V]
  simp only [hostOps0, hostOps0_1, hostOps0_2, hostOps0_3, hostOps0_4, List.flatten_cons, List.flatten_nil, List.cons_append, List.nil_append, List.append_nil]
  entry_read
  show sinTable (Cert.Reference5Ideal.Read.val_main_v18 (F := Ideal)) (((View.whole main_v33).slice (win0_6.rect t)).emb (ix2 r l)) = _
  blk_ext [widx6 t, time]

/-- A column of the product of a point's rows and the weights. -/
theorem prod_full (r : Fin 512) (f : Fin 3712) :
    ∑ d : Fin 1024, k0_pay4 (iblk m c 0 t) (iblk m c 1 t) (ix2 r d) * iblk m c 2 t (ix2 d f)
      = full (m ((c : Thread nD τ).loc main_arg0)) (m ((c : Thread nD τ).loc main_arg1)) (m ((c : Thread nD τ).loc main_arg2)) (seq t) (time t r) f := by
  unfold full proj
  have e : ∀ d : Fin 1024, k0_pay4 (iblk m c 0 t) (iblk m c 1 t) (ix2 r d)
      = Cert.Mlp.norm (fun x => (m ((c : Thread nD τ).loc main_arg0) : FVec Ideal S8x4096x1024 .f32) (ix3 (seq t) (time t r) x))
          ((m ((c : Thread nD τ).loc main_arg1) : FVec Ideal S1024 .f32) (ix1 d)) d := fun d => by
    refine (rows_at _ _ r d).trans ?_
    rw [g_at m c t d]
    exact congrArg (fun Y => Cert.Mlp.norm Y _ d) (funext fun x => x_at m c t r x)
  by_cases h : f.val < 3656
  · rw [dif_pos h]
    refine Finset.sum_congr rfl fun d _ => ?_
    rw [e d, w_at m c t d f, padded_at, dif_pos h]
  · rw [dif_neg h]
    refine Finset.sum_eq_zero fun d _ => ?_
    rw [w_at m c t d f, padded_at, dif_neg h]
    exact mul_zero (M₀ := EReal) _

/-- What a point computes, at a row and column. -/
theorem entry_at (r : Fin 512) (f : Fin 3712) :
    entry (iblk m c 2 t) (iblk m c 3 t) (iblk m c 4 t) (iblk m c 5 t) (iblk m c 6 t) (k0_pay4 (iblk m c 0 t) (iblk m c 1 t)) r f
      = col (fun j => (m ((c : Thread nD τ).loc main_arg3) : FVec Ideal S64 .f32) (ix1 j)) (fun j => (m ((c : Thread nD τ).loc main_arg4) : FVec Ideal S64 .f32) (ix1 j))
          (cosT (time t r)) (sinT (time t r)) (full (m ((c : Thread nD τ).loc main_arg0)) (m ((c : Thread nD τ).loc main_arg1)) (m ((c : Thread nD τ).loc main_arg2)) (seq t) (time t r)) f := by
  refine entry_col _ _ _ _ _ _ r _ _ _ _ _ (fun f => prod_full m c t r f) (fun k l => ?_) (fun l => ?_) (fun l => ?_) (fun l => ?_) (fun l => ?_) f
  · rw [bd_at m c t k l, sums_at]
  · rw [gain_at m c t 0 l, gains_q]
  · rw [gain_at m c t 1 l, gains_k]
  · rw [cos_at m c t r l, cosTable_at]
    rfl
  · rw [sin_at m c t r l, sinTable_at]
    rfl

/-- What a point writes first, at a row and column: the reference's first result there. -/
theorem block_at (r : Fin 512) (f : Fin 3712) :
    out0_7 (iblk m c 0 t) (iblk m c 1 t) (iblk m c 2 t) (iblk m c 3 t) (iblk m c 4 t) (iblk m c 5 t) (iblk m c 6 t) (ix3 0 r f)
      = Cert.Reference5Ideal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (seq t) (time t r) f) := by
  rw [ref_at, ← entry_at m c t r f, out_eq, ld0, ld1]
  rfl

/-- What a point writes second, at a row and column: the reference's second result there. -/
theorem tail_block_at (r : Fin 512) (l : Fin 128) :
    out0_8 (iblk m c 0 t) (iblk m c 1 t) (iblk m c 2 t) (iblk m c 3 t) (iblk m c 4 t) (iblk m c 5 t) (iblk m c 6 t) (ix3 0 r l)
      = Cert.Reference5Ideal.Read.val_main_v149 (F := Ideal) (m ((c : Thread nD τ).loc main_arg0)) (m ((c : Thread nD τ).loc main_arg1)) (m ((c : Thread nD τ).loc main_arg2)) (ix3 (seq t) (time t r) l) := by
  rw [tail_at _ _ _ (m ((c : Thread nD τ).loc main_arg3)) (m ((c : Thread nD τ).loc main_arg4)), ← entry_at m c t r (tailCol l), tail_eq, ld0, ld1]
  rfl

end

/-- The first result array of the kernel is the reference's. -/
theorem final (c : Dev nD) :
    (dats m 0 c).arrAt 7 cfg0.N
      = Cert.Reference5Ideal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ covers7 fun t hf y => ?_
  obtain ⟨k, r, f, rfl⟩ : ∃ (k : Fin 1) (r : Fin 512) (f : Fin 3712), y = ix3 k r f := ⟨y 0, y 1, y 2, funext fun a => by
    match a with
    | ⟨0, _⟩ => rfl
    | ⟨1, _⟩ => rfl
    | ⟨2, _⟩ => rfl⟩
  obtain rfl : k = 0 := Subsingleton.elim _ _
  have h0 : (dats m 0 c).after 7 t (ix3 0 r f)
      = out0_7 (iblk m c 0 t) (iblk m c 1 t) (iblk m c 2 t) (iblk m c 3 t) (iblk m c 4 t) (iblk m c 5 t) (iblk m c 6 t) (ix3 0 r f) := by rw [after0_7]
  blk_simp
  refine (h0.trans (block_at m c t r f)).trans ?_
  blk_ext [widx7 t, seq, time]

/-- The second result array of the kernel is the reference's. -/
theorem final_tail (c : Dev nD) :
    (dats m 0 c).arrAt 8 cfg0.N
      = Cert.Reference5Ideal.Read.val_main_v149 (F := Ideal) (m ((c : Thread nD τ).loc main_arg0)) (m ((c : Thread nD τ).loc main_arg1)) (m ((c : Thread nD τ).loc main_arg2)) := by
  refine (dats m 0 c).arrAt_eq_of_covers 8 _ covers8 fun t hf y => ?_
  obtain ⟨k, r, l, rfl⟩ : ∃ (k : Fin 1) (r : Fin 512) (l : Fin 128), y = ix3 k r l := ⟨y 0, y 1, y 2, funext fun a => by
    match a with
    | ⟨0, _⟩ => rfl
    | ⟨1, _⟩ => rfl
    | ⟨2, _⟩ => rfl⟩
  obtain rfl : k = 0 := Subsingleton.elim _ _
  have h0 : (dats m 0 c).after 8 t (ix3 0 r l)
      = out0_8 (iblk m c 0 t) (iblk m c 1 t) (iblk m c 2 t) (iblk m c 3 t) (iblk m c 4 t) (iblk m c 5 t) (iblk m c 6 t) (ix3 0 r l) := by rw [after0_8]
  blk_simp
  refine (h0.trans (tail_block_at m c t r l)).trans ?_
  blk_ext [widx8 t, seq, time]

end Cert.Rope

end
-- ==== Proof.BandBitsFrame.lean ====
/-
  The banded attention's run re-posted: the result array named, the arguments unchanged, every counter at zero.
-/
module

public import proofs.«01_k».proof.Proof.BandBitsRun
public import Idealize.ShloMosaic.Lib.Pipeline.Value

@[expose] public section

set_option maxRecDepth 16384

noncomputable section

namespace Cert.BandBits

open Idealize.ShloMosaic Idealize.ShloMosaic.TcCoe
open Idealize.SL.Sem
open Idealize.ShloMosaic.Pipeline (Dat)
open Cert.Kernel6 Cert.Kernel6.Gen

variable {F : FTy → Type} [FloatOps F]
variable (m : (ℓ : Loc nD τ sig) → Buf (Elt F) ℓ) (ρ : Dev nD → PrngReg)

/-- After the run the result is what the proof data compute and the arguments are as launched. -/
theorem run : θ_run defs (onTc (τ := τ) (main (F := F))) ⟨m, fun _ => 0, ρ⟩ (fun r => (∀ c : Dev nD,
      r.2.mem ((c.tc : Thread nD τ).loc main_v51) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 6,
      ((h.1 c).1 2).trans (((dats m 0 c).arrAt_in 2 rfl _).trans ((A_eq m c 2).trans (V_arg m c main_arg0 (.inl rfl)))),
      ((h.1 c).2 main_arg1 (Pipeline.mem_restRefs_of main_arg1 (by decide) (by decide))).trans (V_arg m c main_arg1 (.inr (.inl rfl))),
      ((h.1 c).2 main_arg2 (Pipeline.mem_restRefs_of main_arg2 (by decide) (by decide))).trans (V_arg m c main_arg2 (.inr (.inr (.inl rfl)))),
      ((h.1 c).2 main_arg3 (Pipeline.mem_restRefs_of main_arg3 (by decide) (by decide))).trans (V_arg m c main_arg3 (.inr (.inr (.inr rfl))))⟩, h.2⟩)
    (run_quiet m ρ)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run m ρ)

end Cert.BandBits

end
-- ==== Proof.BandKeys.lean ====
/-
  The banded attention's launch: what the region finds, its blocks, and one run of the body, whose scratch holds the
  normalised keys of the pair of heads.
-/
module

public import proofs.«01_k».proof.Proof.Gen.Kernel6Ideal.Launch
public import proofs.«01_k».proof.Proof.Gen.Kernel6Ideal.Skeleton
public import proofs.«01_k».proof.Proof.Gen.Kernel6Ideal.Loops
public import proofs.«01_k».proof.Proof.Gen.Kernel6Ideal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384
set_option maxHeartbeats 1000000

noncomputable section

namespace Cert.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal Cert.Kernel6Ideal.Gen

variable {F : FTy → Type} [FloatOps F] [Named F]

local notation "𝕄" => MT nD τ sig Unit (Elt F) ℕ (UR sig nD τ) ℕ

/-- The key loop has nine trips. -/
theorem trips_eq : k0_t1_loop.trips = 9 := by decide +kernel

/-- A trip's rows in the key window. -/
theorem off1_eq : ∀ k : Fin k0_t1_loop.trips, k0_off1 k = ![0, 512 * k.val, 0] := by decide +kernel

/-- A trip's rows in the scratch. -/
theorem off2_eq : ∀ k : Fin k0_t1_loop.trips, k0_off2 k = ![512 * k.val, 0] := by decide +kernel

/-- The scratch's 640 rows a query block reads. -/
theorem off3_eq : ∀ i : grid0.Coords, k0_off3 i = ![128 * (i 2).val, 0] := by decide +kernel

/-- The value window's 640 rows a query block reads. -/
theorem off4_eq : ∀ i : grid0.Coords, k0_off4 i = ![0, 128 * (i 2).val, 0] := by decide +kernel

/-- Row `y` of the padded sequence lies in one of nine tiles. -/
theorem tile_lt (y : Fin 4608) : y.val / 512 < 9 := by have := y.isLt; omega

/-- A tile of 512 rows of the padded sequence. -/
def tile (x1 : Vec F S1x4608x128 .bf16) (p : ℕ) (hp : p < 9) : Vec F S1x512x128 .bf16 :=
  fun j => x1 (ix3 0 ⟨512 * p + (j 1).val, by have h : (j 1).val < 512 := (j 1).isLt; omega⟩ ⟨(j 2).val, (j 2).isLt⟩)

/-- The second row of the gains. -/
def gain1 (g : Vec F S2x128 .f32) : Vec F S1x128 .f32 := fun j => g (ix2 1 ⟨(j 1).val, (j 1).isLt⟩)

/-- The normalised keys: a row is normalised in the tile of 512 rows it lies in. -/
def keys (v0 : Vec F S128x128 .bf16) (x1 : Vec F S1x4608x128 .bf16) (g : Vec F S2x128 .f32) : Vec F S4608x128 .bf16 :=
  fun y => k0_pay3 v0 (tile x1 ((y 0).val / 512) (tile_lt (y 0))) (gain1 g)
    (ix2 ⟨(y 0).val % 512, Nat.mod_lt _ (by decide)⟩ ⟨(y 1).val, (y 1).isLt⟩)

/-- What the body stores: the pair's two heads at a query block. -/
def stored (i : grid0.Coords) (x0 : Vec F S1x128x128 .bf16) (x2 : Vec F S1x4608x128 .bf16) (x3 : Vec F S2x128x640 .f32)
    (v0 : Vec F S128x128 .bf16) (g : Vec F S2x128 .f32) (kn : Vec F S4608x128 .bf16) : Vec F S1x128x128 .bf16 :=
  k0_pay1 k0_pay5 (k0_pay7 (View.ld x2 (Rect.unit (s := S1x4608x128) (k0_off4 i) S1x640x128.size (k0_off4_inb i))))
    (k0_pay8 (BitVec.ofNat 32 (i 2).val))
    (k0_pay9 (BitVec.ofNat 32 (i 2).val) k0_pay4
      (k0_pay6 v0 (View.ld x0 (Rect.unit (s := S1x128x128) ![0, 0, 0] S1x128x128.size inb_S1x128x128_S1x128x128_0_0_0)) (View.ld g (Rect.unit (s := S2x128) ![0, 0] S1x128.size inb_S2x128_S1x128_0_0)))
      (View.ld kn (Rect.unit (s := S4608x128) (k0_off3 i) S640x128.size (k0_off3_inb i)))
      (k0_pay7 (View.ld x2 (Rect.unit (s := S1x4608x128) (k0_off4 i) S1x640x128.size (k0_off4_inb i))))
      (View.ld x3 (Rect.unit (s := S2x128x640) ![0, 0, 0] S1x128x640.size inb_S2x128x640_S1x128x640_0_0_0)))
    (k0_pay10 k0_pay5
      (k0_pay6 v0 (View.ld x0 (Rect.unit (s := S1x128x128) ![0, 0, 0] S1x128x128.size inb_S1x128x128_S1x128x128_0_0_0)) (View.ld g (Rect.unit (s := S2x128) ![0, 0] S1x128.size inb_S2x128_S1x128_0_0)))
      (View.ld kn (Rect.unit (s := S4608x128) (k0_off3 i) S640x128.size (k0_off3_inb i)))
      (View.ld x3 (Rect.unit (s := S2x128x640) ![1, 0, 0] S1x128x640.size inb_S2x128x640_S1x128x640_1_0_0)))

/-- The table of the head sums is read whole. -/
theorem ld_whole (x : Vec F S128x128 .bf16) :
    View.ld x (Rect.unit (s := S128x128) ![0, 0] ![128, 128] inb_S128x128_S128x128_0_0) = x :=
  funext fun j => View.ld_unit_apply_of x _ _ _ _ _ fun a => by fin_cases a <;> exact (Nat.zero_add _).symm

section Run

variable (c : Dev nD) (i : grid0.Coords)
    (arg3 : Memref sig .tc .vmem S1x128x128 .bf16) (harg3 : arg3.IsWhole)
    (arg4 : Memref sig .tc .vmem S1x4608x128 .bf16) (harg4 : arg4.IsWhole)
    (arg5 : Memref sig .tc .vmem S1x4608x128 .bf16) (harg5 : arg5.IsWhole)
    (arg6 : Memref sig .tc .vmem S2x128x640 .f32) (harg6 : arg6.IsWhole)
    (arg7 : Memref sig .tc .vmem S128x128 .bf16) (harg7 : arg7.IsWhole)
    (arg8 : Memref sig .tc .vmem S2x128 .f32) (harg8 : arg8.IsWhole)
    (arg9 : Memref sig .tc .vmem S1x128x128 .bf16) (harg9 : arg9.IsWhole)
    (arg10 : Memref sig .tc .vmem S4608x128 .bf16) (harg10 : arg10.IsWhole)

/-- What one trip writes into the scratch: its tile's normalised rows. -/
theorem trip_eq (v0 : Vec F S128x128 .bf16) (h1 : k0_cond1 i = 1#1) (x1 : Vec F S1x4608x128 .bf16) (g : Vec F S2x128 .f32)
    (k : Fin k0_t1_loop.trips) :
    tripL_k0_t1 (F := F) Variants.none c none i arg3 harg3 arg4 harg4 arg5 harg5 arg6 harg6 arg7 harg7 arg8 harg8 arg9 harg9 arg10 harg10 v0 h1
        (harg4.unread x1) (harg8.unread g) k
      = [⟨Rect.unit (s := S4608x128) (k0_off2 k) S512x128.size (k0_off2_inb i k h1),
          k0_pay3 v0 (tile x1 k.val (lt_of_lt_of_eq k.isLt trips_eq)) (gain1 g)⟩] := by
  unfold tripL_k0_t1 trip_k0_t1
  dsimp only
  sl_unfold_words
  simp only [View.readAt_eq_ld, harg4.read_unread, harg8.read_unread]
  congr 3
  · funext j
    refine View.ld_unit_apply_of x1 _ _ _ _ _ fun a => ?_
    refine Eq.trans ?_ (congrArg (· + (j a).val) (congrFun (off1_eq k) a).symm)
    fin_cases a
    · have h : (j 0).val < 1 := (j 0).isLt
      show 0 = 0 + (j 0).val
      omega
    · rfl
    · exact (Nat.zero_add _).symm
  · funext j
    refine View.ld_unit_apply_of g _ _ _ _ _ fun a => ?_
    fin_cases a
    · have h : (j 0).val < 1 := (j 0).isLt
      show 1 = 1 + (j 0).val
      omega
    · exact (Nat.zero_add _).symm

/-- After the trips before `n` the scratch holds the normalised keys on their tiles. -/
theorem read_trips (v0 : Vec F S128x128 .bf16) (h1 : k0_cond1 i = 1#1) (x1 : Vec F S1x4608x128 .bf16) (g : Vec F S2x128 .f32)
    (f : BufTy.Contents (Elt F) arg10.view.ty) :
    ∀ n : ℕ, n ≤ k0_t1_loop.trips → ∀ y : S4608x128.Idx, (y 0).val < 512 * n →
      arg10.view.read (Elt F) (arg10.view.writes (Elt F) f
        (pb_k0_t1 (F := F) Variants.none c none i arg3 harg3 arg4 harg4 arg5 harg5 arg6 harg6 arg7 harg7 arg8 harg8 arg9 harg9 arg10 harg10 v0 h1
          (harg4.unread x1) (harg8.unread g) n)) y = keys v0 x1 g y := by
  intro n
  induction n with
  | zero => exact fun _ y h => absurd h (by omega)
  | succ n ih =>
    intro hn y hy
    have e := pb_k0_t1_succ (F := F) Variants.none c none i arg3 harg3 arg4 harg4 arg5 harg5 arg6 harg6 arg7 harg7 arg8 harg8 arg9 harg9 arg10 harg10 v0 h1
          (harg4.unread x1) (harg8.unread g) ⟨n, hn⟩
    dsimp only at e
    rw [e, trip_eq, List.singleton_append]
    by_cases hlo : (y 0).val < 512 * n
    · refine (View.read_writes_cons_unit _ f _ _ _ y (off2_eq ⟨n, hn⟩)).trans ((dif_neg (fun h => by
        have h0 : 512 * n ≤ (y 0).val := (h 0).1
        omega)).trans ?_)
      exact ih (by omega) y hlo
    · have hx : (y 0).val % 512 < 512 := Nat.mod_lt _ (by decide)
      have hq : (y 0).val / 512 = n := by omega
      refine (View.read_writes_cons_unit_of_mem _ f _ _ _ y (ix2 ⟨(y 0).val % 512, hx⟩ ⟨(y 1).val, (y 1).isLt⟩) (off2_eq ⟨n, hn⟩) (fun a => by
        fin_cases a
        · show (y 0).val = 512 * n + (y 0).val % 512
          omega
        · exact (Nat.zero_add _).symm)).trans ?_
      subst hq
      rfl

/-- After the key loop the scratch holds the normalised keys, whatever it held before. -/
theorem read_loop (v0 : Vec F S128x128 .bf16) (h1 : k0_cond1 i = 1#1) (x1 : Vec F S1x4608x128 .bf16) (g : Vec F S2x128 .f32)
    (f : BufTy.Contents (Elt F) arg10.view.ty) :
    arg10.view.read (Elt F) (arg10.view.writes (Elt F) f
        (pb_k0_t1 (F := F) Variants.none c none i arg3 harg3 arg4 harg4 arg5 harg5 arg6 harg6 arg7 harg7 arg8 harg8 arg9 harg9 arg10 harg10 v0 h1
          (harg4.unread x1) (harg8.unread g) k0_t1_loop.trips)) = keys v0 x1 g :=
  funext fun y => read_trips c i arg3 harg3 arg4 harg4 arg5 harg5 arg6 harg6 arg7 harg7 arg8 harg8 arg9 harg9 arg10 harg10 v0 h1 x1 g f _ le_rfl y
    (by rw [trips_eq]; exact (y 0).isLt)

/-- The body at the first query block of a pair: it fills the scratch with the normalised keys. -/
theorem run_first (h1 : k0_cond1 i = 1#1) (x0 : Vec F S1x128x128 .bf16) (x1 x2 : Vec F S1x4608x128 .bf16) (x3 : Vec F S2x128x640 .f32)
    (x4 : Vec F S128x128 .bf16) (x5 : Vec F S2x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (stored i x0 x2 x3 x4 x5 (keys x4 x1 x5))
            ∗ owns (c : Thread nD τ) arg10 fullShare (keys x4 x1 x5)) -∗ K ⟨⟩))
      ⊢ wp frame (wpE (defs₀ (F := F)) Variants.none c none) Set.univ
          (cc0_attn_band i arg3 harg3 arg4 harg4 arg5 harg5 arg6 harg6 arg7 harg7 arg8 harg8 arg9 harg9 arg10 harg10) K := by
  simp only [cc0_attn_band_eq_skeleton]; unfold cc0_attn_band_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    rw [View.read_writes_full]
    sl_unfold_words
    simp only [View.readAt_eq_ld, harg3.read_unread, harg5.read_unread, harg6.read_unread, harg7.read_unread, harg8.read_unread, ld_whole,
      read_loop c i arg3 harg3 arg4 harg4 arg5 harg5 arg6 harg6 arg7 harg7 arg8 harg8 arg9 harg9 arg10 harg10]
    rfl
  iexists _; isplitr
  swap; · iexact H7
  ipureintro
  simp only [View.readAt_eq_ld, harg7.read_unread, ld_whole]
  exact read_loop c i arg3 harg3 arg4 harg4 arg5 harg5 arg6 harg6 arg7 harg7 arg8 harg8 arg9 harg9 arg10 harg10 x4 h1 x1 x5 f7

/-- The body at a later query block: the scratch already holds the normalised keys. -/
theorem run_next (h1 : ¬k0_cond1 i = 1#1) (x0 : Vec F S1x128x128 .bf16) (x1 x2 : Vec F S1x4608x128 .bf16) (x3 : Vec F S2x128x640 .f32)
    (x4 : Vec F S128x128 .bf16) (x5 : Vec F S2x128 .f32) (kn : Vec F S4608x128 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ owns (c : Thread nD τ) arg10 fullShare kn
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (stored i x0 x2 x3 x4 x5 kn)
            ∗ owns (c : Thread nD τ) arg10 fullShare kn) -∗ K ⟨⟩))
      ⊢ wp frame (wpE (defs₀ (F := F)) Variants.none c none) Set.univ
          (cc0_attn_band i arg3 harg3 arg4 harg4 arg5 harg5 arg6 harg6 arg7 harg7 arg8 harg8 arg9 harg9 arg10 harg10) K := by
  simp only [cc0_attn_band_eq_skeleton]; unfold cc0_attn_band_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg10.eq_unread hf7
  sl_exec (disch := first | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    rw [View.read_writes_full]
    sl_unfold_words
    simp only [View.readAt_eq_ld, harg3.read_unread, harg5.read_unread, harg6.read_unread, harg7.read_unread, harg8.read_unread,
      harg10.read_unread, ld_whole]
    rfl
  iexists _; isplitr
  · ipureintro; exact harg10.read_unread _
  iexact H7

end Run

end Cert.Band

end
-- ==== Proof.BandRun.lean ====
/-
  The banded attention's launch: what the region finds, the blocks of its windows, and the run of the whole grid, whose
  invariant is that the scratch holds the normalised keys of the pair of heads the grid is at.
-/
module

public import proofs.«01_k».proof.Proof.BandKeys

@[expose] public section

set_option maxRecDepth 16384
set_option maxHeartbeats 1000000

noncomputable section

namespace Cert.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations before the region, segment by segment. -/
abbrev segs : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

/-- What the region finds in a buffer. -/
abbrev V (c : Dev nD) (b : Ref sig .tc) : Buf (Elt F) ((c : Thread nD τ).loc b) :=
  StableHlo.after (segs (F := F)).flatten (fun b => m (c, b)) b

theorem segs_sub : (segs (F := F)).Forall fun ops => ops.Forall fun op => op.bufs ⊆ StableHlo.tcRefs τ sig := by
  simp only [segs, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩

theorem segs_fresh : (segs (F := F)).Forall fun ops => ops.Forall fun op => op.fresh = ∅ := by
  simp only [segs, hostOps0, hostOps0_1, hostOps0_2, hostOps0_3, hostOps0_4, hostOps0_5, hostOps0_6, hostOps0_7, hostOps0_8, hostOps0_9, hostOps0_10, hostOps0_11, hostOps0_12, hostOps0_13, List.Forall]
  repeat' constructor

/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main segs segs_sub segs_fresh main_chain

/-- An argument array is found as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [segs, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals
      refine StableHlo.devRef_ne_of_ne ?_
      rcases hb with rfl | rfl | rfl | rfl <;> decide))

/-- A window's block at a point, off what the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first query block of a pair of heads, in the order of the grid. -/
theorem first_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The keys' window stays where it is from one query block to the next. -/
theorem stay1 : ∀ t : Fin cfg0.N, t.val % 32 ≠ 0 → (cfg0.win 1).fetch t = false := fun t h => by
  rw [← Bool.not_eq_true, fetch0_1 t]; exact h

/-- The normalised keys of the pair of heads at a point. -/
def keysAt (c : Dev nD) (t : Fin cfg0.N) : Vec F S4608x128 .bf16 := keys (iblk m c 4 t) (iblk m c 1 t) (iblk m c 5 t)

/-- What the body stores at a point. -/
def storedAt (c : Dev nD) (t : Fin cfg0.N) : Vec F S1x128x128 .bf16 :=
  stored (grid0.coords t) (iblk m c 0 t) (iblk m c 2 t) (iblk m c 3 t) (iblk m c 4 t) (iblk m c 5 t) (keysAt m c t)

/-- The scratch. -/
abbrev scr : Memref sig .tc .vmem S4608x128 .bf16 := Memref.whole cc0_scratch0

/-- The scoped buffers and the generator, the scratch named. -/
theorem scoped_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; rfl

/-- The invariant before the `n`-th point: the scratch at anything, then at the normalised keys of the point before. -/
def inv (c : Dev nD) : (n : ℕ) → n ≤ cfg0.N → sProp 𝕄
  | 0, _ => Pipeline.ΦA spec0 c
  | n + 1, hn => iprop(owns (c : Thread nD τ) scr fullShare (keysAt m c ⟨n, hn⟩) ∗ (∃ r, prngReg c r))

/-- In either case the scratch holds something. -/
theorem inv_some (c : Dev nD) (n : ℕ) (hn : n ≤ cfg0.N) : inv m c n hn ⊢ Pipeline.ΦA spec0 c := by
  cases n with
  | zero => exact Idealize.SL.BI.Entails.refl _
  | succ n =>
    rw [scoped_eq]
    unfold inv
    iintro ⟨H, Hg⟩
    isplitl [H]
    · iexists _; iexact H
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => storedAt m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

/-- The body leaves an input's block where it is. -/
theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t := by
  dsimp only [dats]; exact ⟨rfl, rfl, rfl, rfl, rfl, rfl⟩

theorem after_out (c : Dev nD) (t : Fin cfg0.N) : (dats m 0 c).after 6 t = storedAt m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [(after_in m c t).1]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl) (fun t => by rw [(after_in m c t).2.1]; unfold Dat.blockOf iblk; rw [A_eq]; try rfl) t d).trans
    (by unfold Dat.fetched Dat.blockOf iblk; rw [A_eq]; try rfl)

theorem before2 (c : Dev nD) (t : Fin cfg0.N) (d) : (dats m 0 c).before 2 t d = iblk m c 2 t :=
  ((dats m 0 c).before_in_eq_fetched 2 rfl (fun _ => rfl) (fun _ _ _ => rfl) (fun t => by rw [(after_in m c t).2.2.1]; unfold Dat.blockOf iblk; rw [A_eq]; try rfl) t d).trans
    (by unfold Dat.fetched Dat.blockOf iblk; rw [A_eq]; try rfl)

theorem before3 (c : Dev nD) (t : Fin cfg0.N) (d) : (dats m 0 c).before 3 t d = iblk m c 3 t :=
  ((dats m 0 c).before_in_eq_fetched 3 rfl (fun _ => rfl) (fun _ _ _ => rfl) (fun t => by rw [(after_in m c t).2.2.2.1]; unfold Dat.blockOf iblk; rw [A_eq]; try rfl) t d).trans
    (by unfold Dat.fetched Dat.blockOf iblk; rw [A_eq]; try rfl)

theorem before4 (c : Dev nD) (t : Fin cfg0.N) (d) : (dats m 0 c).before 4 t d = iblk m c 4 t :=
  ((dats m 0 c).before_in_eq_fetched 4 rfl (fun _ => rfl) (fun _ _ _ => rfl) (fun t => by rw [(after_in m c t).2.2.2.2.1]; unfold Dat.blockOf iblk; rw [A_eq]; try rfl) t d).trans
    (by unfold Dat.fetched Dat.blockOf iblk; rw [A_eq]; try rfl)

theorem before5 (c : Dev nD) (t : Fin cfg0.N) (d) : (dats m 0 c).before 5 t d = iblk m c 5 t :=
  ((dats m 0 c).before_in_eq_fetched 5 rfl (fun _ => rfl) (fun _ _ _ => rfl) (fun t => by rw [(after_in m c t).2.2.2.2.2]; unfold Dat.blockOf iblk; rw [A_eq]; try rfl) t d).trans
    (by unfold Dat.fetched Dat.blockOf iblk; rw [A_eq]; try rfl)

/-- A window that fetches nothing at a point has the block it had at the point before. -/
theorem iblk_stay (c : Dev nD) (n : ℕ) (hn : n + 1 < cfg0.N) (h : (n + 1) % 32 ≠ 0) :
    iblk m c 1 ⟨n + 1, hn⟩ = iblk m c 1 ⟨n, Nat.lt_of_succ_lt hn⟩ ∧ iblk m c 4 ⟨n + 1, hn⟩ = iblk m c 4 ⟨n, Nat.lt_of_succ_lt hn⟩
      ∧ iblk m c 5 ⟨n + 1, hn⟩ = iblk m c 5 ⟨n, Nat.lt_of_succ_lt hn⟩ := by
  have f1 : (cfg0.win 1).fetch ⟨n + 1, hn⟩ = false := by
    rw [← Bool.not_eq_true, fetch0_1]; exact h
  have f4 : (cfg0.win 4).fetch ⟨n + 1, hn⟩ = false := by
    rw [← Bool.not_eq_true, fetch0_4]; intro h'; have h'' : (n + 1) % 2048 = 0 := h'; omega
  have f5 : (cfg0.win 5).fetch ⟨n + 1, hn⟩ = false := by
    rw [← Bool.not_eq_true, fetch0_5]; intro h'; have h'' : (n + 1) % 2048 = 0 := h'; omega
  have e1 := (dats m 0 c).fetched_congr 1 ((cfg0.win 1).index_eq_of_fetch rfl _ f1).2 rfl (iblk m c 1 ⟨n, Nat.lt_of_succ_lt hn⟩)
  have e4 := (dats m 0 c).fetched_congr 4 ((cfg0.win 4).index_eq_of_fetch rfl _ f4).2 rfl (iblk m c 4 ⟨n, Nat.lt_of_succ_lt hn⟩)
  have e5 := (dats m 0 c).fetched_congr 5 ((cfg0.win 5).index_eq_of_fetch rfl _ f5).2 rfl (iblk m c 5 ⟨n, Nat.lt_of_succ_lt hn⟩)
  unfold Dat.fetched Dat.blockOf at e1 e4 e5
  rw [A_eq] at e1 e4 e5
  exact ⟨e1, e4, e5⟩

/-- From one query block of a pair to the next the normalised keys stay. -/
theorem keysAt_succ (c : Dev nD) (n : ℕ) (hn : n + 1 < cfg0.N) (h : (n + 1) % 32 ≠ 0) :
    keysAt m c ⟨n + 1, hn⟩ = keysAt m c ⟨n, Nat.lt_of_succ_lt hn⟩ := by
  obtain ⟨e1, e4, e5⟩ := iblk_stay m c n hn h
  unfold keysAt
  rw [e1, e4, e5]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t))

/-- A window's staging memref at a point. -/
theorem pre_eq (c : Dev nD) (t : Fin cfg0.N) : (dats m 0 c).Φ t.castSucc = inv m c t.val (Nat.le_of_lt t.isLt) := by
  dsimp only [dats]; exact Pipeline.Dat.Φ_castSucc (inv m c) t

/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨a0, a1, a2, a3, a4, a5⟩ := after_in m c t
  unfold bodyPre bodyPost bodyAt0
  simp only [before0, before1, before2, before3, before4, before5]
  rw [show (dats m 0 c).owesAt () t.succ = (dats m 0 c).owesAt () t.castSucc from rfl, a0, a1, a2, a3, a4, a5, after_out, pre_eq,
    show (dats m 0 c).Φ t.succ = iprop(owns (c : Thread nD τ) scr fullShare (keysAt m c t) ∗ (∃ r, prngReg c r)) from rfl]
  by_cases h : t.val % 32 = 0
  · refine BIBase.Entails.trans (sep_mono_left (inv_some m c t.val (Nat.le_of_lt t.isLt))) ?_
    rw [scoped_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((first_iff t).mpr h) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := t
    cases n with
    | zero => exact absurd (Nat.zero_mod _) h
    | succ n =>
      rw [show inv m c (n + 1) (Nat.le_of_lt hn) = iprop(owns (c : Thread nD τ) scr fullShare (keysAt m c ⟨n, Nat.lt_of_succ_lt hn⟩) ∗ (∃ r, prngReg c r)) from rfl,
        ← keysAt_succ m c n hn h]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (run_next c (grid0.coords ⟨n + 1, hn⟩) _ _ _ _ _ _ _ _ _ _ _ _ _ _ _ _ (fun h' => h ((first_iff ⟨n + 1, hn⟩).mp h')) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (keysAt m c ⟨n + 1, hn⟩) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body's row of the table at a point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem inv_out (c : Dev nD) : (dats m 0 c).Φ (Fin.last cfg0.N) ⊢ Pipeline.ΦA spec0 c :=
  inv_some m c _ le_rfl

set_option backward.isDefEq.respectTransparency.types false in
/-- The run: every array at what the proof data compute, every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := fun _ => Idealize.SL.BI.Entails.refl _) (hout := inv_out m)

end Cert.Band

end
-- ==== Proof.BandFrame.lean ====
/-
  The banded attention's run re-posted: the result array named, the arguments unchanged, every counter at zero.
-/
module

public import proofs.«01_k».proof.Proof.BandRun
public import Idealize.ShloMosaic.Lib.Pipeline.Value

@[expose] public section

set_option maxRecDepth 16384

noncomputable section

namespace Cert.Band

open Idealize.ShloMosaic Idealize.ShloMosaic.TcCoe
open Idealize.SL.Sem
open Idealize.ShloMosaic.Pipeline (Dat)
open Cert.Kernel6Ideal Cert.Kernel6Ideal.Gen

variable {F : FTy → Type} [FloatOps F] [Named F]
variable (m : (ℓ : Loc nD τ sig) → Buf (Elt F) ℓ) (ρ : Dev nD → PrngReg)

/-- After the run the result is what the proof data compute and the arguments are as launched. -/
theorem run : θ_run defs (onTc (τ := τ) (main (F := F))) ⟨m, fun _ => 0, ρ⟩ (fun r => (∀ c : Dev nD,
      r.2.mem ((c.tc : Thread nD τ).loc main_v51) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 6,
      ((h.1 c).1 2).trans (((dats m 0 c).arrAt_in 2 rfl _).trans ((A_eq m c 2).trans (V_arg m c main_arg0 (.inl rfl)))),
      ((h.1 c).2 main_arg1 (Pipeline.mem_restRefs_of main_arg1 (by decide) (by decide))).trans (V_arg m c main_arg1 (.inr (.inl rfl))),
      ((h.1 c).2 main_arg2 (Pipeline.mem_restRefs_of main_arg2 (by decide) (by decide))).trans (V_arg m c main_arg2 (.inr (.inr (.inl rfl)))),
      ((h.1 c).2 main_arg3 (Pipeline.mem_restRefs_of main_arg3 (by decide) (by decide))).trans (V_arg m c main_arg3 (.inr (.inr (.inr rfl))))⟩, h.2⟩)
    (run_quiet m ρ)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run m ρ)

end Cert.Band

end
-- ==== Proof.BandMath.lean ====
/-
  Averages weighted by exponentials, over a row and over the window of the row outside which the scores are −∞; the
  greatest of a row; columns of a table taken at indices.
-/
module

public import Idealize.ShloMosaic.Lib.Pointwise
public import Idealize.ShloMosaic.Lib.ValueIdx

@[expose] public section

set_option maxRecDepth 16384

noncomputable section

open Idealize.ShloMosaic

namespace Cert.Band

/-! ## Averages -/

/-- The greatest of a row. -/
def top {n : ℕ} (z : Fin n → EReal) : EReal := Finset.univ.fold max ⊥ z

/-- The average of `v` weighted by the exponentials of `z`. -/
def avg {n : ℕ} (z v : Fin n → EReal) : EReal :=
  (∑ j, Ideal.exp (z j - top z) * v j) * Ideal.div 1 (∑ j, Ideal.exp (z j - top z))

theorem top_le {n : ℕ} (z : Fin n → EReal) (c : EReal) : top z ≤ c ↔ ∀ j, z j ≤ c := by
  unfold top
  rw [Finset.fold_max_le]
  exact ⟨fun h j => h.2 j (Finset.mem_univ j), fun h => ⟨bot_le, fun j _ => h j⟩⟩

theorem le_top' {n : ℕ} (z : Fin n → EReal) (j : Fin n) : z j ≤ top z := (top_le z _).mp le_rfl j

/-- An average of zeros. -/
theorem avg_zero {n : ℕ} (z : Fin n → EReal) : avg z (fun _ => 0) = 0 := by
  unfold avg
  rw [Finset.sum_eq_zero (fun j _ => mul_zero _), zero_mul]

theorem exp_bot (M : EReal) : Ideal.exp (⊥ - M) = 0 := by
  rw [sub_eq_add_neg, EReal.bot_add]
  rfl

section

variable {n k : ℕ} (o p : ℕ) (z v : Fin n → EReal) (w u : Fin k → EReal)

/-- A sum over a row is the sum over its window. -/
theorem sum_window (F : Fin n → EReal) (G : Fin k → EReal) (hn : o + k ≤ n + p)
    (hin : ∀ (s : Fin n) (j : Fin k), s.val + p = o + j.val → F s = G j)
    (hout : ∀ s : Fin n, s.val + p < o ∨ o + k ≤ s.val + p → F s = 0)
    (hneg : ∀ j : Fin k, o + j.val < p → G j = 0) : ∑ s, F s = ∑ j, G j := by
  have hf : ∑ s, F s = ∑ s ∈ Finset.univ.filter (fun s : Fin n => o ≤ s.val + p ∧ s.val + p < o + k), F s :=
    (Finset.sum_filter_of_ne fun s _ hs => by
      by_contra hc
      exact hs (hout s (by omega))).symm
  rw [hf]
  have hk : ∀ s : Fin n, (o ≤ s.val + p ∧ s.val + p < o + k) → s.val + p - o < k := fun s hs => by omega
  refine Finset.sum_bij (fun s hs => (⟨s.val + p - o, hk s (Finset.mem_filter.mp hs).2⟩ : Fin k)) ?_ ?_ ?_ ?_ |>.trans
    (Finset.sum_filter_of_ne (p := fun j : Fin k => p ≤ o + j.val) fun j _ hj => by
      by_contra hc
      exact hj (hneg j (by omega)))
  · intro s hs
    have h := (Finset.mem_filter.mp hs).2
    refine Finset.mem_filter.mpr ⟨Finset.mem_univ _, ?_⟩
    show p ≤ o + (s.val + p - o)
    omega
  · intro s hs s' hs' e
    have h := (Finset.mem_filter.mp hs).2
    have h' := (Finset.mem_filter.mp hs').2
    have e' : s.val + p - o = s'.val + p - o := congrArg Fin.val e
    exact Fin.ext (by omega)
  · intro j hj
    have h := (Finset.mem_filter.mp hj).2
    have hjk := j.isLt
    refine ⟨⟨o + j.val - p, by omega⟩, Finset.mem_filter.mpr ⟨Finset.mem_univ _, ?_⟩, Fin.ext ?_⟩
    · show o ≤ o + j.val - p + p ∧ o + j.val - p + p < o + k
      omega
    · show o + j.val - p + p - o = j.val
      omega
  · intro s hs
    have h := (Finset.mem_filter.mp hs).2
    refine hin s _ ?_
    show s.val + p = o + (s.val + p - o)
    omega

/-- An average over a row is the average over its window, when outside of it the scores are −∞. -/
theorem avg_window (hn : o + k ≤ n + p)
    (hz : ∀ (s : Fin n) (j : Fin k), s.val + p = o + j.val → z s = w j)
    (hv : ∀ (s : Fin n) (j : Fin k), s.val + p = o + j.val → v s = u j)
    (hout : ∀ s : Fin n, s.val + p < o ∨ o + k ≤ s.val + p → z s = ⊥)
    (hneg : ∀ j : Fin k, o + j.val < p → w j = ⊥) : avg z v = avg w u := by
  have ht : top z = top w := by
    refine le_antisymm ((top_le _ _).mpr fun s => ?_) ((top_le _ _).mpr fun j => ?_)
    · by_cases h : o ≤ s.val + p ∧ s.val + p < o + k
      · rw [hz s ⟨s.val + p - o, by omega⟩ (by show s.val + p = o + (s.val + p - o); omega)]
        exact le_top' _ _
      · rw [hout s (by omega)]
        exact bot_le
    · have hj := j.isLt
      by_cases h : p ≤ o + j.val
      · rw [← hz ⟨o + j.val - p, by omega⟩ j (by show o + j.val - p + p = o + j.val; omega)]
        exact le_top' _ _
      · rw [hneg j (by omega)]
        exact bot_le
  unfold avg
  rw [ht, sum_window o p (fun s => Ideal.exp (z s - top w)) (fun j => Ideal.exp (w j - top w)) hn
      (fun s j h => by rw [hz s j h]) (fun s h => by rw [hout s h, exp_bot]) (fun j h => by rw [hneg j h, exp_bot]),
    sum_window o p (fun s => Ideal.exp (z s - top w) * v s) (fun j => Ideal.exp (w j - top w) * u j) hn
      (fun s j h => by rw [hz s j h, hv s j h]) (fun s h => by rw [hout s h, exp_bot, zero_mul])
      (fun j h => by rw [hneg j h, exp_bot, zero_mul])]

end

/-- A factor that is not negative and not infinite moves out of a sum. -/
theorem sum_scale {ι : Type} (s : Finset ι) (c : EReal) (h0 : 0 ≤ c) (ht : c ≠ ⊤) (f : ι → EReal) :
    ∑ i ∈ s, c * f i = c * ∑ i ∈ s, f i := by
  classical
  induction s using Finset.induction_on with
  | empty => rw [Finset.sum_empty, Finset.sum_empty, mul_zero]
  | insert a s ha ih => rw [Finset.sum_insert ha, Finset.sum_insert ha, EReal.left_distrib_of_nonneg_of_ne_top h0 ht, ih]

/-! ## The greatest of a row -/

theorem ofBits_neg_inf : Ideal.ofBits FTy.f32 0xFF800000#32 = ⊥ := by
  simp [Ideal.ofBits, Ideal.ieee]

/-- The greatest of each row of a matrix. -/
theorem top_rows {R C : ℕ} (x : FVec Ideal ⟨2, ![R, C]⟩ .f32) (h : Shape.Reduces ⟨2, ![R, C]⟩ [1] ⟨1, ![R]⟩) (hφ : FKind.Formats FTy.f32)
    (hacc : 0xFF800000#32 = FKind.maximumf.neutral FTy.f32 hφ) (r : Fin R) :
    multiReduction .maximumf [1] ⟨1, ![R]⟩ x 0xFF800000#32 h hφ hacc (ix1 r) = top (fun j => x (ix2 r j)) := by
  classical
  have : Std.Commutative (FloatOps.maximumf (F := Ideal) (φ := .f32)) := ⟨fun a b => max_comm (a : EReal) b⟩
  have : Std.Associative (FloatOps.maximumf (F := Ideal) (φ := .f32)) := ⟨fun a b c => max_assoc (a : EReal) b c⟩
  rw [multiReduction_maximumf_eq_fold, h.fold_filter_drop_single]
  show Finset.univ.fold max (Ideal.ofBits FTy.f32 0xFF800000#32) _ = _
  rw [ofBits_neg_inf]
  refine congrArg (Finset.univ.fold max ⊥) (funext fun j => congrArg x (funext fun a => Fin.ext ?_))
  rw [h.lift_val]
  match a with
  | ⟨0, _⟩ => rfl
  | ⟨1, _⟩ => rfl

/-- The same along the last of four axes, on the host. -/
theorem top_last {A B R C : ℕ} {u : Shape} (x : FVec Ideal ⟨4, ![A, B, R, C]⟩ .f32) (init : FVec Ideal u .f32)
    (h' : Shape.ReducesTo ⟨4, ![A, B, R, C]⟩ [3] ⟨3, ![A, B, R]⟩) (h : Shape.Reduces ⟨4, ![A, B, R, C]⟩ [3] ⟨3, ![A, B, R]⟩) (hu : 0 < u.numel)
    (hi : init (Shape.Idx.first hu) = (⊥ : EReal)) (a : Fin A) (b : Fin B) (r : Fin R) :
    Host.reduce FloatOps.maximumf x init h' hu (ix3 a b r) = top (fun j => x (ix4 a b r j)) := by
  classical
  have : Std.Commutative (FloatOps.maximumf (F := Ideal) (φ := .f32)) := ⟨fun a b => max_comm (a : EReal) b⟩
  have : Std.Associative (FloatOps.maximumf (F := Ideal) (φ := .f32)) := ⟨fun a b c => max_assoc (a : EReal) b c⟩
  rw [Host.reduce_eq_fold_single _ _ _ h' h, hi]
  refine congrArg (Finset.univ.fold max (⊥ : EReal)) (funext fun j => congrArg x (funext fun a => Fin.ext ?_))
  rw [h.lift_val]
  match a with
  | ⟨0, _⟩ => rfl
  | ⟨1, _⟩ => rfl
  | ⟨2, _⟩ => rfl
  | ⟨3, _⟩ => rfl

/-! ## Columns of a table -/

/-- Columns of a table with `N` columns taken at a matrix of indices, each column whole. -/
abbrev takeCols (H N R C : ℕ)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- An element taken: its row is the first coordinate, its column the index there, cut to the table. -/
theorem takeCols_at {α : Type} {H N R C : ℕ} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ 32) (h : Fin H) (r : Fin R) (j : Fin C) :
    Host.gather (takeCols H N R C wf) x idx (ix3 h r j)
      = x (ix2 h ⟨min (idx (ix3 r j 0)).toInt.toNat (N - 1), by omega⟩) := by
  unfold Host.gather
  congr 1
  funext a
  refine Fin.ext ?_
  show (takeCols H N R C wf).start (ix3 h r j) idx a + (takeCols H N R C wf).batchCoord (ix3 h r j) a
      + (takeCols H N R C wf).offCoord (ix3 h r j) a = _
  rw [GatherDims.batchCoord_eq_zero _ _ _ (fun h => by simp at h)]
  match a with
  | ⟨0, _⟩ =>
    unfold GatherDims.start
    rw [dif_neg (show ¬(⟨0, by decide⟩ : Fin 2) ∈ (takeCols H N R C wf).startIndexMap from fun h => by simp at h)]
    unfold GatherDims.offCoord
    rw [dif_pos ((GatherDims.mem_sKept _ _).mpr ⟨fun h => by simp at h, fun h => by simp at h⟩)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (takeCols H N R C wf).startIndexMap from List.mem_singleton.mpr rfl)]
    have hsi : (takeCols H N R C wf).siIdx (ix3 h r j) ⟨List.idxOf (⟨1, by decide⟩ : Fin 2) (takeCols H N R C wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl

end Cert.Band

end
-- ==== Proof.BandTile.lean ====
/-
  A block of the banded attention, entry by entry.
-/
module

public import proofs.«01_k».proof.Proof.BandKeys
public import proofs.«01_k».proof.Proof.BandMath
public import proofs.«01_k».proof.Proof.RopeMath

@[expose] public section

set_option maxRecDepth 16384

noncomputable section

open Idealize.ShloMosaic
open Cert.Kernel6Ideal Cert.Kernel6Ideal.Gen

namespace Cert.Band

/-! ## The rows normalised -/

/-- Queries normalised, two heads at once, and scaled. -/
theorem query_at (v0 : Vec Ideal S128x128 .bf16) (x : Vec Ideal S1x128x128 .bf16) (g : Vec Ideal S1x128 .f32) (r l : Fin 128) :
    k0_pay6 v0 x g (ix2 r l)
      = Cert.Rope.norm2 (fun a b => v0 (ix2 a b)) (fun a => g (ix2 0 a)) (fun a => x (ix3 0 r a)) l * Ideal.ofBits FTy.f32 0x3E000000#32 := by
  unfold Cert.Rope.norm2
  pointwise [k0_pay6, k0_pay2]

/-- Keys normalised, two heads at once. -/
theorem key_at (v0 : Vec Ideal S128x128 .bf16) (x : Vec Ideal S1x512x128 .bf16) (g : Vec Ideal S1x128 .f32) (r : Fin 512) (l : Fin 128) :
    k0_pay3 v0 x g (ix2 r l)
      = Cert.Rope.norm2 (fun a b => v0 (ix2 a b)) (fun a => g (ix2 0 a)) (fun a => x (ix3 0 r a)) l := by
  unfold Cert.Rope.norm2
  pointwise [k0_pay3, k0_pay2]

/-! ## The lanes of each head -/

theorem first_at (l : Fin 128) : (k0_pay4 (F := Ideal)) (ix2 0 l) = if l.val / 64 = 0 then (1 : EReal) else 0 := by
  pointwise [k0_pay4]
  have e : BitVec.setWidth 32 (IntOp.cmpi CmpIPredicate.slt (BitVec.ofNat 32 l.val) 64#32) = if l.val / 64 = 0 then 1#32 else 0#32 := by
    revert l
    decide +kernel
  rw [e]
  by_cases h : l.val / 64 = 0
  · rw [if_pos h, if_pos h]
    show (((1 : ℤ) : ℝ) : EReal) = 1
    norm_num
  · rw [if_neg h, if_neg h]
    show (((0 : ℤ) : ℝ) : EReal) = 0
    norm_num

theorem second_at (l : Fin 128) : (k0_pay5 (F := Ideal)) (ix2 0 l) = if l.val / 64 = 1 then (1 : EReal) else 0 := by
  have h := first_at l
  unfold k0_pay5
  generalize k0_pay4 (F := Ideal) = Y at h ⊢
  pointwise
  rw [h]
  have hl := l.isLt
  by_cases h0 : l.val / 64 = 0
  · rw [if_pos h0, if_neg (by omega)]
    show ((1 : ℝ) : EReal) - ((1 : ℝ) : EReal) = 0
    rw [← EReal.coe_sub, sub_self]
    rfl
  · rw [if_neg h0, if_pos (by omega), sub_zero]

/-! ## The weighted averages -/

/-- Rows of averages of `v`, its lanes scaled by `u`, weighted by the exponentials of the rows of `x`. -/
def soft (x : FVec Ideal S128x640 .f32) (u : FVec Ideal S1x128 .f32) (v : FVec Ideal S640x128 .bf16) : FVec Ideal S128x128 .f32 :=
  mulf (matmul dot_S128x640_S640x128_S128x128_1_0_0_1_n_n none
      (truncf .bf16 (exp (subf x (broadcastTo S128x640 (shapeCast S128x1 (multiReduction .maximumf [1] S128 x 0xFF800000#32 reduces_S128x640_S128 (.inl rfl) rfl)
        shapeCasts_S128_S128x1) broadcasts_S128x1_S128x640))) bitsLt_bf16_f32)
      (mulf v (broadcastTo S640x128 (truncf .bf16 u bitsLt_bf16_f32) broadcasts_S1x128_S640x128)) (constant S128x128 .f32 0x00000000#32))
    (broadcastTo S128x128 (divf (broadcast S128x1 (Scalar.ofBits .f32 0x3F800000#32))
      (shapeCast S128x1 (multiReduction .add [1] S128 (exp (subf x (broadcastTo S128x640 (shapeCast S128x1 (multiReduction .maximumf [1] S128 x 0xFF800000#32 reduces_S128x640_S128 (.inl rfl) rfl)
        shapeCasts_S128_S128x1) broadcasts_S128x1_S128x640))) 0x00000000#32 reduces_S128x640_S128 (.inl rfl) rfl) shapeCasts_S128_S128x1)) broadcasts_S128x1_S128x128)

theorem soft_at (x : FVec Ideal S128x640 .f32) (u : FVec Ideal S1x128 .f32) (v : FVec Ideal S640x128 .bf16) (r l : Fin 128) :
    soft x u v (ix2 r l) = avg (fun j => x (ix2 r j)) (fun j => v (ix2 j l) * u (ix2 0 l)) := by
  have hM := top_rows x reduces_S128x640_S128 (.inl rfl) rfl r
  unfold soft avg
  rw [← hM]
  generalize multiReduction .maximumf [1] S128 x 0xFF800000#32 reduces_S128x640_S128 (.inl rfl) rfl = M
  pointwise

/-- The scores of a head: its lanes' products, and the table's entries; −∞ before the first key. -/
def scores (i2 : BitVec 32) (q : FVec Ideal S128x128 .f32) (u : FVec Ideal S1x128 .f32) (k : Vec Ideal S640x128 .bf16)
    (b : Vec Ideal S1x128x640 .f32) : FVec Ideal S128x640 .f32 :=
  select (broadcastTo S128x640 (shapeCast S1x640 (k0_pay8 i2) shapeCasts_S1x640_S1x640) broadcasts_S1x640_S128x640)
    (k0_pay10 u q k b) (broadcast S128x640 (Named.named κ "mask" 0xF149F2CA#32))

theorem pay9_eq (i2 : BitVec 32) (u : FVec Ideal S1x128 .f32) (q : FVec Ideal S128x128 .f32) (k : Vec Ideal S640x128 .bf16)
    (v : FVec Ideal S640x128 .bf16) (b : Vec Ideal S1x128x640 .f32) :
    k0_pay9 i2 u q k v b = addf (broadcast S128x128 (Scalar.ofBits .f32 0x00000000#32)) (soft (scores i2 q u k b) u v) := rfl

theorem pay1_eq (i2 : BitVec 32) (u : FVec Ideal S1x128 .f32) (q : FVec Ideal S128x128 .f32) (k : Vec Ideal S640x128 .bf16)
    (v : FVec Ideal S640x128 .bf16) (b : Vec Ideal S1x128x640 .f32) (a : FVec Ideal S128x128 .f32) :
    k0_pay1 u v (k0_pay8 i2) a (k0_pay10 u q k b)
      = shapeCast S1x128x128 (truncf .bf16 (addf a (soft (scores i2 q u k b) u v)) bitsLt_bf16_f32) shapeCasts_S128x128_S1x128x128 := rfl

theorem scores_at (i2 : BitVec 32) (q : FVec Ideal S128x128 .f32) (u : FVec Ideal S1x128 .f32) (k : Vec Ideal S640x128 .bf16)
    (b : Vec Ideal S1x128x640 .f32) (r : Fin 128) (j : Fin 640) :
    scores i2 q u k b (ix2 r j)
      = if (k0_pay8 i2) (ix2 0 j) = 1#1 then (∑ l : Fin 128, (q (ix2 r l) * u (ix2 0 l)) * k (ix2 j l)) + b (ix3 0 r j) else (⊥ : EReal) := by
  unfold scores
  generalize k0_pay8 i2 = Y
  have hm : (Named.named κ "mask" 0xF149F2CA#32 : Ideal .f32) = (⊥ : EReal) := rfl
  rw [hm]
  pointwise [k0_pay10]
  rfl

theorem valid_at (i2 : Fin 32) (j : Fin 640) : (k0_pay8 (BitVec.ofNat 32 i2.val)) (ix2 0 j) = if 512 ≤ 128 * i2.val + j.val then 1#1 else 0#1 := by
  pointwise [k0_pay8]
  revert i2 j
  decide +kernel

/-! ## What is loaded -/

section

variable (i : grid0.Coords) (x0 : Vec Ideal S1x128x128 .bf16) (x2 : Vec Ideal S1x4608x128 .bf16) (x3 : Vec Ideal S2x128x640 .f32)
  (v0 : Vec Ideal S128x128 .bf16) (g : Vec Ideal S2x128 .f32) (kn : Vec Ideal S4608x128 .bf16)

theorem row_lt (j : Fin 640) : 128 * (i 2).val + j.val < 4608 := by
  have h : (i 2).val < 32 := (i 2).isLt
  omega

/-- A row of the keys a query block reads. -/
theorem ld_keys (j : Fin 640) (l : Fin 128) :
    View.ld kn (Rect.unit (s := S4608x128) (k0_off3 i) S640x128.size (k0_off3_inb i)) (ix2 j l) = kn (ix2 ⟨128 * (i 2).val + j.val, row_lt i j⟩ l) := by
  refine congrArg kn (funext fun a => Fin.ext ?_)
  have e := off3_eq i
  match a with
  | ⟨0, _⟩ =>
    show k0_off3 i 0 + 1 * j.val = 128 * (i 2).val + j.val
    rw [e]
    show 128 * (i 2).val + 1 * j.val = 128 * (i 2).val + j.val
    omega
  | ⟨1, _⟩ =>
    show k0_off3 i 1 + 1 * l.val = l.val
    rw [e]
    show 0 + 1 * l.val = l.val
    omega

/-- A row of the values a query block reads. -/
theorem ld_values (j : Fin 640) (l : Fin 128) :
    k0_pay7 (View.ld x2 (Rect.unit (s := S1x4608x128) (k0_off4 i) S1x640x128.size (k0_off4_inb i))) (ix2 j l)
      = x2 (ix3 0 ⟨128 * (i 2).val + j.val, row_lt i j⟩ l) := by
  have h : ∀ Y : Vec Ideal S1x640x128 .bf16, k0_pay7 Y (ix2 j l) = Y (ix3 0 j l) := fun Y => by pointwise [k0_pay7]
  rw [h]
  refine congrArg x2 (funext fun a => Fin.ext ?_)
  have e := off4_eq i
  match a with
  | ⟨0, _⟩ =>
    show k0_off4 i 0 + 1 * 0 = 0
    rw [e]
    rfl
  | ⟨1, _⟩ =>
    show k0_off4 i 1 + 1 * j.val = 128 * (i 2).val + j.val
    rw [e]
    show 128 * (i 2).val + 1 * j.val = 128 * (i 2).val + j.val
    omega
  | ⟨2, _⟩ =>
    show k0_off4 i 2 + 1 * l.val = l.val
    rw [e]
    show 0 + 1 * l.val = l.val
    omega

theorem ld_bias0 (r : Fin 128) (j : Fin 640) :
    View.ld x3 (Rect.unit (s := S2x128x640) ![0, 0, 0] S1x128x640.size inb_S2x128x640_S1x128x640_0_0_0) (ix3 0 r j) = x3 (ix3 0 r j) := by
  refine congrArg x3 (funext fun a => Fin.ext ?_)
  match a with
  | ⟨0, _⟩ => rfl
  | ⟨1, _⟩ => show 0 + 1 * r.val = r.val; omega
  | ⟨2, _⟩ => show 0 + 1 * j.val = j.val; omega

theorem ld_bias1 (r : Fin 128) (j : Fin 640) :
    View.ld x3 (Rect.unit (s := S2x128x640) ![1, 0, 0] S1x128x640.size inb_S2x128x640_S1x128x640_1_0_0) (ix3 0 r j) = x3 (ix3 1 r j) := by
  refine congrArg x3 (funext fun a => Fin.ext ?_)
  match a with
  | ⟨0, _⟩ => rfl
  | ⟨1, _⟩ => show 0 + 1 * r.val = r.val; omega
  | ⟨2, _⟩ => show 0 + 1 * j.val = j.val; omega

theorem ld_query (r l : Fin 128) :
    View.ld x0 (Rect.unit (s := S1x128x128) ![0, 0, 0] S1x128x128.size inb_S1x128x128_S1x128x128_0_0_0) (ix3 0 r l) = x0 (ix3 0 r l) := by
  refine congrArg x0 (funext fun a => Fin.ext ?_)
  match a with
  | ⟨0, _⟩ => rfl
  | ⟨1, _⟩ => show 0 + 1 * r.val = r.val; omega
  | ⟨2, _⟩ => show 0 + 1 * l.val = l.val; omega

theorem ld_gain (l : Fin 128) :
    View.ld g (Rect.unit (s := S2x128) ![0, 0] S1x128.size inb_S2x128_S1x128_0_0) (ix2 0 l) = g (ix2 0 l) := by
  refine congrArg g (funext fun a => Fin.ext ?_)
  match a with
  | ⟨0, _⟩ => rfl
  | ⟨1, _⟩ => show 0 + 1 * l.val = l.val; omega

/-! ## The scores of one head -/

/-- A score of one of the pair's heads. -/
def headScore (q : FVec Ideal S128x128 .f32) (e : Fin 2) (r : Fin 128) (j : Fin 640) : EReal :=
  if 512 ≤ 128 * (i 2).val + j.val then
    (∑ d : Fin 64, q (ix2 r ⟨64 * e.val + d.val, by omega⟩) * kn (ix2 ⟨128 * (i 2).val + j.val, row_lt i j⟩ ⟨64 * e.val + d.val, by omega⟩))
      + x3 (ix3 e r j)
  else ⊥

theorem scores_head (q : FVec Ideal S128x128 .f32) (u : FVec Ideal S1x128 .f32) (b : Vec Ideal S1x128x640 .f32) (e : Fin 2)
    (hu : ∀ l : Fin 128, u (ix2 0 l) = if l.val / 64 = e.val then (1 : EReal) else 0)
    (hb : ∀ (r : Fin 128) (j : Fin 640), b (ix3 0 r j) = x3 (ix3 e r j)) (r : Fin 128) (j : Fin 640) :
    scores (BitVec.ofNat 32 (i 2).val) q u (View.ld kn (Rect.unit (s := S4608x128) (k0_off3 i) S640x128.size (k0_off3_inb i))) b (ix2 r j)
      = headScore i x3 kn q e r j := by
  rw [scores_at, valid_at (i 2) j, hb]
  unfold headScore
  by_cases h : 512 ≤ 128 * (i 2).val + j.val
  · rw [if_pos h, if_pos h, if_pos rfl]
    refine congrArg (· + _) ?_
    have he := e.isLt
    have hs := Cert.Rope.sum_half (fun l : Fin 128 => (q (ix2 r l) : EReal) * kn (ix2 ⟨128 * (i 2).val + j.val, row_lt i j⟩ l)) ⟨64 * e.val, by omega⟩
    have h64 : 64 * e.val / 64 = e.val := by omega
    simp only [h64] at hs
    rw [← hs]
    refine Finset.sum_congr rfl fun l _ => ?_
    rw [hu, ld_keys]
    exact mul_right_comm (G := EReal) _ _ _
  · rw [if_neg h, if_neg h, if_neg (by decide)]

/-- An entry of what is stored: the average of the values weighted by the exponentials of its head's scores. -/
theorem stored_at (r l : Fin 128) :
    stored i x0 x2 x3 v0 g kn (ix3 0 r l)
      = avg (headScore i x3 kn (k0_pay6 v0 (View.ld x0 (Rect.unit (s := S1x128x128) ![0, 0, 0] S1x128x128.size inb_S1x128x128_S1x128x128_0_0_0))
            (View.ld g (Rect.unit (s := S2x128) ![0, 0] S1x128.size inb_S2x128_S1x128_0_0))) ⟨l.val / 64, by omega⟩ r)
          (fun j => x2 (ix3 0 ⟨128 * (i 2).val + j.val, row_lt i j⟩ l)) := by
  unfold stored
  generalize k0_pay6 v0 (View.ld x0 (Rect.unit (s := S1x128x128) ![0, 0, 0] S1x128x128.size inb_S1x128x128_S1x128x128_0_0_0))
            (View.ld g (Rect.unit (s := S2x128) ![0, 0] S1x128.size inb_S2x128_S1x128_0_0)) = q
  rw [pay1_eq, pay9_eq]
  have h0 := soft_at (scores (BitVec.ofNat 32 (i 2).val) q k0_pay4 (View.ld kn (Rect.unit (s := S4608x128) (k0_off3 i) S640x128.size (k0_off3_inb i)))
    (View.ld x3 (Rect.unit (s := S2x128x640) ![0, 0, 0] S1x128x640.size inb_S2x128x640_S1x128x640_0_0_0))) k0_pay4
    (k0_pay7 (View.ld x2 (Rect.unit (s := S1x4608x128) (k0_off4 i) S1x640x128.size (k0_off4_inb i)))) r l
  have h1 := soft_at (scores (BitVec.ofNat 32 (i 2).val) q k0_pay5 (View.ld kn (Rect.unit (s := S4608x128) (k0_off3 i) S640x128.size (k0_off3_inb i)))
    (View.ld x3 (Rect.unit (s := S2x128x640) ![1, 0, 0] S1x128x640.size inb_S2x128x640_S1x128x640_1_0_0))) k0_pay5
    (k0_pay7 (View.ld x2 (Rect.unit (s := S1x4608x128) (k0_off4 i) S1x640x128.size (k0_off4_inb i)))) r l
  simp only [scores_head i x3 kn q k0_pay4 _ 0 first_at (ld_bias0 x3), ld_values] at h0
  simp only [scores_head i x3 kn q k0_pay5 _ 1 second_at (ld_bias1 x3), ld_values] at h1
  rw [first_at] at h0
  rw [second_at] at h1
  generalize soft _ k0_pay4 _ = A0 at h0 ⊢
  generalize soft _ k0_pay5 _ = A1 at h1 ⊢
  have e : (shapeCast S1x128x128 (truncf .bf16 (addf (addf (broadcast S128x128 (Scalar.ofBits .f32 0x00000000#32)) A0) A1) bitsLt_bf16_f32)
      shapeCasts_S128x128_S1x128x128 : FVec Ideal S1x128x128 .bf16) (ix3 0 r l) = (A0 (ix2 r l) + A1 (ix2 r l) : EReal) := by
    pointwise
  rw [e, h0, h1]
  have hl := l.isLt
  by_cases h : l.val / 64 = 0
  · have he : (⟨l.val / 64, by omega⟩ : Fin 2) = 0 := Fin.ext h
    rw [if_pos h, if_neg (by omega), he]
    simp only [mul_zero, mul_one]
    rw [avg_zero, add_zero]
  · have he : (⟨l.val / 64, by omega⟩ : Fin 2) = 1 := Fin.ext (by show l.val / 64 = 1; omega)
    rw [if_neg h, if_pos (by omega), he]
    simp only [mul_zero, mul_one]
    rw [avg_zero, zero_add]

/-- A row of the normalised keys. -/
theorem keys_at (x1 : Vec Ideal S1x4608x128 .bf16) (y : Fin 4608) (l : Fin 128) :
    keys v0 x1 g (ix2 y l)
      = Cert.Rope.norm2 (fun a b => v0 (ix2 a b)) (fun a => g (ix2 1 a)) (fun a => x1 (ix3 0 y a)) l := by
  refine (key_at v0 _ _ _ _).trans ?_
  refine congrArg (fun z => Cert.Rope.norm2 _ _ z l) (funext fun a => congrArg x1 (funext fun b => Fin.ext ?_))
  match b with
  | ⟨0, _⟩ => rfl
  | ⟨1, _⟩ => show 512 * (y.val / 512) + y.val % 512 = y.val; omega
  | ⟨2, _⟩ => rfl

end

end Cert.Band

end
-- ==== Proof.BandRef.lean ====
/-
  The banded attention's reference, entry by entry.
-/
module

public import proofs.«01_k».proof.Proof.BandMath
public import proofs.«01_k».proof.Proof.RopeMath
public import proofs.«01_k».proof.Proof.Gen.Reference6Ideal.Read
public import Idealize.ShloMosaic.Lib.Pointwise

@[expose] public section

set_option maxRecDepth 16384

noncomputable section

open Idealize.ShloMosaic
open Cert.Reference6Ideal Cert.Reference6Ideal.Gen Cert.Reference6Ideal.Read

namespace Cert.Band

variable (x0 : FVec Ideal S8x4608x3072 .bf16) (x1 x2 : FVec Ideal S64 .f32) (x3 : FVec Ideal S16x513 .f32)

/-- Columns `64 h` to `64 h + 63` of a part of a position's row. -/
def cols (part : Fin 3) (b : Fin 8) (p : Fin 4608) (h : Fin 16) (d : Fin 64) : EReal :=
  x0 (ix3 b p ⟨1024 * part.val + 64 * h.val + d.val, by omega⟩)

/-- A time, behind the 512 positions before the first. -/
def late (p : Fin 4096) : Fin 4608 := ⟨512 + p.val, by omega⟩

theorem v6_at (b : Fin 8) (p : Fin 4096) (h : Fin 16) (d : Fin 64) :
    val_main_v6 (F := Ideal) x0 (ix4 b p h d) = cols x0 0 b (late p) h d := by
  pointwise [val_main_v6, val_main_v3, val_main_v2, val_main_v1, val_main_v0, cols, late]
  refine congrArg (fun q => x0 (ix3 b ⟨512 + p.val, by omega⟩ q)) (Fin.ext ?_)
  show h.val * 64 + d.val = 64 * h.val + d.val
  omega

theorem v20_at (b : Fin 8) (p : Fin 4096) (h : Fin 16) (d : Fin 64) :
    val_main_v20 (F := Ideal) x0 (ix4 b p h d) = cols x0 1 b (late p) h d := by
  pointwise [val_main_v20, val_main_v4, val_main_v2, val_main_v1, val_main_v0, cols, late]
  refine congrArg (fun q => x0 (ix3 b ⟨512 + p.val, by omega⟩ q)) (Fin.ext ?_)
  show 1024 + h.val * 64 + d.val = 1024 * 1 + 64 * h.val + d.val
  omega

theorem v34_at (b : Fin 8) (p : Fin 4096) (h : Fin 16) (d : Fin 64) :
    val_main_v34 (F := Ideal) x0 (ix4 b p h d) = cols x0 2 b (late p) h d := by
  pointwise [val_main_v34, val_main_v5, val_main_v2, val_main_v1, val_main_v0, cols, late]
  refine congrArg (fun q => x0 (ix3 b ⟨512 + p.val, by omega⟩ q)) (Fin.ext ?_)
  show 2048 + h.val * 64 + d.val = 1024 * 2 + 64 * h.val + d.val
  omega

/-- Sixteen heads normalised. -/
def normHeads (Z : FVec Ideal S8x4096x16x64 .f32) (g : FVec Ideal S64 .f32) : FVec Ideal S8x4096x16x64 .f32 :=
  mulf (mulf Z (broadcastInDim S8x4096x16x64 ![0, 1, 2, 3] bcast_S8x4096x16x1_S8x4096x16x64_0_1_2_3
      (Host.rsqrt (addf (Host.divf (broadcastInDim S8x4096x16x1 ![0, 1, 2] bcast_S8x4096x16_S8x4096x16x1_0_1_2
        (Host.reduceAdd (mulf Z Z) (val_main_cst (F := Ideal)) reducesTo_S8x4096x16x64_S8x4096x16_d3 h_S_)) (val_main_v10 (F := Ideal)))
        (val_main_v12 (F := Ideal)))))) (val_main_v18 (F := Ideal) g)

theorem normHeads_at (Z : FVec Ideal S8x4096x16x64 .f32) (g : FVec Ideal S64 .f32) (b : Fin 8) (p : Fin 4096) (n : Fin 16) (i : Fin 64) :
    normHeads Z g (ix4 b p n i) = Cert.Rope.headNorm (fun j => Z (ix4 b p n j)) (fun j => g (ix1 j)) i := by
  unfold Cert.Rope.headNorm
  pointwise [normHeads, val_main_cst, val_main_v10, val_main_cst_0, val_main_v12, val_main_cst_1, val_main_v18, val_main_v17]

theorem v19_at (b : Fin 8) (p : Fin 4096) (h : Fin 16) (d : Fin 64) :
    val_main_v19 (F := Ideal) x0 x1 (ix4 b p h d) = Cert.Rope.headNorm (cols x0 0 b (late p) h) (fun j => x1 (ix1 j)) d :=
  (normHeads_at (val_main_v6 (F := Ideal) x0) x1 b p h d).trans
    (congrArg (fun u => Cert.Rope.headNorm u _ d) (funext fun j => v6_at x0 b p h j))

theorem v33_at (b : Fin 8) (p : Fin 4096) (h : Fin 16) (d : Fin 64) :
    val_main_v33 (F := Ideal) x0 x2 (ix4 b p h d) = Cert.Rope.headNorm (cols x0 1 b (late p) h) (fun j => x2 (ix1 j)) d :=
  (normHeads_at (val_main_v20 (F := Ideal) x0) x2 b p h d).trans
    (congrArg (fun u => Cert.Rope.headNorm u _ d) (funext fun j => v20_at x0 b p h j))

/-! ## The table's columns and the band -/

/-- The column of the table for two times that lie `x` apart. -/
def slot (x : BitVec 32) : BitVec 32 :=
  if IntOp.cmpi .slt (IntOp.addi (IntOp.minsi 256#32 (IntOp.maxsi 4294967040#32 x)) 256#32) 0#32 = 1#1
  then IntOp.addi (IntOp.addi (IntOp.minsi 256#32 (IntOp.maxsi 4294967040#32 x)) 256#32) 513#32
  else IntOp.addi (IntOp.minsi 256#32 (IntOp.maxsi 4294967040#32 x)) 256#32

/-- That column, cut to the table. -/
def slotAt (x : BitVec 32) : Fin 513 := ⟨min (slot x).toInt.toNat 512, by omega⟩

theorem v65_at (p s : Fin 4096) : val_main_v65 (F := Ideal) (ix2 p s) = slot (BitVec.ofNat 32 p.val - BitVec.ofNat 32 s.val) := by
  unfold slot
  pointwise [val_main_v65, val_main_v64, val_main_v63, val_main_v62, val_main_v61, val_main_v43, val_main_v42, val_main_v41, val_main_v40, val_main_v39, val_main_v38, val_main_v37, val_main_v36, val_main_v35, val_main_c, val_main_c_5, val_main_c_6, val_main_c_10, val_main_c_11, val_main_call0_v0, val_main_call0_v1, val_main_call0_v2, val_main_call0_v3, val_main_call0_v4]
  rfl

theorem v67_at (h : Fin 16) (p s : Fin 4096) :
    val_main_v67 (F := Ideal) x3 (ix3 h p s) = x3 (ix2 h (slotAt (BitVec.ofNat 32 p.val - BitVec.ofNat 32 s.val))) := by
  refine (takeCols_at (by decide) _ x3 (val_main_v66 (F := Ideal)) h p s).trans (congrArg (fun q => x3 (ix2 h q)) (Fin.ext ?_))
  have e : val_main_v66 (F := Ideal) (ix3 p s 0) = slot (BitVec.ofNat 32 p.val - BitVec.ofNat 32 s.val) := by
    rw [← v65_at]
    unfold val_main_v66
    generalize val_main_v65 (F := Ideal) = Y
    pointwise
  show min (val_main_v66 (F := Ideal) (ix3 p s 0)).toInt.toNat (513 - 1) = _
  rw [e]
  rfl

/-- The chunk of 64 of a time. -/
theorem v44_at (p : Fin 4096) : val_main_v44 (F := Ideal) (ix1 p) = BitVec.ofNat 32 (p.val / 64) := by
  pointwise [val_main_v44, val_main_v35, val_main_c_7, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13]
  revert p
  decide +kernel

theorem band_words : ∀ a c : Fin 64, IntOp.andi (IntOp.cmpi .sle (BitVec.ofNat 32 a.val) (BitVec.ofNat 32 c.val))
    (IntOp.cmpi .sge (BitVec.ofNat 32 a.val) (IntOp.subi (BitVec.ofNat 32 c.val) 8#32)) = if a.val ≤ c.val ∧ c.val ≤ a.val + 8 then 1#1 else 0#1 := by
  decide +kernel

theorem v57_at (p s : Fin 4096) :
    val_main_v57 (F := Ideal) (ix2 p s) = if s.val / 64 ≤ p.val / 64 ∧ p.val / 64 ≤ s.val / 64 + 8 then 1#1 else 0#1 := by
  have hp := v44_at p
  have hs := v44_at s
  refine Eq.trans ?_ (band_words ⟨s.val / 64, by omega⟩ ⟨p.val / 64, by omega⟩)
  unfold val_main_v57 val_main_v56 val_main_v55 val_main_v54 val_main_v53 val_main_v51 val_main_v50 val_main_v49 val_main_v48 val_main_v47 val_main_v46 val_main_v45
  generalize val_main_v44 (F := Ideal) = Y at hp hs ⊢
  pointwise [val_main_v52, val_main_c_8]
  rw [hp, hs]

/-! ## The scores -/

/-- A score: the product of the normalised heads scaled, and the table's entry; −∞ outside the band. -/
def score (b : Fin 8) (h : Fin 16) (p s : Fin 4096) : EReal :=
  if s.val / 64 ≤ p.val / 64 ∧ p.val / 64 ≤ s.val / 64 + 8 then
    (∑ d, Cert.Rope.headNorm (cols x0 0 b (late p) h) (fun j => x1 (ix1 j)) d * Cert.Rope.headNorm (cols x0 1 b (late s) h) (fun j => x2 (ix1 j)) d)
      * Ideal.ofBits FTy.f32 0x3E000000#32 + x3 (ix2 h (slotAt (BitVec.ofNat 32 p.val - BitVec.ofNat 32 s.val)))
  else ⊥

theorem v58_at (b : Fin 8) (h : Fin 16) (p s : Fin 4096) :
    val_main_v58 (F := Ideal) x0 x1 x2 (ix4 b h p s)
      = ∑ d, Cert.Rope.headNorm (cols x0 0 b (late p) h) (fun j => x1 (ix1 j)) d * Cert.Rope.headNorm (cols x0 1 b (late s) h) (fun j => x2 (ix1 j)) d := by
  rw [val_main_v58_apply]
  refine Finset.sum_congr rfl fun d _ => ?_
  rw [← v19_at, ← v33_at]
  refine congrArg₂ _ (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem v71_at (b : Fin 8) (h : Fin 16) (p s : Fin 4096) :
    val_main_v71 (F := Ideal) x0 x1 x2 x3 (ix4 b h p s) = score x0 x1 x2 x3 b h p s := by
  have h58 := v58_at x0 x1 x2 b h p s
  have h67 := v67_at x3 h p s
  have h57 := v57_at p s
  have hbot : Ideal.ofBits FTy.f32 0xFF800000#32 = ⊥ := ofBits_neg_inf
  unfold score
  rw [← h58, ← h67]
  unfold val_main_v71 val_main_v70 val_main_v69 val_main_v68 val_main_v60 val_main_call2_v1
  generalize val_main_v58 (F := Ideal) x0 x1 x2 = Y58
  generalize val_main_v67 (F := Ideal) x3 = Y67
  generalize val_main_v57 (F := Ideal) = Y57 at h57 ⊢
  pointwise [val_main_call2_v2, val_main_call2_v0, val_main_cst_12, val_main_v59, val_main_cst_9]
  rw [h57]
  by_cases hc : s.val / 64 ≤ p.val / 64 ∧ p.val / 64 ≤ s.val / 64 + 8
  · rw [if_pos hc, if_pos hc]
    rfl
  · rw [if_neg hc, if_neg hc]
    exact hbot

theorem v76_at (b : Fin 8) (h : Fin 16) (p s : Fin 4096) :
    val_main_v76 (F := Ideal) x0 x1 x2 x3 (ix4 b h p s)
      = Ideal.exp (score x0 x1 x2 x3 b h p s - top (fun s => score x0 x1 x2 x3 b h p s)) := by
  have hm : val_main_v72 (F := Ideal) x0 x1 x2 x3 (ix3 b h p) = top (fun s => score x0 x1 x2 x3 b h p s) :=
    (top_last (val_main_v71 (F := Ideal) x0 x1 x2 x3) (val_main_cst_13 (F := Ideal)) reducesTo_S8x16x4096x4096_S8x16x4096_d3 (by decide) h_S_ ofBits_neg_inf b h p).trans
      (congrArg top (funext fun s => v71_at x0 x1 x2 x3 b h p s))
  rw [← hm, ← v71_at]
  unfold val_main_v76 val_main_v75 val_main_v74 val_main_v73
  generalize val_main_v72 (F := Ideal) x0 x1 x2 x3 = M
  generalize val_main_v71 (F := Ideal) x0 x1 x2 x3 = Z
  pointwise

theorem v80_at (b : Fin 8) (h : Fin 16) (d : Fin 64) (p : Fin 4096) :
    val_main_v80 (F := Ideal) x0 x1 x2 x3 (ix4 b h d p)
      = ∑ s, Ideal.exp (score x0 x1 x2 x3 b h p s - top (fun s => score x0 x1 x2 x3 b h p s)) * cols x0 2 b (late s) h d := by
  rw [val_main_v80_apply]
  refine Finset.sum_congr rfl fun s _ => ?_
  rw [← v76_at, ← v34_at, mul_comm]
  refine congrArg₂ _ (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem v77_at (b : Fin 8) (h : Fin 16) (p : Fin 4096) :
    val_main_v77 (F := Ideal) x0 x1 x2 x3 (ix3 b h p)
      = ∑ s, Ideal.exp (score x0 x1 x2 x3 b h p s - top (fun s => score x0 x1 x2 x3 b h p s)) := by
  rw [val_main_v77_apply]
  have hz : (val_main_cst_14 (F := Ideal)) (Shape.Idx.first h_S_) = (0 : EReal) := by
    show Ideal.ofBits FTy.f32 0x00000000#32 = 0
    simp [Ideal.ofBits, Ideal.ieee]
  rw [hz, zero_add]
  refine Finset.sum_congr rfl fun s _ => ?_
  rw [← v76_at]
  refine congrArg _ (funext fun a => ?_)
  match a with
  | ⟨0, _⟩ => rfl
  | ⟨1, _⟩ => rfl
  | ⟨2, _⟩ => rfl
  | ⟨3, _⟩ => rfl

/-- An entry of the result: the average of the values weighted by the exponentials of the scores. -/
theorem ref_at (b : Fin 8) (p : Fin 4096) (f : Fin 1024) :
    val_main_v87 (F := Ideal) x0 x1 x2 x3 (ix3 b p f)
      = avg (fun s => score x0 x1 x2 x3 b ⟨f.val / 64, by omega⟩ p s)
          (fun s => cols x0 2 b (late s) ⟨f.val / 64, by omega⟩ ⟨f.val % 64, by omega⟩) := by
  have h80 := v80_at x0 x1 x2 x3 b ⟨f.val / 64, by omega⟩ ⟨f.val % 64, by omega⟩ p
  have h77 := v77_at x0 x1 x2 x3 b ⟨f.val / 64, by omega⟩ p
  unfold avg
  rw [← h80, ← h77]
  unfold val_main_v87 val_main_v86 val_main_v85 val_main_v84 val_main_v83 val_main_v81 val_main_v79 val_main_v78
  generalize val_main_v80 (F := Ideal) x0 x1 x2 x3 = Y80
  generalize val_main_v77 (F := Ideal) x0 x1 x2 x3 = Y77
  pointwise [val_main_v82, val_main_cst_15]

end Cert.Band

end
-- ==== Proof.BandTable.lean ====
/-
  The banded attention's bias: the table's entry at the distance of a query and a key, −∞ outside the band.
-/
module

public import proofs.«01_k».proof.Proof.BandRef
public import proofs.«01_k».proof.Proof.Gen.Kernel6Ideal.Launch
public import Idealize.ShloMosaic.Lib.Pointwise

@[expose] public section

set_option maxRecDepth 16384

noncomputable section

open Idealize.ShloMosaic Idealize.ShloMosaic.TcCoe
open Cert.Kernel6Ideal Cert.Kernel6Ideal.Gen

namespace Cert.Band

/-- The rows of a query block. -/
def rows : IVec S128x1 32 := broadcastInDim S128x1 ![0] bcast_S128_S128x1_0 (iotaInDim S128 32 0)

/-- The places of the keys a query block reads. -/
def places : IVec S1x640 32 := broadcastInDim S1x640 ![1] bcast_S640_S1x640_1 (iotaInDim S640 32 0)

/-- The chunk of 64 of each entry. -/
def chunk {s : Shape} (hb : S_.BroadcastsInDim s (![] : Fin 0 → Fin s.rank)) (x : IVec s 32) : IVec s 32 :=
  select (andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32)))
    (Host.divsi x (broadcastInDim s ![] hb (id (constantI S_ 32 64#32))))

theorem chunk_rows (r : Fin 128) : chunk bcast_S_S128x1 rows (ix2 r 0) = BitVec.ofNat 32 (r.val / 64) := by
  pointwise [chunk, rows]
  revert r
  decide +kernel

theorem chunk_places (j : Fin 640) : chunk bcast_S_S1x640 places (ix2 0 j) = BitVec.ofNat 32 (j.val / 64) := by
  pointwise [chunk, places]
  revert j
  decide +kernel

/-- Whether a key lies in the band of a query. -/
def band : IVec S128x640 1 :=
  andi (cmpi .sge (broadcastInDim S128x640 ![0, 1] bcast_S1x640_S128x640_0_1 (chunk bcast_S_S1x640 places))
      (broadcastInDim S128x640 ![0, 1] bcast_S128x1_S128x640_0_1 (chunk bcast_S_S128x1 rows)))
    (cmpi .sle (broadcastInDim S128x640 ![0, 1] bcast_S1x640_S128x640_0_1 (chunk bcast_S_S1x640 places))
      (broadcastInDim S128x640 ![0, 1] bcast_S128x1_S128x640_0_1
        (addi (chunk bcast_S_S128x1 rows) (broadcastInDim S128x1 ![] bcast_S_S128x1 (constantI S_ 32 8#32)))))

theorem tile_words : ∀ (a : Fin 10) (c : Fin 2), IntOp.andi (IntOp.cmpi .sge (BitVec.ofNat 32 a.val) (BitVec.ofNat 32 c.val))
    (IntOp.cmpi .sle (BitVec.ofNat 32 a.val) (IntOp.addi (BitVec.ofNat 32 c.val) 8#32)) = if c.val ≤ a.val ∧ a.val ≤ c.val + 8 then 1#1 else 0#1 := by
  decide +kernel

theorem band_at (r : Fin 128) (j : Fin 640) :
    band (ix2 r j) = if r.val / 64 ≤ j.val / 64 ∧ j.val / 64 ≤ r.val / 64 + 8 then 1#1 else 0#1 := by
  have hr := chunk_rows r
  have hj := chunk_places j
  refine Eq.trans ?_ (tile_words ⟨j.val / 64, by omega⟩ ⟨r.val / 64, by omega⟩)
  unfold band
  generalize chunk bcast_S_S128x1 rows = R at hr ⊢
  generalize chunk bcast_S_S1x640 places = P at hj ⊢
  pointwise
  rw [hr, hj]

/-- The distances, cut to the table, from its first column. -/
def apart : IVec S128x640 32 :=
  addi (minsi (broadcastInDim S128x640 ![] bcast_S_S128x640 (id (constantI S_ 32 256#32)))
      (maxsi (broadcastInDim S128x640 ![] bcast_S_S128x640 (id (constantI S_ 32 4294967040#32)))
        (addi (subi (broadcastInDim S128x640 ![0, 1] bcast_S128x1_S128x640_0_1 rows) (broadcastInDim S128x640 ![0, 1] bcast_S1x640_S128x640_0_1 places))
          (broadcastInDim S128x640 ![] bcast_S_S128x640 (constantI S_ 32 512#32)))))
    (broadcastInDim S128x640 ![] bcast_S_S128x640 (constantI S_ 32 256#32))

/-- The table's columns. -/
def columns : IVec S128x640 32 :=
  select (cmpi .slt apart (broadcastInDim S128x640 ![] bcast_S_S128x640 (constantI S_ 32 0#32)))
    (addi apart (broadcastInDim S128x640 ![] bcast_S_S128x640 (constantI S_ 32 513#32))) apart

theorem columns_at (r : Fin 128) (j : Fin 640) :
    columns (ix2 r j) = slot (BitVec.ofNat 32 r.val - BitVec.ofNat 32 j.val + 512#32) := by
  unfold slot
  pointwise [columns, apart, rows, places]
  rfl

/-- The columns, one to take at each place. -/
def taken : IVec S128x640x1 32 := broadcastInDim S128x640x1 ![0, 1] bcast_S128x640_S128x640x1_0_1 columns

theorem taken_word (r : Fin 128) (j : Fin 640) : taken (ix3 r j 0) = slot (BitVec.ofNat 32 r.val - BitVec.ofNat 32 j.val + 512#32) := by
  rw [← columns_at]
  unfold taken
  generalize columns = Y
  pointwise

/-- The bias of all heads. -/
def bias (T : FVec Ideal S16x513 .f32) : FVec Ideal S16x128x640 .f32 :=
  select (broadcastInDim S16x128x640 ![0, 1, 2] bcast_S1x128x640_S16x128x640_0_1_2
      (broadcastInDim S1x128x640 ![1, 2] bcast_S128x640_S1x128x640_1_2 band))
    (Host.gather gather_S16x513_S128x640x1_S16x128x640_0_1_n_n_1_2_161 T taken)
    (broadcastInDim S16x128x640 ![] bcast_S_S16x128x640 (id (constant S_ .f32 0xFF800000#32)))

theorem taken_at (T : FVec Ideal S16x513 .f32) (h : Fin 16) (r : Fin 128) (j : Fin 640) :
    Host.gather gather_S16x513_S128x640x1_S16x128x640_0_1_n_n_1_2_161 T taken (ix3 h r j)
      = T (ix2 h (slotAt (BitVec.ofNat 32 r.val - BitVec.ofNat 32 j.val + 512#32))) := by
  refine (takeCols_at (by decide) _ T taken h r j).trans (congrArg (fun q => T (ix2 h q)) (Fin.ext ?_))
  show min (taken (ix3 r j 0)).toInt.toNat (513 - 1) = _
  rw [taken_word]
  rfl

/-- An entry of the bias. -/
theorem bias_at (T : FVec Ideal S16x513 .f32) (h : Fin 16) (r : Fin 128) (j : Fin 640) :
    bias T (ix3 h r j) = if r.val / 64 ≤ j.val / 64 ∧ j.val / 64 ≤ r.val / 64 + 8
      then T (ix2 h (slotAt (BitVec.ofNat 32 r.val - BitVec.ofNat 32 j.val + 512#32))) else ⊥ := by
  have hb := band_at r j
  have ht := taken_at T h r j
  have hbot : Ideal.ofBits FTy.f32 0xFF800000#32 = ⊥ := ofBits_neg_inf
  rw [← ht]
  unfold bias
  generalize Host.gather gather_S16x513_S128x640x1_S16x128x640_0_1_n_n_1_2_161 T _ = G
  generalize band = B at hb ⊢
  pointwise
  rw [hb]
  by_cases hc : r.val / 64 ≤ j.val / 64 ∧ j.val / 64 ≤ r.val / 64 + 8
  · rw [if_pos hc, if_pos hc]
    rfl
  · rw [if_neg hc, if_neg hc]
    exact hbot

end Cert.Band

end
-- ==== Proof.BandValue.lean ====
/-
  The banded attention's result array is the reference's.
-/
module

public import proofs.«01_k».proof.Proof.BandFrame
public import proofs.«01_k».proof.Proof.BandTile
public import proofs.«01_k».proof.Proof.BandTable
public import proofs.«01_k».proof.Proof.RopeValue
public import proofs.«01_k».proof.Defs
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen

namespace Cert.Band

variable (m : (ℓ : Loc nD τ sig) → Buf (Elt Ideal) ℓ)

theorem widx0 : ∀ t : Fin cfg0.N, win0_0.index t = ![t.val / 256, t.val % 32 + 4, t.val / 32 % 8] := (by decide +kernel : ∀ t : Fin grid0.N, _)
theorem widx1 : ∀ t : Fin cfg0.N, win0_1.index t = ![t.val / 256, 0, 8 + t.val / 32 % 8] := (by decide +kernel : ∀ t : Fin grid0.N, _)
theorem widx2 : ∀ t : Fin cfg0.N, win0_2.index t = ![t.val / 256, 0, 16 + t.val / 32 % 8] := (by decide +kernel : ∀ t : Fin grid0.N, _)
theorem widx3 : ∀ t : Fin cfg0.N, win0_3.index t = ![t.val / 32 % 8, 0, 0] := (by decide +kernel : ∀ t : Fin grid0.N, _)
theorem widx4 : ∀ t : Fin cfg0.N, win0_4.index t = ![0, 0] := fun _ => rfl
theorem widx5 : ∀ t : Fin cfg0.N, win0_5.index t = ![0, 0] := fun _ => rfl
theorem widx6 : ∀ t : Fin cfg0.N, win0_6.index t = ![t.val / 256, t.val % 32, t.val / 32 % 8] := (by decide +kernel : ∀ t : Fin grid0.N, _)
theorem at2 : ∀ t : Fin cfg0.N, (grid0.coords t 2).val = t.val % 32 := (by decide +kernel : ∀ t : Fin grid0.N, _)

/-- The blocks of the result cover it. -/
theorem covers6 : (cfg0.win 6).Covers :=
  (cfg0.win 6).covers_of_indexMap_surj rfl (by decide) fun β =>
    ⟨fun a => match a with
      | ⟨0, _⟩ => (⟨(β 0).val, (β 0).isLt⟩ : Fin 8)
      | ⟨1, _⟩ => (⟨(β 2).val, (β 2).isLt⟩ : Fin 8)
      | ⟨2, _⟩ => (⟨(β 1).val, (β 1).isLt⟩ : Fin 32), fun a => by
      match a with
      | ⟨0, _⟩ =>
        show (BitVec.ofNat 32 (β 0).val).toNat = (β 0).val
        have h : (β 0).val < 8 := (β 0).isLt
        rw [BitVec.toNat_ofNat, Nat.mod_eq_of_lt (by omega)]
      | ⟨1, _⟩ =>
        show (BitVec.ofNat 32 (β 1).val).toNat = (β 1).val
        have h : (β 1).val < 32 := (β 1).isLt
        rw [BitVec.toNat_ofNat, Nat.mod_eq_of_lt (by omega)]
      | ⟨2, _⟩ =>
        show (BitVec.ofNat 32 (β 2).val).toNat = (β 2).val
        have h : (β 2).val < 8 := (β 2).isLt
        rw [BitVec.toNat_ofNat, Nat.mod_eq_of_lt (by omega)]⟩

section

variable (c : Dev nD) (t : Fin cfg0.N)

/-- The sequence of a point. -/
def seq : Fin 8 := ⟨t.val / 256, by have h : t.val < 2048 := t.isLt; omega⟩

/-- A head of a point's pair. -/
def head (e : Fin 2) : Fin 16 := ⟨2 * (t.val / 32 % 8) + e.val, by omega⟩

/-- The time of a row of a point's queries. -/
def time (r : Fin 128) : Fin 4096 := ⟨128 * (t.val % 32) + r.val, by omega⟩

/-- The head of a lane. -/
def side (l : Fin 128) : Fin 2 := ⟨l.val / 64, by omega⟩

theorem col_eq (t l : ℕ) : 128 * (t / 32 % 8) + l = 64 * (2 * (t / 32 % 8) + l / 64) + l % 64 := by omega

/-- The queries of a point. -/
theorem q_at (r l : Fin 128) :
    iblk m c 0 t (ix3 0 r l) = cols (m ((c : Thread nD τ).loc main_arg0)) 0 (seq t) (late (time t r)) (head t (side l)) (Cert.Rope.inner l) := by
  have e : iblk m c 0 t (ix3 0 r l)
      = (m ((c : Thread nD τ).loc main_arg0) : FVec Ideal S8x4608x3072 .bf16) (ix3 (seq t) (late (time t r)) ⟨128 * (t.val / 32 % 8) + l.val, by omega⟩) := by
    blk_ext [iblk, V, widx0 t, seq, time, late]
  refine e.trans (congrArg (fun q => (m ((c : Thread nD τ).loc main_arg0) : FVec Ideal S8x4608x3072 .bf16) (ix3 (seq t) (late (time t r)) q)) (Fin.ext ?_))
  show 128 * (t.val / 32 % 8) + l.val = 1024 * 0 + 64 * (2 * (t.val / 32 % 8) + l.val / 64) + l.val % 64
  omega

/-- The keys of a point, before the normalisation. -/
theorem k_at (y : Fin 4608) (l : Fin 128) :
    iblk m c 1 t (ix3 0 y l) = cols (m ((c : Thread nD τ).loc main_arg0)) 1 (seq t) y (head t (side l)) (Cert.Rope.inner l) := by
  have e : iblk m c 1 t (ix3 0 y l)
      = (m ((c : Thread nD τ).loc main_arg0) : FVec Ideal S8x4608x3072 .bf16) (ix3 (seq t) y ⟨1024 + 128 * (t.val / 32 % 8) + l.val, by omega⟩) := by
    blk_ext [iblk, V, widx1 t, seq]
  refine e.trans (congrArg (fun q => (m ((c : Thread nD τ).loc main_arg0) : FVec Ideal S8x4608x3072 .bf16) (ix3 (seq t) y q)) (Fin.ext ?_))
  show 1024 + 128 * (t.val / 32 % 8) + l.val = 1024 * 1 + 64 * (2 * (t.val / 32 % 8) + l.val / 64) + l.val % 64
  omega

/-- The values of a point. -/
theorem v_at (y : Fin 4608) (l : Fin 128) :
    iblk m c 2 t (ix3 0 y l) = cols (m ((c : Thread nD τ).loc main_arg0)) 2 (seq t) y (head t (side l)) (Cert.Rope.inner l) := by
  have e : iblk m c 2 t (ix3 0 y l)
      = (m ((c : Thread nD τ).loc main_arg0) : FVec Ideal S8x4608x3072 .bf16) (ix3 (seq t) y ⟨2048 + 128 * (t.val / 32 % 8) + l.val, by omega⟩) := by
    blk_ext [iblk, V, widx2 t, seq]
  refine e.trans (congrArg (fun q => (m ((c : Thread nD τ).loc main_arg0) : FVec Ideal S8x4608x3072 .bf16) (ix3 (seq t) y q)) (Fin.ext ?_))
  show 2048 + 128 * (t.val / 32 % 8) + l.val = 1024 * 2 + 64 * (2 * (t.val / 32 % 8) + l.val / 64) + l.val % 64
  omega

set_option maxHeartbeats 4000000 in
/-- The bias of a point's pair of heads. -/
theorem b_at (e : Fin 2) (r : Fin 128) (j : Fin 640) :
    iblk m c 3 t (ix3 e r j) = bias (m ((c : Thread nD τ).loc main_arg3)) (ix3 (head t e) r j) := by
  blk_simp [iblk, widx3 t, V]
  simp only [segs, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  show bias (m ((c : Thread nD τ).loc main_arg3)) (((View.whole main_v50).slice (win0_3.rect t)).emb (ix3 e r j)) = _
  blk_ext [widx3 t, head]

/-- The matrix that sums over each head. -/
theorem bd_at (k l : Fin 128) : iblk m c 4 t (ix2 k l) = Cert.Rope.sums (ix2 k l) := by
  blk_simp [iblk, widx4 t, V]
  simp only [segs, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  show Cert.Rope.sums (((View.whole main_v7).slice (win0_4.rect t)).emb (ix2 k l)) = _
  blk_ext [widx4 t]

/-- The scales of the heads' lanes. -/
theorem gain_at (i : Fin 2) (l : Fin 128) :
    iblk m c 5 t (ix2 i l) = Cert.Rope.gains (m ((c : Thread nD τ).loc main_arg1)) (m ((c : Thread nD τ).loc main_arg2)) (ix2 i l) := by
  blk_simp [iblk, widx5 t, V]
  simp only [segs, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  show Cert.Rope.gains (m ((c : Thread nD τ).loc main_arg1)) (m ((c : Thread nD τ).loc main_arg2)) (((View.whole main_v16).slice (win0_5.rect t)).emb (ix2 i l)) = _
  blk_ext [widx5 t]

end

end Cert.Band

end
-- ==== Proof.BandFinal.lean ====
/-
  The banded attention's result array is the reference's: what a point stores, entry by entry, and the whole array.
-/
module

public import proofs.«01_k».proof.Proof.BandValue

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen

namespace Cert.Band

variable (m : (ℓ : Loc nD τ sig) → Buf (Elt Ideal) ℓ)

/-- The lane of a head's dimension. -/
def lane (e : Fin 2) (d : Fin 64) : Fin 128 := ⟨64 * e.val + d.val, by omega⟩

theorem side_lane (e : Fin 2) (d : Fin 64) : side (lane e d) = e := Fin.ext (by show (64 * e.val + d.val) / 64 = e.val; omega)

theorem inner_lane (e : Fin 2) (d : Fin 64) : Cert.Rope.inner (lane e d) = d := Fin.ext (by show (64 * e.val + d.val) % 64 = d.val; omega)

/-- Lanes that hold two heads, the half of a lane: its head. -/
theorem half_side (z : Fin 128 → EReal) (w : Fin 2 → Fin 64 → EReal) (hz : ∀ l, z l = w (side l) (Cert.Rope.inner l)) (l : Fin 128) :
    Cert.Rope.half z l = w (side l) := funext fun i => by
  have e : Cert.Rope.half z l i = z (lane (side l) i) := rfl
  rw [e, hz, side_lane, inner_lane]

section

variable (c : Dev nD) (t : Fin cfg0.N)

/-- The normalised queries of a point, scaled. -/
theorem qn_at (r l : Fin 128) :
    k0_pay6 (iblk m c 4 t) (View.ld (iblk m c 0 t) (Rect.unit (s := S1x128x128) ![0, 0, 0] S1x128x128.size inb_S1x128x128_S1x128x128_0_0_0))
        (View.ld (iblk m c 5 t) (Rect.unit (s := S2x128) ![0, 0] S1x128.size inb_S2x128_S1x128_0_0)) (ix2 r l)
      = Cert.Rope.headNorm (cols (m ((c : Thread nD τ).loc main_arg0)) 0 (seq t) (late (time t r)) (head t (side l)))
          (fun j => (m ((c : Thread nD τ).loc main_arg1) : FVec Ideal S64 .f32) (ix1 j)) (Cert.Rope.inner l) * Ideal.ofBits FTy.f32 0x3E000000#32 := by
  refine (query_at _ _ _ r l).trans (congrArg (· * _) ?_)
  refine (Cert.Rope.norm2_eq _ _ (fun j => (m ((c : Thread nD τ).loc main_arg1) : FVec Ideal S64 .f32) (ix1 j)) _ (fun k l => ?_) (fun l => ?_) l).trans ?_
  · exact (bd_at m c t k l).trans (Cert.Rope.sums_at k l)
  · exact (ld_gain _ l).trans ((gain_at m c t 0 l).trans (Cert.Rope.gains_q _ _ l))
  · refine congrArg (fun u => Cert.Rope.headNorm u _ _) ?_
    exact half_side _ (fun e => cols (m ((c : Thread nD τ).loc main_arg0)) 0 (seq t) (late (time t r)) (head t e))
      (fun l => (ld_query _ r l).trans (q_at m c t r l)) l

/-- The normalised keys of a point. -/
theorem kn_at (y : Fin 4608) (l : Fin 128) :
    keysAt m c t (ix2 y l)
      = Cert.Rope.headNorm (cols (m ((c : Thread nD τ).loc main_arg0)) 1 (seq t) y (head t (side l)))
          (fun j => (m ((c : Thread nD τ).loc main_arg2) : FVec Ideal S64 .f32) (ix1 j)) (Cert.Rope.inner l) := by
  refine (keys_at _ _ _ y l).trans ?_
  refine (Cert.Rope.norm2_eq _ _ (fun j => (m ((c : Thread nD τ).loc main_arg2) : FVec Ideal S64 .f32) (ix1 j)) _ (fun k l => ?_) (fun l => ?_) l).trans ?_
  · exact (bd_at m c t k l).trans (Cert.Rope.sums_at k l)
  · exact (gain_at m c t 1 l).trans (Cert.Rope.gains_k _ _ l)
  · refine congrArg (fun u => Cert.Rope.headNorm u _ _) ?_
    exact half_side _ (fun e => cols (m ((c : Thread nD τ).loc main_arg0)) 1 (seq t) y (head t e)) (fun l => k_at m c t y l) l

theorem eighth : (0 : EReal) ≤ Ideal.ofBits FTy.f32 0x3E000000#32 ∧ Ideal.ofBits FTy.f32 0x3E000000#32 ≠ ⊤ := by
  have e : Ideal.ofBits FTy.f32 0x3E000000#32 = ((1 / 8 : ℝ) : EReal) := by
    simp [Ideal.ofBits, Ideal.ieee]
    rw [← EReal.coe_mul]
    norm_num
  rw [e]
  exact ⟨EReal.coe_nonneg.mpr (by norm_num), EReal.coe_ne_top _⟩

/-- A score of a point is the reference's, the key's time `s` being the place `j` of the window. -/
theorem score_eq (e : Fin 2) (r : Fin 128) (s : Fin 4096) (j : Fin 640) (h : s.val + 512 = 128 * (t.val % 32) + j.val) :
    score (m ((c : Thread nD τ).loc main_arg0)) (m ((c : Thread nD τ).loc main_arg1)) (m ((c : Thread nD τ).loc main_arg2)) (m ((c : Thread nD τ).loc main_arg3))
        (seq t) (head t e) (time t r) s
      = headScore (grid0.coords t) (iblk m c 3 t) (keysAt m c t)
          (k0_pay6 (iblk m c 4 t) (View.ld (iblk m c 0 t) (Rect.unit (s := S1x128x128) ![0, 0, 0] S1x128x128.size inb_S1x128x128_S1x128x128_0_0_0))
            (View.ld (iblk m c 5 t) (Rect.unit (s := S2x128) ![0, 0] S1x128.size inb_S2x128_S1x128_0_0))) e r j := by
  have ht := at2 t
  unfold headScore score
  rw [if_pos (show 512 ≤ 128 * (grid0.coords t 2).val + j.val by omega)]
  have hy : (⟨128 * (grid0.coords t 2).val + j.val, row_lt (grid0.coords t) j⟩ : Fin 4608) = late s :=
    Fin.ext (by show 128 * (grid0.coords t 2).val + j.val = 512 + s.val; omega)
  have hb : iblk m c 3 t (ix3 e r j)
      = if s.val / 64 ≤ (time t r).val / 64 ∧ (time t r).val / 64 ≤ s.val / 64 + 8 then
          ((m ((c : Thread nD τ).loc main_arg3) : FVec Ideal S16x513 .f32) (ix2 (head t e) (slotAt (BitVec.ofNat 32 (time t r).val - BitVec.ofNat 32 s.val))) : EReal) else (⊥ : EReal) := by
    rw [b_at m c t e r j, bias_at]
    have hp : (time t r).val = 128 * (t.val % 32) + r.val := rfl
    have hw : BitVec.ofNat 32 r.val - BitVec.ofNat 32 j.val + 512#32 = BitVec.ofNat 32 (time t r).val - BitVec.ofNat 32 s.val := by
      rw [hp]
      apply BitVec.eq_of_toNat_eq
      simp only [BitVec.toNat_add, BitVec.toNat_sub, BitVec.toNat_ofNat]
      omega
    rw [hw]
    refine if_congr ?_ rfl rfl
    rw [hp]
    omega
  have hs : ∑ d : Fin 64, k0_pay6 (iblk m c 4 t) (View.ld (iblk m c 0 t) (Rect.unit (s := S1x128x128) ![0, 0, 0] S1x128x128.size inb_S1x128x128_S1x128x128_0_0_0))
            (View.ld (iblk m c 5 t) (Rect.unit (s := S2x128) ![0, 0] S1x128.size inb_S2x128_S1x128_0_0)) (ix2 r (lane e d))
          * keysAt m c t (ix2 (late s) (lane e d))
      = (∑ d, Cert.Rope.headNorm (cols (m ((c : Thread nD τ).loc main_arg0)) 0 (seq t) (late (time t r)) (head t e)) (fun j => (m ((c : Thread nD τ).loc main_arg1) : FVec Ideal S64 .f32) (ix1 j)) d
            * Cert.Rope.headNorm (cols (m ((c : Thread nD τ).loc main_arg0)) 1 (seq t) (late s) (head t e)) (fun j => (m ((c : Thread nD τ).loc main_arg2) : FVec Ideal S64 .f32) (ix1 j)) d)
          * Ideal.ofBits FTy.f32 0x3E000000#32 := by
    rw [mul_comm (G := EReal), ← sum_scale _ _ eighth.1 eighth.2]
    refine Finset.sum_congr rfl fun d _ => ?_
    rw [qn_at m c t r (lane e d), kn_at m c t (late s) (lane e d), side_lane, inner_lane, mul_right_comm, mul_comm]
  rw [hb, hy]
  refine Eq.trans ?_ (congrArg (fun z : EReal => z + _) hs.symm)
  by_cases hc : s.val / 64 ≤ (time t r).val / 64 ∧ (time t r).val / 64 ≤ s.val / 64 + 8
  · rw [if_pos hc, if_pos hc]
  · rw [if_neg hc, if_neg hc, EReal.add_bot]

/-- The column of a lane of a point's pair of heads. -/
def place (l : Fin 128) : Fin 1024 := ⟨128 * (t.val / 32 % 8) + l.val, by omega⟩

/-- What a point stores, at a row and lane: the reference's result there. -/
theorem block_at (r l : Fin 128) :
    storedAt m c t (ix3 0 r l)
      = Cert.Reference6Ideal.Read.val_main_v87 (F := Ideal) (m ((c : Thread nD τ).loc main_arg0)) (m ((c : Thread nD τ).loc main_arg1)) (m ((c : Thread nD τ).loc main_arg2)) (m ((c : Thread nD τ).loc main_arg3))
          (ix3 (seq t) (time t r) (place t l)) := by
  have ht := at2 t
  have hh : (⟨(place t l).val / 64, by omega⟩ : Fin 16) = head t (side l) :=
    Fin.ext (by show (128 * (t.val / 32 % 8) + l.val) / 64 = 2 * (t.val / 32 % 8) + l.val / 64; omega)
  have hd : (⟨(place t l).val % 64, by omega⟩ : Fin 64) = Cert.Rope.inner l :=
    Fin.ext (by show (128 * (t.val / 32 % 8) + l.val) % 64 = l.val % 64; omega)
  rw [ref_at, hh, hd]
  refine (stored_at (grid0.coords t) _ _ _ _ _ _ r l).trans (Eq.symm ?_)
  refine avg_window (128 * (t.val % 32)) 512 _ _ _ _ (by omega) (fun s j h => score_eq m c t (side l) r s j h) (fun s j h => ?_) (fun s h => ?_) (fun j h => ?_)
  · refine Eq.symm ((v_at m c t _ l).trans (congrArg (fun y => cols _ 2 _ y _ _) (Fin.ext ?_)))
    show 128 * (grid0.coords t 2).val + j.val = 512 + s.val
    omega
  · have hp : (time t r).val = 128 * (t.val % 32) + r.val := rfl
    unfold score
    rw [if_neg (by rw [hp]; omega)]
  · unfold headScore
    rw [if_neg (by omega)]

end

/-- The result array of the kernel is the reference's. -/
theorem final (c : Dev nD) :
    (dats m 0 c).arrAt 6 cfg0.N
      = Cert.Reference6Ideal.Read.val_main_v87 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ covers6 fun t hf y => ?_
  obtain ⟨k, r, l, rfl⟩ : ∃ (k : Fin 1) (r : Fin 128) (l : Fin 128), y = ix3 k r l := ⟨y 0, y 1, y 2, funext fun a => by
    match a with
    | ⟨0, _⟩ => rfl
    | ⟨1, _⟩ => rfl
    | ⟨2, _⟩ => rfl⟩
  obtain rfl : k = 0 := Subsingleton.elim _ _
  have h0 : (dats m 0 c).after 6 t (ix3 0 r l) = storedAt m c t (ix3 0 r l) := by rw [after_out]
  blk_simp
  refine (h0.trans (block_at m c t r l)).trans ?_
  blk_ext [widx6 t, seq, time, place]

end Cert.Band

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference3Ideal
public import proofs.«01_k».proof.Proof.Gen.Reference4Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.StickValue
public import proofs.«01_k».proof.Proof.MlpValue
public import proofs.«01_k».proof.Proof.ProjValue
public import proofs.«01_k».proof.Proof.PadValue
public import proofs.«01_k».proof.Proof.RopeValue
public import proofs.«01_k».proof.Proof.BandBitsFrame
public import proofs.«01_k».proof.Proof.BandFinal
public import Idealize.ShloMosaic.Adequacy
public import Idealize.ShloMosaic.Init

@[expose] public section

noncomputable section

namespace Cert.Proof

open Idealize.ShloMosaic Idealize.SL.Sem Cert.Kernel

/-- The shape facts the precondition's printing takes. -/
theorem pre_facts : Cert.Pre_finite.Facts where
  slices_S8x4096x3072_S8x4096x2048_0_0_0 := by decide
  bitsLt_bf16_f32 := by decide
  bcast_S_S8x4096x2048 := by decide

/-- The first reference runs, keeps its argument, and its counters (it has none) end at zero. -/
theorem frame_ri [Cert.Pre_finite.Facts] : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- The second reference runs, keeps its arguments, and its counters (it has none) end at zero. -/
theorem frame_ri2 : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

/-- The third reference runs, keeps its arguments, and its counters (it has none) end at zero. -/
theorem frame_ri3 : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The fourth reference runs, keeps its arguments, and its counters (it has none) end at zero. -/
theorem frame_ri4 : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

/-- The fifth reference runs, keeps its arguments, and its counters (it has none) end at zero. -/
theorem frame_ri5 : Cert.quiescent_Reference5Ideal (hReference5Ideal := Cert.Reference5Ideal.Gen.facts) := fun m ρ _ =>
  (θ_run _ _ _).mono (fun r h => ⟨fun c => (h c).2.2, sem_eq_zero_of_no_sems (by decide) r.2⟩)
    (Cert.Reference5Ideal.Value.run (F := Ideal) m ρ)

/-- The sixth reference runs, keeps its arguments, and its counters (it has none) end at zero. -/
theorem frame_ri6 : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, pre_facts, by
  letI := pre_facts
  letI := Cert.KernelIdeal.Gen.facts
  letI := Cert.ReferenceIdeal.Gen.facts
  refine ⟨fun m ρ _ => Cert.Kernel.Gen.frame m ρ, fun m ρ _ => Cert.KernelIdeal.Gen.frame m ρ, frame_ri,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.BandBits.frame (F := Bits) m ρ, fun m ρ _ => Cert.Band.frame (F := Ideal) m ρ, frame_ri6,
    trivial, ?_, trivial, ?_, trivial, ?_, trivial, ?_, trivial, ?_,
    IdealRules.named_const.statement Cert.Kernel6Ideal.κ "mask" .f32 0xF149F2CA#32 ⊥ rfl, ?_⟩
  · intro m g m' g' hpre hin
    refine ⟨fun c => Cert.ReferenceIdeal.Read.val_main_v31 (F := Ideal) (m (c.tc.loc Cert.KernelIdeal.main_arg0)), ?_, ?_⟩
    · refine (θ_run _ _ _).mono (fun r h c => ⟨(h c).1.trans ?_, (h c).2⟩) (Cert.KernelIdeal.Value.run_blocks m g)
      exact Cert.Stick.final m c (Cert.Stick.fin_of_pre _ (hpre c))
    · refine (θ_run _ _ _).mono (fun r h c => ⟨(h c).1.trans ?_, (h c).2⟩) (Cert.ReferenceIdeal.Value.run m' g')
      rw [Cert.ReferenceIdeal.Read.val_main_v31_eq, hin c]
  · intro m g m' g' _ hin
    refine ⟨fun c => Cert.Reference2Ideal.Read.val_main_v51 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) (m (c.tc.loc Cert.Kernel2Ideal.main_arg7)), ?_, ?_⟩
    · refine (θ_run _ _ _).mono (fun r h c => ⟨(h c).1.trans ?_, (h c).2⟩) (Cert.Kernel2Ideal.Value.run_blocks m g)
      exact Cert.Mlp.final m c
    · refine (θ_run _ _ _).mono (fun r h c => ⟨(h c).1.trans ?_, (h c).2⟩) (Cert.Reference2Ideal.Value.run m' g')
      rw [Cert.Reference2Ideal.Read.val_main_v51_eq]
      obtain ⟨h0, h1, h2, h3, h4, h5, h6, h7⟩ := hin c
      rw [h0, h1, h2, h3, h4, h5, h6, h7]
  · intro m g m' g' _ hin
    refine ⟨fun c => Cert.Reference3Ideal.Read.val_main_v20 (F := Ideal) (m (c.tc.loc Cert.Kernel3Ideal.main_arg0)) (m (c.tc.loc Cert.Kernel3Ideal.main_arg1)) (m (c.tc.loc Cert.Kernel3Ideal.main_arg2)), ?_, ?_⟩
    · refine (θ_run _ _ _).mono (fun r h c => ⟨(h c).1.trans ?_, (h c).2⟩) (Cert.Kernel3Ideal.Value.run_blocks m g)
      exact Cert.Proj.final m c
    · refine (θ_run _ _ _).mono (fun r h c => ⟨(h c).1.trans ?_, (h c).2⟩) (Cert.Reference3Ideal.Value.run m' g')
      rw [Cert.Reference3Ideal.Read.val_main_v20_eq]
      obtain ⟨h0, h1, h2⟩ := hin c
      rw [h0, h1, h2]
  · intro m g m' g' _ hin
    refine ⟨fun c => Cert.Reference4Ideal.Read.val_main_v15 (F := Ideal) (m (c.tc.loc Cert.Kernel4Ideal.main_arg0)) (m (c.tc.loc Cert.Kernel4Ideal.main_arg1)) (m (c.tc.loc Cert.Kernel4Ideal.main_arg2)), ?_, ?_⟩
    · refine (θ_run _ _ _).mono (fun r h c => ⟨(h c).1.trans ?_, (h c).2⟩) (Cert.Kernel4Ideal.Value.run_blocks m g)
      exact Cert.Pad.final m c
    · refine (θ_run _ _ _).mono (fun r h c => ⟨(h c).1.trans ?_, (h c).2⟩) (Cert.Reference4Ideal.Value.run m' g')
      rw [Cert.Reference4Ideal.Read.val_main_v15_eq]
      obtain ⟨h0, h1, h2⟩ := hin c
      rw [h0, h1, h2]
  · intro m g m' g' _ hin
    refine ⟨fun c => Cert.Reference5Ideal.Read.val_main_v148 (F := Ideal) (m (c.tc.loc Cert.Kernel5Ideal.main_arg0)) (m (c.tc.loc Cert.Kernel5Ideal.main_arg1)) (m (c.tc.loc Cert.Kernel5Ideal.main_arg2)) (m (c.tc.loc Cert.Kernel5Ideal.main_arg3)) (m (c.tc.loc Cert.Kernel5Ideal.main_arg4)),
      fun c => Cert.Reference5Ideal.Read.val_main_v149 (F := Ideal) (m (c.tc.loc Cert.Kernel5Ideal.main_arg0)) (m (c.tc.loc Cert.Kernel5Ideal.main_arg1)) (m (c.tc.loc Cert.Kernel5Ideal.main_arg2)), ?_, ?_⟩
    · refine (θ_run _ _ _).mono (fun r h c => ⟨(h c).1.trans ?_, (h c).2.1.trans ?_, (h c).2.2⟩) (Cert.Kernel5Ideal.Value.run_blocks m g)
      · exact Cert.Rope.final m c
      · exact Cert.Rope.final_tail m c
    · refine (θ_run _ _ _).mono (fun r h c => ⟨(h c).1.trans ?_, (h c).2.1.trans ?_, (h c).2.2⟩) (Cert.Reference5Ideal.Value.run m' g')
      · rw [Cert.Reference5Ideal.Read.val_main_v148_eq]
        obtain ⟨h0, h1, h2, h3, h4⟩ := hin c
        rw [h0, h1, h2, h3, h4]
      · rw [Cert.Reference5Ideal.Read.val_main_v149_eq]
        obtain ⟨h0, h1, h2, h3, h4⟩ := hin c
        rw [h0, h1, h2]
  · intro m g m' g' _ hin
    refine ⟨fun c => Cert.Reference6Ideal.Read.val_main_v87 (F := Ideal) (m (c.tc.loc Cert.Kernel6Ideal.main_arg0)) (m (c.tc.loc Cert.Kernel6Ideal.main_arg1)) (m (c.tc.loc Cert.Kernel6Ideal.main_arg2)) (m (c.tc.loc Cert.Kernel6Ideal.main_arg3)), ?_, ?_⟩
    · refine (θ_run _ _ _).mono (fun r h c => ⟨(h.1 c).1.trans ?_, (h.1 c).2⟩) (Cert.Band.run (F := Ideal) m g)
      exact Cert.Band.final m c
    · refine (θ_run _ _ _).mono (fun r h c => ⟨(h c).1.trans ?_, (h c).2⟩) (Cert.Reference6Ideal.Value.run m' g')
      rw [Cert.Reference6Ideal.Read.val_main_v87_eq]
      obtain ⟨h0, h1, h2, h3⟩ := hin c
      rw [h0, h1, h2, h3]⟩

end Cert.Proof

end
